-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_experts : Cert.Pre_experts.Facts] (m : (ℓ : Loc Cert.Kernel5.nD Cert.Kernel5.τ Cert.Kernel5.sig) → Buf (Elt Bits) ℓ) : Prop :=
  ∀ c : Dev Cert.Kernel5.nD,
    (Cert.Pre_experts.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_experts : Cert.Pre_experts.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts [hPre_experts : Cert.Pre_experts.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] [hPre_experts : Cert.Pre_experts.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_experts : Cert.Pre_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_experts [hReference5Ideal : Cert.Reference5Ideal.Facts] [hPre_experts : Cert.Pre_experts.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] [hPre_experts : Cert.Pre_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v176) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_experts := hPre_experts)
    ∧ quiescent_Kernel5Ideal (hKernel5Ideal := hKernel5Ideal) (hPre_experts := hPre_experts)
    ∧ quiescent_Reference5Ideal (hReference5Ideal := hReference5Ideal)
    ∧ quiescent_Reference5Ideal_pre_experts (hReference5Ideal := hReference5Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_experts := hPre_experts)
-- ==== Pre_experts.lean ====
abbrev S86016x1024 : Shape := ⟨2, ![86016, 1024]⟩
abbrev S168 : Shape := ⟨1, ![168]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel

variable [Facts]

def fn {F : FTy → Type} [FloatOps F] (main_arg0 : FVec F S86016x1024 .f32) (main_arg1 : IVec S168 32) (main_arg2 : IVec S168 32) (main_arg3 : FVec F S8x1024x1408 .f32) (main_arg4 : FVec F S8x1024x1408 .f32) (main_arg5 : FVec F S8x1408x1024 .f32) : IVec S_ 1 :=
  let main_c : IVec S_ 32 := constantI S_ 32 0#32
  let main_v0 : IVec S168 32 := broadcastInDim S168 ![] bcast_S_S168 main_c
  let main_v1 : IVec S168 1 := cmpi .sge main_arg1 main_v0
  let main_c_0 : IVec S_ 32 := constantI S_ 32 8#32
  let main_v2 : IVec S168 32 := broadcastInDim S168 ![] bcast_S_S168 main_c_0
  let main_v3 : IVec S168 1 := cmpi .slt main_arg1 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_c_2 : IVec S_ 32 := constantI S_ 32 0#32
  let main_v6 : IVec S168 32 := broadcastInDim S168 ![] bcast_S_S168 main_c_2
  let main_v7 : IVec S168 1 := cmpi .sge main_arg2 main_v6
  let main_c_3 : IVec S_ 1 := constantI S_ 1 1#1
  let main_v8 : IVec S_ 1 := (fun x v => Host.reduce IntOp.andi x v reducesTo_S168_S_d0 h_S_) main_v7 main_c_3
  let main_v9 : IVec S_ 1 := andi main_v5 main_v8
  main_v9
-- ==== Pre_finite.lean ====
abbrev S40960x8x96 : Shape := ⟨3, ![40960, 8, 96]⟩
abbrev S40960x8x64 : Shape := ⟨3, ![40960, 8, 64]⟩
abbrev S8x256x8x96 : Shape := ⟨4, ![8, 256, 8, 96]⟩
abbrev S8x256x8x64 : Shape := ⟨4, ![8, 256, 8, 64]⟩
abbrev S_ : Shape := ⟨0, ![]⟩

class Facts : Prop where
  bcast_S_S40960x8x96 : S_.BroadcastsInDim S40960x8x96 (![] : Fin 0 → Fin S40960x8x96.rank)
  reducesTo_S40960x8x96_S_d0_1_2 : S40960x8x96.ReducesTo [0, 1, 2] S_
  h_S_ : 0 < S_.numel
  bcast_S_S8x256x8x96 : S_.BroadcastsInDim S8x256x8x96 (![] : Fin 0 → Fin S8x256x8x96.rank)
  reducesTo_S8x256x8x96_S_d0_1_2_3 : S8x256x8x96.ReducesTo [0, 1, 2, 3] S_

variable [Facts]

def fn {F : FTy → Type} [FloatOps F] (main_arg0 : FVec F S40960x8x96 .f32) (main_arg1 : FVec F S40960x8x96 .f32) (main_arg2 : FVec F S40960x8x64 .f32) (main_arg3 : FVec F S8x256x8x96 .f32) (main_arg4 : FVec F S8x256x8x64 .f32) : IVec S_ 1 :=
  let main_v0 : FVec F S40960x8x96 .f32 := Host.absf main_arg0
  let main_cst : FVec F S_ .f32 := constant S_ .f32 0x7F800000#32
  let main_v1 : FVec F S40960x8x96 .f32 := broadcastInDim S40960x8x96 ![] bcast_S_S40960x8x96 main_cst
  let main_v2 : IVec S40960x8x96 1 := cmpf .olt main_v0 main_v1
  let main_c : IVec S_ 1 := constantI S_ 1 1#1
  let main_v3 : IVec S_ 1 := (fun x v => Host.reduce IntOp.andi x v reducesTo_S40960x8x96_S_d0_1_2 h_S_) main_v2 main_c
  let main_v4 : FVec F S40960x8x96 .f32 := Host.absf main_arg1
  let main_cst_0 : FVec F S_ .f32 := constant S_ .f32 0x7F800000#32
  let main_v5 : FVec F S40960x8x96 .f32 := broadcastInDim S40960x8x96 ![] bcast_S_S40960x8x96 main_cst_0
  let main_v6 : IVec S40960x8x96 1 := cmpf .olt main_v4 main_v5
  let main_c_1 : IVec S_ 1 := constantI S_ 1 1#1
  let main_v7 : IVec S_ 1 := (fun x v => Host.reduce IntOp.andi x v reducesTo_S40960x8x96_S_d0_1_2 h_S_) main_v6 main_c_1
  let main_v8 : IVec S_ 1 := andi main_v3 main_v7
  let main_v9 : FVec F S8x256x8x96 .f32 := Host.absf main_arg3
  let main_cst_2 : FVec F S_ .f32 := constant S_ .f32 0x7F800000#32
  let main_v10 : FVec F S8x256x8x96 .f32 := broadcastInDim S8x256x8x96 ![] bcast_S_S8x256x8x96 main_cst_2
  let main_v11 : IVec S8x256x8x96 1 := cmpf .olt main_v9 main_v10
  let main_c_3 : IVec S_ 1 := constantI S_ 1 1#1
  let main_v12 : IVec S_ 1 := (fun x v => Host.reduce IntOp.andi x v reducesTo_S8x256x8x96_S_d0_1_2_3 h_S_) main_v11 main_c_3
  let main_v13 : IVec S_ 1 := andi main_v8 main_v12
  main_v13
-- ==== Kernel.lean ====
abbrev S40960x8x96 : Shape := ⟨3, ![40960, 8, 96]⟩
abbrev S40960x8x64 : Shape := ⟨3, ![40960, 8, 64]⟩
abbrev S8x256x8x96 : Shape := ⟨4, ![8, 256, 8, 96]⟩
abbrev S8x256x8x64 : Shape := ⟨4, ![8, 256, 8, 64]⟩
abbrev S_ : Shape := ⟨0, ![]⟩
abbrev S40960x8x128 : Shape := ⟨3, ![40960, 8, 128]⟩
abbrev S40960x1024 : Shape := ⟨2, ![40960, 1024]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S2048x8x96 : Shape := ⟨3, ![2048, 8, 96]⟩
abbrev S2048x8x128 : Shape := ⟨3, ![2048, 8, 128]⟩
abbrev S2048x1024 : Shape := ⟨2, ![2048, 1024]⟩
abbrev S2048x8x64 : Shape := ⟨3, ![2048, 8, 64]⟩
abbrev S32768x512 : Shape := ⟨2, ![32768, 512]⟩
abbrev S1024x256 : Shape := ⟨2, ![1024, 256]⟩
abbrev S4096x256 : Shape := ⟨2, ![4096, 256]⟩
abbrev S256x256 : Shape := ⟨2, ![256, 256]⟩
abbrev S1024x128 : Shape := ⟨2, ![1024, 128]⟩
abbrev S1024x1 : Shape := ⟨2, ![1024, 1]⟩
abbrev S256x128 : Shape := ⟨2, ![256, 128]⟩
abbrev S2048x128 : Shape := ⟨2, ![2048, 128]⟩
abbrev S1024x2048 : Shape := ⟨2, ![1024, 2048]⟩
abbrev S1024x64 : Shape := ⟨2, ![1024, 64]⟩

abbrev nBuf : Space → Nat
  | .hbm => 62
  | .vmem => 12
  | .smem => 0
  | _ => 0

abbrev bufTy : (tb : Table) → Fin (tcTables nBuf tb) → BufTy
  | .hbm, ⟨0, _⟩ => ⟨S40960x8x96, .f32⟩
  | .hbm, ⟨1, _⟩ => ⟨S40960x8x96, .f32⟩
  | .hbm, ⟨2, _⟩ => ⟨S40960x8x64, .f32⟩
  | .hbm, ⟨3, _⟩ => ⟨S8x256x8x96, .f32⟩
  | .hbm, ⟨4, _⟩ => ⟨S8x256x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S40960x8x96, .f32⟩
  | .hbm, ⟨11, _⟩ => ⟨S40960x8x96, .f32⟩
  | .hbm, ⟨12, _⟩ => ⟨S_, .i32⟩
  | .hbm, ⟨13, _⟩ => ⟨S_, .f32⟩
  | .hbm, ⟨14, _⟩ => ⟨S40960x8x128, .f32⟩
  | .hbm, ⟨15, _⟩ => ⟨S40960x1024, .f32⟩
  | .hbm, ⟨16, _⟩ => ⟨S40960x1024, .bf16⟩
  | .hbm, ⟨17, _⟩ => ⟨S_, .i32⟩
  | .hbm, ⟨18, _⟩ => ⟨S_, .f32⟩
  | .hbm, ⟨19, _⟩ => ⟨S40960x8x128, .f32⟩
  | .hbm, ⟨20, _⟩ => ⟨S40960x1024, .f32⟩
  | .hbm, ⟨21, _⟩ => ⟨S40960x1024, .bf16⟩
  | .hbm, ⟨22, _⟩ => ⟨S_, .i32⟩
  | .hbm, ⟨23, _⟩ => ⟨S_, .f32⟩
  | .hbm, ⟨24, _⟩ => ⟨S40960x8x128, .f32⟩
  | .hbm, ⟨25, _⟩ => ⟨S40960x1024, .f32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .f32⟩
  | .hbm, ⟨31, _⟩ => ⟨S1x128, .f32⟩
  | .hbm, ⟨32, _⟩ => ⟨S8x128, .f32⟩
  | .hbm, ⟨33, _⟩ => ⟨S1024, .f32⟩
  | .hbm, ⟨34, _⟩ => ⟨S1x1024, .f32⟩
  | .hbm, ⟨35, _⟩ => ⟨S40960x1024, .f32⟩
  | .hbm, ⟨36, _⟩ => ⟨S40960x1024, .f32⟩
  | .hbm, ⟨37, _⟩ => ⟨S40960x1024, .bf16⟩
  | .hbm, ⟨38, _⟩ => ⟨S2048x8x96, .f32⟩
  | .hbm, ⟨39, _⟩ => ⟨S_, .i32⟩
  | .hbm, ⟨40, _⟩ => ⟨S_, .f32⟩
  | .hbm, ⟨41, _⟩ => ⟨S2048x8x128, .f32⟩
  | .hbm, ⟨42, _⟩ => ⟨S2048x1024, .f32⟩
  | .hbm, ⟨43, _⟩ => ⟨S2048x1024, .bf16⟩
  | .hbm, ⟨44, _⟩ => ⟨S2048x8x64, .f32⟩
  | .hbm, ⟨45, _⟩ => ⟨S_, .i32⟩
  | .hbm, ⟨46, _⟩ => ⟨S_, .f32⟩
  | .hbm, ⟨47, _⟩ => ⟨S2048x8x128, .f32⟩
  | .hbm, ⟨48, _⟩ => ⟨S2048x1024, .f32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S128, .f32⟩
  | .hbm, ⟨54, _⟩ => ⟨S1x128, .f32⟩
  | .hbm, ⟨55, _⟩ => ⟨S8x128, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S32768x512, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1024x128, .bf16⟩
  | .local _ .vmem, ⟨11, _⟩ => ⟨S1024x128, .bf16⟩
  | _, _ => ⟨S40960x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_call3_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S40960x8x96 : Shape := ⟨3, ![40960, 8, 96]⟩
abbrev S40960x8x64 : Shape := ⟨3, ![40960, 8, 64]⟩
abbrev S8x256x8x96 : Shape := ⟨4, ![8, 256, 8, 96]⟩
abbrev S8x256x8x64 : Shape := ⟨4, ![8, 256, 8, 64]⟩
abbrev S32768x8x96 : Shape := ⟨3, ![32768, 8, 96]⟩
abbrev S8x4096x8x96 : Shape := ⟨4, ![8, 4096, 8, 96]⟩
abbrev S32768x8x64 : Shape := ⟨3, ![32768, 8, 64]⟩
abbrev S8x4096x8x64 : Shape := ⟨4, ![8, 4096, 8, 64]⟩
abbrev S8x4352x8x96 : Shape := ⟨4, ![8, 4352, 8, 96]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 35
  | .vmem => 0
  | .smem => 0
  | _ => 0

abbrev bufTy : (tb : Table) → Fin (tcTables nBuf tb) → BufTy
  | .hbm, ⟨0, _⟩ => ⟨S40960x8x96, .f32⟩
  | .hbm, ⟨1, _⟩ => ⟨S40960x8x96, .f32⟩
  | .hbm, ⟨2, _⟩ => ⟨S40960x8x64, .f32⟩
  | .hbm, ⟨3, _⟩ => ⟨S8x256x8x96, .f32⟩
  | .hbm, ⟨4, _⟩ => ⟨S8x256x8x64, .f32⟩
  | .hbm, ⟨5, _⟩ => ⟨S32768x8x96, .f32⟩
  | .hbm, ⟨6, _⟩ => ⟨S8x4096x8x96, .f32⟩
  | .hbm, ⟨7, _⟩ => ⟨S32768x8x96, .f32⟩
  | .hbm, ⟨8, _⟩ => ⟨S8x4096x8x96, .f32⟩
  | .hbm, ⟨9, _⟩ => ⟨S32768x8x64, .f32⟩
  | .hbm, ⟨10, _⟩ => ⟨S8x4096x8x64, .f32⟩
  | .hbm, ⟨11, _⟩ => ⟨S8x4352x8x96, .f32⟩
  | .hbm, ⟨12, _⟩ => ⟨S8x4352x8x64, .f32⟩
  | .hbm, ⟨13, _⟩ => ⟨S8x8x4096x4352, .f32⟩
  | .hbm, ⟨14, _⟩ => ⟨S_, .f32⟩
  | .hbm, ⟨15, _⟩ => ⟨S8x8x4096x4352, .f32⟩
  | .hbm, ⟨16, _⟩ => ⟨S8x8x4096x4352, .f32⟩
  | .hbm, ⟨17, _⟩ => ⟨S_, .f32⟩
  | .hbm, ⟨18, _⟩ => ⟨S8x8x4096, .f32⟩
  | .hbm, ⟨19, _⟩ => ⟨S_, .f32⟩
  | .hbm, ⟨20, _⟩ => ⟨S8x8x4096, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x4096x4352, .f32⟩
  | .hbm, ⟨26, _⟩ => ⟨S_, .f32⟩
  | .hbm, ⟨27, _⟩ => ⟨S8x8x4096, .f32⟩
  | .hbm, ⟨28, _⟩ => ⟨S8x8x4096x1, .f32⟩
  | .hbm, ⟨29, _⟩ => ⟨S8x8x4096x4352, .f32⟩
  | .hbm, ⟨30, _⟩ => ⟨S8x8x4096x4352, .f32⟩
  | .hbm, ⟨31, _⟩ => ⟨S8x8x64x4096, .f32⟩
  | .hbm, ⟨32, _⟩ => ⟨S8x4096x8x64, .f32⟩
  | .hbm, ⟨33, _⟩ => ⟨S32768x512, .f32⟩
  | .hbm, ⟨34, _⟩ => ⟨S32768x512, .bf16⟩
  | _, _ => ⟨S40960x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel2.lean ====
abbrev S32x256x1024 : Shape := ⟨3, ![32, 256, 1024]⟩
abbrev S8x4096x1024 : Shape := ⟨3, ![8, 4096, 1024]⟩
abbrev S9x6144 : Shape := ⟨2, ![9, 6144]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S32768x1024 : Shape := ⟨2, ![32768, 1024]⟩
abbrev S40960x1024 : Shape := ⟨2, ![40960, 1024]⟩
abbrev S9x6x1024 : Shape := ⟨3, ![9, 6, 1024]⟩
abbrev S1x1024 : Shape := ⟨2, ![1, 1024]⟩
abbrev S1024x1024 : Shape := ⟨2, ![1024, 1024]⟩
abbrev S1x6x1024 : Shape := ⟨3, ![1, 6, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S8x4096x1024, .f32⟩
  | .hbm, ⟨2, _⟩ => ⟨S9x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S32768x1024, .f32⟩
  | .hbm, ⟨9, _⟩ => ⟨S40960x1024, .f32⟩
  | .hbm, ⟨10, _⟩ => ⟨S9x6x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32x256x1024 : Shape := ⟨3, ![32, 256, 1024]⟩
abbrev S8x4096x1024 : Shape := ⟨3, ![8, 4096, 1024]⟩
abbrev S9x6144 : Shape := ⟨2, ![9, 6144]⟩
abbrev S1024 : Shape := ⟨1, ![1024]⟩
abbrev S1024x2816 : Shape := ⟨2, ![1024, 2816]⟩
abbrev S2816x1024 : Shape := ⟨2, ![2816, 1024]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x2816 : Shape := ⟨3, ![32, 256, 2816]⟩
abbrev S8x6144 : Shape := ⟨2, ![8, 6144]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S8x4096x2816 : Shape := ⟨3, ![8, 4096, 2816]⟩
abbrev S8192x1024 : Shape := ⟨2, ![8192, 1024]⟩
abbrev S32768x1024 : Shape := ⟨2, ![32768, 1024]⟩
abbrev S40960x1024 : Shape := ⟨2, ![40960, 1024]⟩

abbrev nBuf : Space → Nat
  | .hbm => 104
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x4096x1024, .f32⟩
  | .hbm, ⟨2, _⟩ => ⟨S9x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x6144, .f32⟩
  | .hbm, ⟨8, _⟩ => ⟨S1x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x2816, .f32⟩
  | .hbm, ⟨39, _⟩ => ⟨S32x256x2816, .f32⟩
  | .hbm, ⟨40, _⟩ => ⟨S32x256x2816, .f32⟩
  | .hbm, ⟨41, _⟩ => ⟨S_, .f32⟩
  | .hbm, ⟨42, _⟩ => ⟨S32x256x2816, .f32⟩
  | .hbm, ⟨43, _⟩ => ⟨S32x256x2816, .f32⟩
  | .hbm, ⟨44, _⟩ => ⟨S_, .f32⟩
  | .hbm, ⟨45, _⟩ => ⟨S32x256x2816, .f32⟩
  | .hbm, ⟨46, _⟩ => ⟨S32x256x2816, .f32⟩
  | .hbm, ⟨47, _⟩ => ⟨S32x256x2816, .f32⟩
  | .hbm, ⟨48, _⟩ => ⟨S32x256x2816, .f32⟩
  | .hbm, ⟨49, _⟩ => ⟨S32x256x2816, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S32x256x1024, .f32⟩
  | .hbm, ⟨54, _⟩ => ⟨S8x6144, .f32⟩
  | .hbm, ⟨55, _⟩ => ⟨S8x1x6144, .f32⟩
  | .hbm, ⟨56, _⟩ => ⟨S8x1x1024, .f32⟩
  | .hbm, ⟨57, _⟩ => ⟨S8x1x1024, .f32⟩
  | .hbm, ⟨58, _⟩ => ⟨S8x1x1024, .f32⟩
  | .hbm, ⟨59, _⟩ => ⟨S8x1x1024, .f32⟩
  | .hbm, ⟨60, _⟩ => ⟨S8x1x1024, .f32⟩
  | .hbm, ⟨61, _⟩ => ⟨S8x1x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x1x1024, .f32⟩
  | .hbm, ⟨80, _⟩ => ⟨S8x1x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x2816, .f32⟩
  | .hbm, ⟨86, _⟩ => ⟨S8x4096x2816, .f32⟩
  | .hbm, ⟨87, _⟩ => ⟨S8x4096x2816, .f32⟩
  | .hbm, ⟨88, _⟩ => ⟨S_, .f32⟩
  | .hbm, ⟨89, _⟩ => ⟨S8x4096x2816, .f32⟩
  | .hbm, ⟨90, _⟩ => ⟨S8x4096x2816, .f32⟩
  | .hbm, ⟨91, _⟩ => ⟨S_, .f32⟩
  | .hbm, ⟨92, _⟩ => ⟨S8x4096x2816, .f32⟩
  | .hbm, ⟨93, _⟩ => ⟨S8x4096x2816, .f32⟩
  | .hbm, ⟨94, _⟩ => ⟨S8x4096x2816, .f32⟩
  | .hbm, ⟨95, _⟩ => ⟨S8x4096x2816, .f32⟩
  | .hbm, ⟨96, _⟩ => ⟨S8x4096x2816, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S8192x1024, .f32⟩
  | .hbm, ⟨102, _⟩ => ⟨S32768x1024, .f32⟩
  | .hbm, ⟨103, _⟩ => ⟨S40960x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel3.lean ====
abbrev S32x256x1024 : Shape := ⟨3, ![32, 256, 1024]⟩
abbrev S8x4096x1024 : Shape := ⟨3, ![8, 4096, 1024]⟩
abbrev S9x6144 : Shape := ⟨2, ![9, 6144]⟩
abbrev S1024 : Shape := ⟨1, ![1024]⟩
abbrev S1024x4768 : Shape := ⟨2, ![1024, 4768]⟩
abbrev S128 : Shape := ⟨1, ![128]⟩
abbrev S1x1024x4768 : Shape := ⟨3, ![1, 1024, 4768]⟩
abbrev S_ : Shape := ⟨0, ![]⟩
abbrev S1x1024x64 : Shape := ⟨3, ![1, 1024, 64]⟩
abbrev S1x1024x32 : Shape := ⟨3, ![1, 1024, 32]⟩
abbrev S1x1024x128 : Shape := ⟨3, ![1, 1024, 128]⟩
abbrev S1x1024x768 : Shape := ⟨3, ![1, 1024, 768]⟩
abbrev S1x1024x256 : Shape := ⟨3, ![1, 1024, 256]⟩
abbrev S128x1 : Shape := ⟨2, ![128, 1]⟩
abbrev S1x1024x384 : Shape := ⟨3, ![1, 1024, 384]⟩
abbrev S1x1024x3072 : Shape := ⟨3, ![1, 1024, 3072]⟩
abbrev S1x1024x5120 : Shape := ⟨3, ![1, 1024, 5120]⟩
abbrev S1024x5120 : Shape := ⟨2, ![1024, 5120]⟩
abbrev S8192x1024 : Shape := ⟨2, ![8192, 1024]⟩
abbrev S32768x1024 : Shape := ⟨2, ![32768, 1024]⟩
abbrev S40960x1024 : Shape := ⟨2, ![40960, 1024]⟩
abbrev S9x6x1024 : Shape := ⟨3, ![9, 6, 1024]⟩
abbrev S1x1024 : Shape := ⟨2, ![1, 1024]⟩
abbrev S40960x5120 : Shape := ⟨2, ![40960, 5120]⟩
abbrev S1024x1024 : Shape := ⟨2, ![1024, 1024]⟩
abbrev S1x6x1024 : Shape := ⟨3, ![1, 6, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x5120 : Shape := ⟨2, ![256, 5120]⟩
abbrev S40960x256 : Shape := ⟨2, ![40960, 256]⟩
abbrev S40960x768 : Shape := ⟨2, ![40960, 768]⟩
abbrev S40960x384 : Shape := ⟨2, ![40960, 384]⟩
abbrev S40960x32 : Shape := ⟨2, ![40960, 32]⟩
abbrev S40960x3072 : Shape := ⟨2, ![40960, 3072]⟩
abbrev S40960x4768 : Shape := ⟨2, ![40960, 4768]⟩

abbrev nBuf : Space → Nat
  | .hbm => 49
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S8x4096x1024, .f32⟩
  | .hbm, ⟨2, _⟩ => ⟨S9x6144, .f32⟩
  | .hbm, ⟨3, _⟩ => ⟨S1024, .f32⟩
  | .hbm, ⟨4, _⟩ => ⟨S1024x4768, .f32⟩
  | .hbm, ⟨5, _⟩ => ⟨S128, .i1⟩
  | .hbm, ⟨6, _⟩ => ⟨S128, .i32⟩
  | .hbm, ⟨7, _⟩ => ⟨S128, .i1⟩
  | .hbm, ⟨8, _⟩ => ⟨S1x1024x4768, .f32⟩
  | .hbm, ⟨9, _⟩ => ⟨S_, .f32⟩
  | .hbm, ⟨10, _⟩ => ⟨S1x1024x64, .f32⟩
  | .hbm, ⟨11, _⟩ => ⟨S1x1024x32, .f32⟩
  | .hbm, ⟨12, _⟩ => ⟨S_, .f32⟩
  | .hbm, ⟨13, _⟩ => ⟨S1x1024x32, .f32⟩
  | .hbm, ⟨14, _⟩ => ⟨S1x1024x128, .f32⟩
  | .hbm, ⟨15, _⟩ => ⟨S1x1024x768, .f32⟩
  | .hbm, ⟨16, _⟩ => ⟨S1x1024x256, .f32⟩
  | .hbm, ⟨17, _⟩ => ⟨S1x1024x256, .f32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S1x1024x128, .f32⟩
  | .hbm, ⟨24, _⟩ => ⟨S_, .f32⟩
  | .hbm, ⟨25, _⟩ => ⟨S1x1024x128, .i1⟩
  | .hbm, ⟨26, _⟩ => ⟨S1x1024x128, .f32⟩
  | .hbm, ⟨27, _⟩ => ⟨S1x1024x128, .f32⟩
  | .hbm, ⟨28, _⟩ => ⟨S1x1024x384, .f32⟩
  | .hbm, ⟨29, _⟩ => ⟨S_, .f32⟩
  | .hbm, ⟨30, _⟩ => ⟨S1x1024x128, .f32⟩
  | .hbm, ⟨31, _⟩ => ⟨S1x1024x3072, .f32⟩
  | .hbm, ⟨32, _⟩ => ⟨S1x1024x5120, .f32⟩
  | .hbm, ⟨33, _⟩ => ⟨S1x1024x5120, .bf16⟩
  | .hbm, ⟨34, _⟩ => ⟨S1024x5120, .bf16⟩
  | .hbm, ⟨35, _⟩ => ⟨S8192x1024, .f32⟩
  | .hbm, ⟨36, _⟩ => ⟨S32768x1024, .f32⟩
  | .hbm, ⟨37, _⟩ => ⟨S40960x1024, .f32⟩
  | .hbm, ⟨38, _⟩ => ⟨S9x6x1024, .f32⟩
  | .hbm, ⟨39, _⟩ => ⟨S1x1024, .f32⟩
  | .hbm, ⟨40, _⟩ => ⟨S40960x5120, .bf16⟩
  | .hbm, ⟨41, _⟩ => ⟨S40960x256, .bf16⟩
  | .hbm, ⟨42, _⟩ => ⟨S40960x768, .bf16⟩
  | .hbm, ⟨43, _⟩ => ⟨S40960x384, .bf16⟩
  | .hbm, ⟨44, _⟩ => ⟨S40960x256, .bf16⟩
  | .hbm, ⟨45, _⟩ => ⟨S40960x32, .bf16⟩
  | .hbm, ⟨46, _⟩ => ⟨S40960x3072, .bf16⟩
  | .hbm, ⟨47, _⟩ => ⟨S40960x4768, .bf16⟩
  | .hbm, ⟨48, _⟩ => ⟨S40960x4768, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5120, .bf16⟩
  | .local _ .vmem, ⟨6, _⟩ => ⟨S1024x5120, .bf16⟩
  | .local _ .vmem, ⟨7, _⟩ => ⟨S1024x5120, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32x256x1024 : Shape := ⟨3, ![32, 256, 1024]⟩
abbrev S8x4096x1024 : Shape := ⟨3, ![8, 4096, 1024]⟩
abbrev S9x6144 : Shape := ⟨2, ![9, 6144]⟩
abbrev S1024 : Shape := ⟨1, ![1024]⟩
abbrev S1024x4768 : Shape := ⟨2, ![1024, 4768]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x4768 : Shape := ⟨3, ![32, 256, 4768]⟩
abbrev S8x6144 : Shape := ⟨2, ![8, 6144]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S8x4096x4768 : Shape := ⟨3, ![8, 4096, 4768]⟩
abbrev S8192x4768 : Shape := ⟨2, ![8192, 4768]⟩
abbrev S32768x4768 : Shape := ⟨2, ![32768, 4768]⟩
abbrev S40960x4768 : Shape := ⟨2, ![40960, 4768]⟩

abbrev nBuf : Space → Nat
  | .hbm => 72
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x4096x1024, .f32⟩
  | .hbm, ⟨2, _⟩ => ⟨S9x6144, .f32⟩
  | .hbm, ⟨3, _⟩ => ⟨S1024, .f32⟩
  | .hbm, ⟨4, _⟩ => ⟨S1024x4768, .f32⟩
  | .hbm, ⟨5, _⟩ => ⟨S1x6144, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x4768, .f32⟩
  | .hbm, ⟨37, _⟩ => ⟨S8x6144, .f32⟩
  | .hbm, ⟨38, _⟩ => ⟨S8x1x6144, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S8x1x1024, .f32⟩
  | .hbm, ⟨45, _⟩ => ⟨S8x4096x1024, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x4768, .f32⟩
  | .hbm, ⟨69, _⟩ => ⟨S8192x4768, .f32⟩
  | .hbm, ⟨70, _⟩ => ⟨S32768x4768, .f32⟩
  | .hbm, ⟨71, _⟩ => ⟨S40960x4768, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel4.lean ====
abbrev S32x256x256 : Shape := ⟨3, ![32, 256, 256]⟩
abbrev S8x4096x256 : Shape := ⟨3, ![8, 4096, 256]⟩
abbrev S32x256x512 : Shape := ⟨3, ![32, 256, 512]⟩
abbrev S8x4096x512 : Shape := ⟨3, ![8, 4096, 512]⟩
abbrev S32x256x3072 : Shape := ⟨3, ![32, 256, 3072]⟩
abbrev S8x4096x3072 : Shape := ⟨3, ![8, 4096, 3072]⟩
abbrev S32x256x1024 : Shape := ⟨3, ![32, 256, 1024]⟩
abbrev S8x4096x1024 : Shape := ⟨3, ![8, 4096, 1024]⟩
abbrev S9x6144 : Shape := ⟨2, ![9, 6144]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S40960x2048 : Shape := ⟨2, ![40960, 2048]⟩
abbrev S8192x3072 : Shape := ⟨2, ![8192, 3072]⟩
abbrev S32768x3072 : Shape := ⟨2, ![32768, 3072]⟩
abbrev S40960x3072 : Shape := ⟨2, ![40960, 3072]⟩
abbrev S40960x5120 : Shape := ⟨2, ![40960, 5120]⟩
abbrev S8192x256 : Shape := ⟨2, ![8192, 256]⟩
abbrev S32768x256 : Shape := ⟨2, ![32768, 256]⟩
abbrev S8192x512 : Shape := ⟨2, ![8192, 512]⟩
abbrev S32768x512 : Shape := ⟨2, ![32768, 512]⟩
abbrev S8192x1024 : Shape := ⟨2, ![8192, 1024]⟩
abbrev S32768x1024 : Shape := ⟨2, ![32768, 1024]⟩
abbrev S40960x1024 : Shape := ⟨2, ![40960, 1024]⟩
abbrev S9x6x1024 : Shape := ⟨3, ![9, 6, 1024]⟩
abbrev S512x256 : Shape := ⟨2, ![512, 256]⟩
abbrev S512x512 : Shape := ⟨2, ![512, 512]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 44
  | .vmem => 28
  | .smem => 0
  | _ => 0

abbrev bufTy : (tb : Table) → Fin (tcTables nBuf tb) → BufTy
  | .hbm, ⟨0, _⟩ => ⟨S32x256x256, .f32⟩
  | .hbm, ⟨1, _⟩ => ⟨S8x4096x256, .f32⟩
  | .hbm, ⟨2, _⟩ => ⟨S32x256x256, .f32⟩
  | .hbm, ⟨3, _⟩ => ⟨S8x4096x256, .f32⟩
  | .hbm, ⟨4, _⟩ => ⟨S32x256x512, .f32⟩
  | .hbm, ⟨5, _⟩ => ⟨S8x4096x512, .f32⟩
  | .hbm, ⟨6, _⟩ => ⟨S32x256x3072, .f32⟩
  | .hbm, ⟨7, _⟩ => ⟨S8x4096x3072, .f32⟩
  | .hbm, ⟨8, _⟩ => ⟨S32x256x1024, .f32⟩
  | .hbm, ⟨9, _⟩ => ⟨S8x4096x1024, .f32⟩
  | .hbm, ⟨10, _⟩ => ⟨S9x6144, .f32⟩
  | .hbm, ⟨11, _⟩ => ⟨S256x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S_, .bf16⟩
  | .hbm, ⟨16, _⟩ => ⟨S40960x2048, .bf16⟩
  | .hbm, ⟨17, _⟩ => ⟨S8192x3072, .f32⟩
  | .hbm, ⟨18, _⟩ => ⟨S8192x3072, .bf16⟩
  | .hbm, ⟨19, _⟩ => ⟨S32768x3072, .f32⟩
  | .hbm, ⟨20, _⟩ => ⟨S32768x3072, .bf16⟩
  | .hbm, ⟨21, _⟩ => ⟨S40960x3072, .bf16⟩
  | .hbm, ⟨22, _⟩ => ⟨S40960x5120, .bf16⟩
  | .hbm, ⟨23, _⟩ => ⟨S8192x256, .f32⟩
  | .hbm, ⟨24, _⟩ => ⟨S8192x256, .bf16⟩
  | .hbm, ⟨25, _⟩ => ⟨S32768x256, .f32⟩
  | .hbm, ⟨26, _⟩ => ⟨S32768x256, .bf16⟩
  | .hbm, ⟨27, _⟩ => ⟨S8192x256, .f32⟩
  | .hbm, ⟨28, _⟩ => ⟨S8192x256, .bf16⟩
  | .hbm, ⟨29, _⟩ => ⟨S32768x256, .f32⟩
  | .hbm, ⟨30, _⟩ => ⟨S32768x256, .bf16⟩
  | .hbm, ⟨31, _⟩ => ⟨S8192x512, .f32⟩
  | .hbm, ⟨32, _⟩ => ⟨S8192x512, .bf16⟩
  | .hbm, ⟨33, _⟩ => ⟨S32768x512, .f32⟩
  | .hbm, ⟨34, _⟩ => ⟨S32768x512, .bf16⟩
  | .hbm, ⟨35, _⟩ => ⟨S8192x1024, .f32⟩
  | .hbm, ⟨36, _⟩ => ⟨S32768x1024, .f32⟩
  | .hbm, ⟨37, _⟩ => ⟨S40960x1024, .f32⟩
  | .hbm, ⟨38, _⟩ => ⟨S9x6x1024, .f32⟩
  | .hbm, ⟨39, _⟩ => ⟨S256x1024, .bf16⟩
  | .hbm, ⟨40, _⟩ => ⟨S256x1024, .bf16⟩
  | .hbm, ⟨41, _⟩ => ⟨S512x1024, .bf16⟩
  | .hbm, ⟨42, _⟩ => ⟨S1024x1024, .bf16⟩
  | .hbm, ⟨43, _⟩ => ⟨S40960x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x6x1024, .f32⟩
  | .local _ .vmem, ⟨21, _⟩ => ⟨S1x6x1024, .f32⟩
  | .local _ .vmem, ⟨22, _⟩ => ⟨S256x1024, .bf16⟩
  | .local _ .vmem, ⟨23, _⟩ => ⟨S256x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S32x256x256 : Shape := ⟨3, ![32, 256, 256]⟩
abbrev S8x4096x256 : Shape := ⟨3, ![8, 4096, 256]⟩
abbrev S32x256x512 : Shape := ⟨3, ![32, 256, 512]⟩
abbrev S8x4096x512 : Shape := ⟨3, ![8, 4096, 512]⟩
abbrev S32x256x3072 : Shape := ⟨3, ![32, 256, 3072]⟩
abbrev S8x4096x3072 : Shape := ⟨3, ![8, 4096, 3072]⟩
abbrev S32x256x1024 : Shape := ⟨3, ![32, 256, 1024]⟩
abbrev S8x4096x1024 : Shape := ⟨3, ![8, 4096, 1024]⟩
abbrev S9x6144 : Shape := ⟨2, ![9, 6144]⟩
abbrev S256x1024 : Shape := ⟨2, ![256, 1024]⟩
abbrev S512x1024 : Shape := ⟨2, ![512, 1024]⟩
abbrev S1024x1024 : Shape := ⟨2, ![1024, 1024]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S32x256x3x1024 : Shape := ⟨4, ![32, 256, 3, 1024]⟩
abbrev S32x256x1x1024 : Shape := ⟨4, ![32, 256, 1, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x4096x3x1024 : Shape := ⟨4, ![8, 4096, 3, 1024]⟩
abbrev S8x4096x1x1024 : Shape := ⟨4, ![8, 4096, 1, 1024]⟩
abbrev S8192x1024 : Shape := ⟨2, ![8192, 1024]⟩
abbrev S32768x1024 : Shape := ⟨2, ![32768, 1024]⟩
abbrev S40960x1024 : Shape := ⟨2, ![40960, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S8x4096x256, .f32⟩
  | .hbm, ⟨2, _⟩ => ⟨S32x256x256, .f32⟩
  | .hbm, ⟨3, _⟩ => ⟨S8x4096x256, .f32⟩
  | .hbm, ⟨4, _⟩ => ⟨S32x256x512, .f32⟩
  | .hbm, ⟨5, _⟩ => ⟨S8x4096x512, .f32⟩
  | .hbm, ⟨6, _⟩ => ⟨S32x256x3072, .f32⟩
  | .hbm, ⟨7, _⟩ => ⟨S8x4096x3072, .f32⟩
  | .hbm, ⟨8, _⟩ => ⟨S32x256x1024, .f32⟩
  | .hbm, ⟨9, _⟩ => ⟨S8x4096x1024, .f32⟩
  | .hbm, ⟨10, _⟩ => ⟨S9x6144, .f32⟩
  | .hbm, ⟨11, _⟩ => ⟨S256x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S1x6144, .f32⟩
  | .hbm, ⟨16, _⟩ => ⟨S1x1x6144, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S32x256x1024, .f32⟩
  | .hbm, ⟨26, _⟩ => ⟨S32x256x3072, .f32⟩
  | .hbm, ⟨27, _⟩ => ⟨S32x256x3072, .f32⟩
  | .hbm, ⟨28, _⟩ => ⟨S_, .f32⟩
  | .hbm, ⟨29, _⟩ => ⟨S32x256x3072, .f32⟩
  | .hbm, ⟨30, _⟩ => ⟨S32x256x3072, .f32⟩
  | .hbm, ⟨31, _⟩ => ⟨S_, .f32⟩
  | .hbm, ⟨32, _⟩ => ⟨S32x256x3072, .f32⟩
  | .hbm, ⟨33, _⟩ => ⟨S32x256x3072, .f32⟩
  | .hbm, ⟨34, _⟩ => ⟨S32x256x3x1024, .f32⟩
  | .hbm, ⟨35, _⟩ => ⟨S32x256x1x1024, .f32⟩
  | .hbm, ⟨36, _⟩ => ⟨S32x256x1024, .f32⟩
  | .hbm, ⟨37, _⟩ => ⟨S32x256x1024, .f32⟩
  | .hbm, ⟨38, _⟩ => ⟨S32x256x1x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S8x6144, .f32⟩
  | .hbm, ⟨51, _⟩ => ⟨S8x1x6144, .f32⟩
  | .hbm, ⟨52, _⟩ => ⟨S8x1x1024, .f32⟩
  | .hbm, ⟨53, _⟩ => ⟨S8x1x1024, .f32⟩
  | .hbm, ⟨54, _⟩ => ⟨S8x1x1024, .f32⟩
  | .hbm, ⟨55, _⟩ => ⟨S8x1x1024, .f32⟩
  | .hbm, ⟨56, _⟩ => ⟨S8x1x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x3072, .f32⟩
  | .hbm, ⟨62, _⟩ => ⟨S8x4096x3072, .f32⟩
  | .hbm, ⟨63, _⟩ => ⟨S_, .f32⟩
  | .hbm, ⟨64, _⟩ => ⟨S8x4096x3072, .f32⟩
  | .hbm, ⟨65, _⟩ => ⟨S8x4096x3072, .f32⟩
  | .hbm, ⟨66, _⟩ => ⟨S_, .f32⟩
  | .hbm, ⟨67, _⟩ => ⟨S8x4096x3072, .f32⟩
  | .hbm, ⟨68, _⟩ => ⟨S8x4096x3072, .f32⟩
  | .hbm, ⟨69, _⟩ => ⟨S8x4096x3x1024, .f32⟩
  | .hbm, ⟨70, _⟩ => ⟨S8x4096x1x1024, .f32⟩
  | .hbm, ⟨71, _⟩ => ⟨S8x4096x1024, .f32⟩
  | .hbm, ⟨72, _⟩ => ⟨S8x4096x1024, .f32⟩
  | .hbm, ⟨73, _⟩ => ⟨S8x4096x1x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8192x1024, .f32⟩
  | .hbm, ⟨86, _⟩ => ⟨S32768x1024, .f32⟩
  | .hbm, ⟨87, _⟩ => ⟨S40960x1024, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_1 : Ref sig .tc := ⟨.hbm, 63, rfl⟩
abbrev main_v46 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel5.lean ====
abbrev S86016x1024 : Shape := ⟨2, ![86016, 1024]⟩
abbrev S168 : Shape := ⟨1, ![168]⟩
abbrev S8x1024x1408 : Shape := ⟨3, ![8, 1024, 1408]⟩
abbrev S8x1408x1024 : Shape := ⟨3, ![8, 1408, 1024]⟩
abbrev S8x1024x2816 : Shape := ⟨3, ![8, 1024, 2816]⟩
abbrev S512x1024 : Shape := ⟨2, ![512, 1024]⟩
abbrev S1x1024x2816 : Shape := ⟨3, ![1, 1024, 2816]⟩
abbrev S1 : Shape := ⟨1, ![1]⟩
abbrev S1x1408x1024 : Shape := ⟨3, ![1, 1408, 1024]⟩
abbrev S256x1 : Shape := ⟨2, ![256, 1]⟩
abbrev S256x1024 : Shape := ⟨2, ![256, 1024]⟩
abbrev S1024x2816 : Shape := ⟨2, ![1024, 2816]⟩
abbrev S256x2816 : Shape := ⟨2, ![256, 2816]⟩
abbrev S256x1408 : Shape := ⟨2, ![256, 1408]⟩
abbrev S1408x1024 : Shape := ⟨2, ![1408, 1024]⟩

abbrev nBuf : Space → Nat
  | .hbm => 8
  | .vmem => 8
  | .smem => 2
  | _ => 0

abbrev bufTy : (tb : Table) → Fin (tcTables nBuf tb) → BufTy
  | .hbm, ⟨0, _⟩ => ⟨S86016x1024, .f32⟩
  | .hbm, ⟨1, _⟩ => ⟨S8x1024x1408, .f32⟩
  | .hbm, ⟨2, _⟩ => ⟨S8x1024x1408, .f32⟩
  | .hbm, ⟨3, _⟩ => ⟨S8x1408x1024, .f32⟩
  | .hbm, ⟨4, _⟩ => ⟨S8x1024x2816, .f32⟩
  | .hbm, ⟨5, _⟩ => ⟨S8x1024x2816, .bf16⟩
  | .hbm, ⟨6, _⟩ => ⟨S8x1408x1024, .bf16⟩
  | .hbm, ⟨7, _⟩ => ⟨S86016x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S512x1024, .f32⟩
  | .local _ .vmem, ⟨7, _⟩ => ⟨S512x1024, .f32⟩
  | .local _ .smem, ⟨0, _⟩ => ⟨S168, .i32⟩
  | .local _ .smem, ⟨1, _⟩ => ⟨S168, .i32⟩
  | _, _ => ⟨S86016x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S86016x1024 : Shape := ⟨2, ![86016, 1024]⟩
abbrev S168 : Shape := ⟨1, ![168]⟩
abbrev S8x1024x1408 : Shape := ⟨3, ![8, 1024, 1408]⟩
abbrev S8x1408x1024 : Shape := ⟨3, ![8, 1408, 1024]⟩
abbrev S168x512x1024 : Shape := ⟨3, ![168, 512, 1024]⟩
abbrev S512 : Shape := ⟨1, ![512]⟩
abbrev S1x512 : Shape := ⟨2, ![1, 512]⟩
abbrev S168x1 : Shape := ⟨2, ![168, 1]⟩
abbrev S168x512 : Shape := ⟨2, ![168, 512]⟩
abbrev S_ : Shape := ⟨0, ![]⟩
abbrev S168x512x1 : Shape := ⟨3, ![168, 512, 1]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S168x512x1408 : Shape := ⟨3, ![168, 512, 1408]⟩

abbrev nBuf : Space → Nat
  | .hbm => 256
  | .vmem => 0
  | .smem => 0
  | _ => 0

abbrev hbmTy0_0 (i : Nat) : BufTy := match i % 128 with
  | 0 => ⟨S86016x1024, .f32⟩
  | 1 => ⟨S168, .i32⟩
  | 2 => ⟨S168, .i32⟩
  | 3 => ⟨S8x1024x1408, .f32⟩
  | 4 => ⟨S8x1024x1408, .f32⟩
  | 5 => ⟨S8x1408x1024, .f32⟩
  | 6 => ⟨S168x512x1024, .f32⟩
  | 7 => ⟨S512, .i32⟩
  | 8 => ⟨S1x512, .i32⟩
  | 9 => ⟨S168x1, .i32⟩
  | 10 => ⟨S168x512, .i32⟩
  | 11 => ⟨S168x512, .i32⟩
  | 12 => ⟨S168x512, .i1⟩
  | 13 => ⟨S_, .f32⟩
  | 14 => ⟨S168x512x1024, .f32⟩
  | 15 => ⟨S168x1, .i32⟩
  | 16 => ⟨S_, .i32⟩
  | 17 => ⟨S168x1, .i32⟩
  | 18 => ⟨S168x1, .i1⟩
  | 19 => ⟨S168x512, .i1⟩
  | 20 => ⟨S168x512, .i1⟩
  | 21 => ⟨S168x512, .f32⟩
  | 22 => ⟨S168x512x1, .f32⟩
  | 23 => ⟨S1x1024x1408, .f32⟩
  | 24 => ⟨S1024x1408, .f32⟩
  | 25 => ⟨S1x1024x1408, .f32⟩
  | 26 => ⟨S1024x1408, .f32⟩
  | 27 => ⟨S1x1408x1024, .f32⟩
  | 28 => ⟨S1408x1024, .f32⟩
  | 29 => ⟨S168x512x1408, .f32⟩
  | 30 => ⟨S168x512x1408, .f32⟩
  | 31 => ⟨S168x512x1408, .f32⟩
  | 32 => ⟨S_, .f32⟩
  | 33 => ⟨S168x512x1408, .f32⟩
  | 34 => ⟨S168x512x1408, .f32⟩
  | 35 => ⟨S_, .f32⟩
  | 36 => ⟨S168x512x1408, .f32⟩
  | 37 => ⟨S168x512x1408, .f32⟩
  | 38 => ⟨S168x512x1408, .f32⟩
  | 39 => ⟨S168x512x1408, .f32⟩
  | 40 => ⟨S168x512x1408, .f32⟩
  | 41 => ⟨S168x512x1024, .f32⟩
  | 42 => ⟨S168x512x1024, .f32⟩
  | 43 => ⟨S168x512x1024, .f32⟩
  | 44 => ⟨S168x512x1024, .f32⟩
  | 45 => ⟨S168x1, .i32⟩
  | 46 => ⟨S_, .i32⟩
  | 47 => ⟨S168x1, .i32⟩
  | 48 => ⟨S168x1, .i1⟩
  | 49 => ⟨S168x512, .i1⟩
  | 50 => ⟨S168x512, .i1⟩
  | 51 => ⟨S168x512, .f32⟩
  | 52 => ⟨S168x512x1, .f32⟩
  | 53 => ⟨S1x1024x1408, .f32⟩
  | 54 => ⟨S1024x1408, .f32⟩
  | 55 => ⟨S1x1024x1408, .f32⟩
  | 56 => ⟨S1024x1408, .f32⟩
  | 57 => ⟨S1x1408x1024, .f32⟩
  | 58 => ⟨S1408x1024, .f32⟩
  | 59 => ⟨S168x512x1408, .f32⟩
  | 60 => ⟨S168x512x1408, .f32⟩
  | 61 => ⟨S168x512x1408, .f32⟩
  | 62 => ⟨S_, .f32⟩
  | 63 => ⟨S168x512x1408, .f32⟩
  | 64 => ⟨S168x512x1408, .f32⟩
  | 65 => ⟨S_, .f32⟩
  | 66 => ⟨S168x512x1408, .f32⟩
  | 67 => ⟨S168x512x1408, .f32⟩
  | 68 => ⟨S168x512x1408, .f32⟩
  | 69 => ⟨S168x512x1408, .f32⟩
  | 70 => ⟨S168x512x1408, .f32⟩
  | 71 => ⟨S168x512x1024, .f32⟩
  | 72 => ⟨S168x512x1024, .f32⟩
  | 73 => ⟨S168x512x1024, .f32⟩
  | 74 => ⟨S168x512x1024, .f32⟩
  | 75 => ⟨S168x1, .i32⟩
  | 76 => ⟨S_, .i32⟩
  | 77 => ⟨S168x1, .i32⟩
  | 78 => ⟨S168x1, .i1⟩
  | 79 => ⟨S168x512, .i1⟩
  | 80 => ⟨S168x512, .i1⟩
  | 81 => ⟨S168x512, .f32⟩
  | 82 => ⟨S168x512x1, .f32⟩
  | 83 => ⟨S1x1024x1408, .f32⟩
  | 84 => ⟨S1024x1408, .f32⟩
  | 85 => ⟨S1x1024x1408, .f32⟩
  | 86 => ⟨S1024x1408, .f32⟩
  | 87 => ⟨S1x1408x1024, .f32⟩
  | 88 => ⟨S1408x1024, .f32⟩
  | 89 => ⟨S168x512x1408, .f32⟩
  | 90 => ⟨S168x512x1408, .f32⟩
  | 91 => ⟨S168x512x1408, .f32⟩
  | 92 => ⟨S_, .f32⟩
  | 93 => ⟨S168x512x1408, .f32⟩
  | 94 => ⟨S168x512x1408, .f32⟩
  | 95 => ⟨S_, .f32⟩
  | 96 => ⟨S168x512x1408, .f32⟩
  | 97 => ⟨S168x512x1408, .f32⟩
  | 98 => ⟨S168x512x1408, .f32⟩
  | 99 => ⟨S168x512x1408, .f32⟩
  | 100 => ⟨S168x512x1408, .f32⟩
  | 101 => ⟨S168x512x1024, .f32⟩
  | 102 => ⟨S168x512x1024, .f32⟩
  | 103 => ⟨S168x512x1024, .f32⟩
  | 104 => ⟨S168x512x1024, .f32⟩
  | 105 => ⟨S168x1, .i32⟩
  | 106 => ⟨S_, .i32⟩
  | 107 => ⟨S168x1, .i32⟩
  | 108 => ⟨S168x1, .i1⟩
  | 109 => ⟨S168x512, .i1⟩
  | 110 => ⟨S168x512, .i1⟩
  | 111 => ⟨S168x512, .f32⟩
  | 112 => ⟨S168x512x1, .f32⟩
  | 113 => ⟨S1x1024x1408, .f32⟩
  | 114 => ⟨S1024x1408, .f32⟩
  | 115 => ⟨S1x1024x1408, .f32⟩
  | 116 => ⟨S1024x1408, .f32⟩
  | 117 => ⟨S1x1408x1024, .f32⟩
  | 118 => ⟨S1408x1024, .f32⟩
  | 119 => ⟨S168x512x1408, .f32⟩
  | 120 => ⟨S168x512x1408, .f32⟩
  | 121 => ⟨S168x512x1408, .f32⟩
  | 122 => ⟨S_, .f32⟩
  | 123 => ⟨S168x512x1408, .f32⟩
  | 124 => ⟨S168x512x1408, .f32⟩
  | 125 => ⟨S_, .f32⟩
  | 126 => ⟨S168x512x1408, .f32⟩
  | 127 => ⟨S168x512x1408, .f32⟩
  | _ => ⟨S86016x1024, .f32⟩

abbrev hbmTy0_1 (i : Nat) : BufTy := match i % 128 with
  | 0 => ⟨S168x512x1408, .f32⟩
  | 1 => ⟨S168x512x1408, .f32⟩
  | 2 => ⟨S168x512x1408, .f32⟩
  | 3 => ⟨S168x512x1024, .f32⟩
  | 4 => ⟨S168x512x1024, .f32⟩
  | 5 => ⟨S168x512x1024, .f32⟩
  | 6 => ⟨S168x512x1024, .f32⟩
  | 7 => ⟨S168x1, .i32⟩
  | 8 => ⟨S_, .i32⟩
  | 9 => ⟨S168x1, .i32⟩
  | 10 => ⟨S168x1, .i1⟩
  | 11 => ⟨S168x512, .i1⟩
  | 12 => ⟨S168x512, .i1⟩
  | 13 => ⟨S168x512, .f32⟩
  | 14 => ⟨S168x512x1, .f32⟩
  | 15 => ⟨S1x1024x1408, .f32⟩
  | 16 => ⟨S1024x1408, .f32⟩
  | 17 => ⟨S1x1024x1408, .f32⟩
  | 18 => ⟨S1024x1408, .f32⟩
  | 19 => ⟨S1x1408x1024, .f32⟩
  | 20 => ⟨S1408x1024, .f32⟩
  | 21 => ⟨S168x512x1408, .f32⟩
  | 22 => ⟨S168x512x1408, .f32⟩
  | 23 => ⟨S168x512x1408, .f32⟩
  | 24 => ⟨S_, .f32⟩
  | 25 => ⟨S168x512x1408, .f32⟩
  | 26 => ⟨S168x512x1408, .f32⟩
  | 27 => ⟨S_, .f32⟩
  | 28 => ⟨S168x512x1408, .f32⟩
  | 29 => ⟨S168x512x1408, .f32⟩
  | 30 => ⟨S168x512x1408, .f32⟩
  | 31 => ⟨S168x512x1408, .f32⟩
  | 32 => ⟨S168x512x1408, .f32⟩
  | 33 => ⟨S168x512x1024, .f32⟩
  | 34 => ⟨S168x512x1024, .f32⟩
  | 35 => ⟨S168x512x1024, .f32⟩
  | 36 => ⟨S168x512x1024, .f32⟩
  | 37 => ⟨S168x1, .i32⟩
  | 38 => ⟨S_, .i32⟩
  | 39 => ⟨S168x1, .i32⟩
  | 40 => ⟨S168x1, .i1⟩
  | 41 => ⟨S168x512, .i1⟩
  | 42 => ⟨S168x512, .i1⟩
  | 43 => ⟨S168x512, .f32⟩
  | 44 => ⟨S168x512x1, .f32⟩
  | 45 => ⟨S1x1024x1408, .f32⟩
  | 46 => ⟨S1024x1408, .f32⟩
  | 47 => ⟨S1x1024x1408, .f32⟩
  | 48 => ⟨S1024x1408, .f32⟩
  | 49 => ⟨S1x1408x1024, .f32⟩
  | 50 => ⟨S1408x1024, .f32⟩
  | 51 => ⟨S168x512x1408, .f32⟩
  | 52 => ⟨S168x512x1408, .f32⟩
  | 53 => ⟨S168x512x1408, .f32⟩
  | 54 => ⟨S_, .f32⟩
  | 55 => ⟨S168x512x1408, .f32⟩
  | 56 => ⟨S168x512x1408, .f32⟩
  | 57 => ⟨S_, .f32⟩
  | 58 => ⟨S168x512x1408, .f32⟩
  | 59 => ⟨S168x512x1408, .f32⟩
  | 60 => ⟨S168x512x1408, .f32⟩
  | 61 => ⟨S168x512x1408, .f32⟩
  | 62 => ⟨S168x512x1408, .f32⟩
  | 63 => ⟨S168x512x1024, .f32⟩
  | 64 => ⟨S168x512x1024, .f32⟩
  | 65 => ⟨S168x512x1024, .f32⟩
  | 66 => ⟨S168x512x1024, .f32⟩
  | 67 => ⟨S168x1, .i32⟩
  | 68 => ⟨S_, .i32⟩
  | 69 => ⟨S168x1, .i32⟩
  | 70 => ⟨S168x1, .i1⟩
  | 71 => ⟨S168x512, .i1⟩
  | 72 => ⟨S168x512, .i1⟩
  | 73 => ⟨S168x512, .f32⟩
  | 74 => ⟨S168x512x1, .f32⟩
  | 75 => ⟨S1x1024x1408, .f32⟩
  | 76 => ⟨S1024x1408, .f32⟩
  | 77 => ⟨S1x1024x1408, .f32⟩
  | 78 => ⟨S1024x1408, .f32⟩
  | 79 => ⟨S1x1408x1024, .f32⟩
  | 80 => ⟨S1408x1024, .f32⟩
  | 81 => ⟨S168x512x1408, .f32⟩
  | 82 => ⟨S168x512x1408, .f32⟩
  | 83 => ⟨S168x512x1408, .f32⟩
  | 84 => ⟨S_, .f32⟩
  | 85 => ⟨S168x512x1408, .f32⟩
  | 86 => ⟨S168x512x1408, .f32⟩
  | 87 => ⟨S_, .f32⟩
  | 88 => ⟨S168x512x1408, .f32⟩
  | 89 => ⟨S168x512x1408, .f32⟩
  | 90 => ⟨S168x512x1408, .f32⟩
  | 91 => ⟨S168x512x1408, .f32⟩
  | 92 => ⟨S168x512x1408, .f32⟩
  | 93 => ⟨S168x512x1024, .f32⟩
  | 94 => ⟨S168x512x1024, .f32⟩
  | 95 => ⟨S168x512x1024, .f32⟩
  | 96 => ⟨S168x512x1024, .f32⟩
  | 97 => ⟨S168x1, .i32⟩
  | 98 => ⟨S_, .i32⟩
  | 99 => ⟨S168x1, .i32⟩
  | 100 => ⟨S168x1, .i1⟩
  | 101 => ⟨S168x512, .i1⟩
  | 102 => ⟨S168x512, .i1⟩
  | 103 => ⟨S168x512, .f32⟩
  | 104 => ⟨S168x512x1, .f32⟩
  | 105 => ⟨S1x1024x1408, .f32⟩
  | 106 => ⟨S1024x1408, .f32⟩
  | 107 => ⟨S1x1024x1408, .f32⟩
  | 108 => ⟨S1024x1408, .f32⟩
  | 109 => ⟨S1x1408x1024, .f32⟩
  | 110 => ⟨S1408x1024, .f32⟩
  | 111 => ⟨S168x512x1408, .f32⟩
  | 112 => ⟨S168x512x1408, .f32⟩
  | 113 => ⟨S168x512x1408, .f32⟩
  | 114 => ⟨S_, .f32⟩
  | 115 => ⟨S168x512x1408, .f32⟩
  | 116 => ⟨S168x512x1408, .f32⟩
  | 117 => ⟨S_, .f32⟩
  | 118 => ⟨S168x512x1408, .f32⟩
  | 119 => ⟨S168x512x1408, .f32⟩
  | 120 => ⟨S168x512x1408, .f32⟩
  | 121 => ⟨S168x512x1408, .f32⟩
  | 122 => ⟨S168x512x1408, .f32⟩
  | 123 => ⟨S168x512x1024, .f32⟩
  | 124 => ⟨S168x512x1024, .f32⟩
  | 125 => ⟨S168x512x1024, .f32⟩
  | 126 => ⟨S168x512x1024, .f32⟩
  | 127 => ⟨S86016x1024, .f32⟩
  | _ => ⟨S86016x1024, .f32⟩

abbrev hbmTy (i : Nat) : BufTy := match i / 128 with
  | 0 => hbmTy0_0 i
  | 1 => hbmTy0_1 i
  | _ => ⟨S86016x1024, .f32⟩

abbrev bufTy : (tb : Table) → Fin (tcTables nBuf tb) → BufTy
  | .hbm, ⟨i, _⟩ => hbmTy i
  | _, _ => ⟨S86016x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_2 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_3 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call4_v0 : Ref sig .tc := ⟨.hbm, 150, rfl⟩
abbrev main_call4_v1 : Ref sig .tc := ⟨.hbm, 151, rfl⟩
abbrev main_call4_cst : Ref sig .tc := ⟨.hbm, 152, rfl⟩
abbrev main_call4_v2 : Ref sig .tc := ⟨.hbm, 153, rfl⟩
abbrev main_call4_v3 : Ref sig .tc := ⟨.hbm, 154, rfl⟩
abbrev main_call4_cst_0 : Ref sig .tc := ⟨.hbm, 155, rfl⟩
abbrev main_call4_v4 : Ref sig .tc := ⟨.hbm, 156, rfl⟩
abbrev main_call4_v5 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_4 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_call5_v0 : Ref sig .tc := ⟨.hbm, 180, rfl⟩
abbrev main_call5_v1 : Ref sig .tc := ⟨.hbm, 181, rfl⟩
abbrev main_call5_cst : Ref sig .tc := ⟨.hbm, 182, rfl⟩
abbrev main_call5_v2 : Ref sig .tc := ⟨.hbm, 183, rfl⟩
abbrev main_call5_v3 : Ref sig .tc := ⟨.hbm, 184, rfl⟩
abbrev main_call5_cst_0 : Ref sig .tc := ⟨.hbm, 185, rfl⟩
abbrev main_call5_v4 : Ref sig .tc := ⟨.hbm, 186, rfl⟩
abbrev main_call5_v5 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_5 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_call6_v0 : Ref sig .tc := ⟨.hbm, 210, rfl⟩
abbrev main_call6_v1 : Ref sig .tc := ⟨.hbm, 211, rfl⟩
abbrev main_call6_cst : Ref sig .tc := ⟨.hbm, 212, rfl⟩
abbrev main_call6_v2 : Ref sig .tc := ⟨.hbm, 213, rfl⟩
abbrev main_call6_v3 : Ref sig .tc := ⟨.hbm, 214, rfl⟩
abbrev main_call6_cst_0 : Ref sig .tc := ⟨.hbm, 215, rfl⟩
abbrev main_call6_v4 : Ref sig .tc := ⟨.hbm, 216, rfl⟩
abbrev main_call6_v5 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_c_6 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_call7_v0 : Ref sig .tc := ⟨.hbm, 240, rfl⟩
abbrev main_call7_v1 : Ref sig .tc := ⟨.hbm, 241, rfl⟩
abbrev main_call7_cst : Ref sig .tc := ⟨.hbm, 242, rfl⟩
abbrev main_call7_v2 : Ref sig .tc := ⟨.hbm, 243, rfl⟩
abbrev main_call7_v3 : Ref sig .tc := ⟨.hbm, 244, rfl⟩
abbrev main_call7_cst_0 : Ref sig .tc := ⟨.hbm, 245, rfl⟩
abbrev main_call7_v4 : Ref sig .tc := ⟨.hbm, 246, rfl⟩
abbrev main_call7_v5 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩

abbrev nD : Nat := 1
abbrev τ : Topo := Topo.v7x

variable {F : FTy → Type} [FloatOps F]
-- ==== Proof.Softmax.lean ====
/-
  The mathematics of a softmax computed chunk by chunk, over extended reals: no program is mentioned.
  A row of scores is real; the values it weights are any extended reals.
-/
module

public import Idealize.ShloMosaic.PureOps.Ideal
public import Idealize.ShloMosaic.PureOps.Ideal.Laws

@[expose] public section

noncomputable section

namespace Cert.Softmax

open Idealize.ShloMosaic
open scoped BigOperators

/-- A nonnegative real factor goes inside a sum of extended reals. -/
theorem mul_sum_real {ι : Type} (t : Finset ι) (f : ι → EReal) {c : ℝ} (hc : 0 ≤ c) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- The same with the factor on the right. -/
theorem sum_mul_real {ι : Type} (t : Finset ι) (f : ι → EReal) {c : ℝ} (hc : 0 ≤ c) :
    (∑ i ∈ t, f i) * (c : EReal) = ∑ i ∈ t, f i * (c : EReal) := by
  rw [mul_comm, mul_sum_real t f hc]; exact Finset.sum_congr rfl fun i _ => mul_comm _ _

/-- A sum of reals, read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Two to a power, as a real. -/
theorem exp2_real (x : ℝ) : Ideal.exp2 (x : EReal) = (((2 : ℝ) ^ x : ℝ) : EReal) := rfl

/-- Two to a real power, as an exponential. -/
theorem two_rpow (x : ℝ) : (2 : ℝ) ^ x = Real.exp (x * Real.log 2) := by
  rw [Real.rpow_def_of_pos (by norm_num), mul_comm]

/-- The maximum of a real family over a nonempty finite type, started at minus infinity, is real. -/
theorem fold_max_real {ι : Type} [Fintype ι] [Nonempty ι] (f : ι → ℝ) :
    ∃ M : ℝ, (Finset.univ : Finset ι).fold max ⊥ (fun i => (f i : EReal)) = (M : EReal) := by
  classical
  have hlt : (Finset.univ : Finset ι).fold max (⊥ : EReal) (fun i => (f i : EReal)) < ⊤ := by
    rw [Finset.fold_max_lt]; exact ⟨bot_lt_top, fun i _ => EReal.coe_lt_top _⟩
  have hgt : (⊥ : EReal) < (Finset.univ : Finset ι).fold max (⊥ : EReal) (fun i => (f i : EReal)) := by
    rw [Finset.lt_fold_max]; exact Or.inr ⟨Classical.arbitrary ι, Finset.mem_univ _, EReal.bot_lt_coe _⟩
  exact ⟨_, (EReal.coe_toReal hlt.ne hgt.ne').symm⟩

/-- The state of one row after the keys `ι`: the running maximum is some real `M`, and each lane of the
    accumulator is the sum of the lane's values weighted by two to the power of the score less `M`. -/
def Row {ι : Type} [Fintype ι] {L : Type} (s : ι → ℝ) (v : ι → L → EReal) (m : EReal) (acc : L → EReal) : Prop :=
  ∃ M : ℝ, m = (M : EReal) ∧ ∀ l, acc l = ∑ j, Ideal.exp2 ((s j : EReal) - m) * v j l

/-- The first chunk: from minus infinity and zero, one step of the running softmax gives the chunk's state. -/
theorem Row.first {κ : Type} [Fintype κ] [Nonempty κ] {L : Type} (s : κ → ℝ) (v : κ → L → EReal) (m : EReal)
    (hm : m = max ⊥ ((Finset.univ : Finset κ).fold max ⊥ (fun i => (s i : EReal)))) (acc : L → EReal)
    (hacc : ∀ l, acc l = 0 * Ideal.exp2 (⊥ - m) + ∑ j, Ideal.exp2 ((s j : EReal) - m) * v j l) :
    Row s v m acc := by
  obtain ⟨M, hM⟩ := fold_max_real s
  rw [hM, max_eq_right bot_le] at hm
  exact ⟨M, hm, fun l => by rw [hacc, zero_mul, zero_add]⟩

/-- One further chunk: the state over the keys so far becomes the state over those and the chunk's. -/
theorem Row.step {ι κ : Type} [Fintype ι] [Fintype κ] [Nonempty κ] {L : Type} {s : ι → ℝ} {v : ι → L → EReal}
    {m : EReal} {acc : L → EReal} (h : Row s v m acc) (s' : κ → ℝ) (v' : κ → L → EReal) (m' : EReal)
    (hm : m' = max m ((Finset.univ : Finset κ).fold max ⊥ (fun i => (s' i : EReal)))) (acc' : L → EReal)
    (hacc : ∀ l, acc' l = acc l * Ideal.exp2 (m - m') + ∑ j, Ideal.exp2 ((s' j : EReal) - m') * v' j l) :
    Row (Sum.elim s s') (Sum.elim v v') m' acc' := by
  obtain ⟨M, rfl, h⟩ := h
  obtain ⟨N, hN⟩ := fold_max_real s'
  rw [hN, ← (EReal.coe_strictMono.monotone.map_max : ((max M N : ℝ) : EReal) = max (M : EReal) N)] at hm
  subst hm
  refine ⟨max M N, rfl, fun l => ?_⟩
  rw [hacc, h, Fintype.sum_sum_type]
  congr 1
  rw [← EReal.coe_sub, exp2_real, sum_mul_real _ _ (Real.rpow_nonneg (by norm_num) _)]
  refine Finset.sum_congr rfl fun j _ => ?_
  simp only [Sum.elim_inl]
  rw [mul_right_comm, ← EReal.coe_sub, ← EReal.coe_sub, exp2_real, exp2_real, ← EReal.coe_mul,
    ← Real.rpow_add (by norm_num)]
  congr 3; ring

/-- A running softmax divided by its ones lane is the softmax: for any base of the exponent and any real offset
    subtracted from the scores on either side. -/
theorem Row.quotient {ι : Type} [Fintype ι] [Nonempty ι] {L : Type} {s : ι → ℝ} {v : ι → L → EReal} {m : EReal}
    {acc : L → EReal} (h : Row s v m acc) (l one : L) (hone : ∀ j, v j one = 1) (x : ι → ℝ)
    (hx : ∀ j, x j = s j * Real.log 2) (N : ℝ) :
    Ideal.div (acc l) (acc one)
      = ∑ j, v j l * Ideal.div (Ideal.exp ((x j : EReal) - (N : EReal))) (∑ i, Ideal.exp ((x i : EReal) - (N : EReal))) := by
  obtain ⟨M, rfl, h⟩ := h
  have hpos : ∀ j : ι, 0 < (2 : ℝ) ^ (s j - M) := fun j => Real.rpow_pos_of_pos (by norm_num) _
  have hS : 0 < ∑ j, (2 : ℝ) ^ (s j - M) := Finset.sum_pos (fun j _ => hpos j) Finset.univ_nonempty
  have hT : 0 < ∑ j, Real.exp (x j - N) := Finset.sum_pos (fun j _ => Real.exp_pos _) Finset.univ_nonempty
  have hden : acc one = ((∑ j, (2 : ℝ) ^ (s j - M) : ℝ) : EReal) := by
    rw [h, coe_sum]; refine Finset.sum_congr rfl fun j _ => ?_
    rw [hone, mul_one, ← EReal.coe_sub, exp2_real]
  have hden' : ∑ i, Ideal.exp ((x i : EReal) - (N : EReal)) = ((∑ j, Real.exp (x j - N) : ℝ) : EReal) := by
    rw [coe_sum]; rfl
  rw [hden, hden', Ideal.div_coe hS.ne', h, sum_mul_real _ _ (by positivity)]
  refine Finset.sum_congr rfl fun j _ => ?_
  rw [Ideal.div_coe hT.ne', ← EReal.coe_sub, ← EReal.coe_sub, exp2_real, Ideal.exp_coe, mul_comm _ (v j l), mul_assoc,
    ← EReal.coe_mul, ← EReal.coe_mul]
  congr 2
  have key : ∀ i, Real.exp (x i - N) = (2 : ℝ) ^ (s i - M) * Real.exp (M * Real.log 2 - N) := fun i => by
    rw [two_rpow, ← Real.exp_add, hx]; congr 1; ring
  simp only [key]
  rw [← Finset.sum_mul]
  have := (Real.exp_pos (M * Real.log 2 - N)).ne'
  have := hS.ne'
  field_simp

end Cert.Softmax

end
-- ==== Proof.Block.lean ====
/-
  What one grid point of the latent attention computes: each row of its block, each head and lane.
-/
module

public import proofs.«01_k».proof.Proof.Gen.KernelIdeal.Frame
public import proofs.«01_k».proof.Proof.Softmax
public import Idealize.ShloMosaic.Lib.Pointwise
public import Idealize.ShloMosaic.Lib.ValueLayoutCasts

@[expose] public section

set_option maxRecDepth 16384

noncomputable section

namespace Cert.LatentBlock

open Cert.KernelIdeal Cert.KernelIdeal.Gen
open Idealize.ShloMosaic Cert.Softmax
open scoped BigOperators

/-- The pattern of minus infinity is minus infinity. -/
theorem neg_inf : Ideal.ofBits FTy.f32 0xFF800000#32 = ⊥ := by
  simp [Ideal.ofBits, Ideal.ieee]

/-- The ideal machine's power of two. -/
theorem exp2_def {φ : FTy} (x : Ideal φ) : FloatOps.exp2 (F := Ideal) (φ := φ) x = Ideal.exp2 x := rfl

/-- The larger of a column and the maxima of the rows of a matrix, at a row: for any number of rows and keys. -/
theorem maxStep {M N : Nat} (m : FVec Ideal ⟨2, ![M, 1]⟩ .f32) (x : FVec Ideal ⟨2, ![M, N]⟩ .f32)
    (h : (⟨2, ![M, N]⟩ : Shape).Reduces [1] ⟨1, ![M]⟩) (hφ : FKind.Formats FTy.f32)
    (hacc : 0xFF800000#32 = FKind.maximumf.neutral FTy.f32 hφ)
    (hsc : (⟨1, ![M]⟩ : Shape).ShapeCasts ⟨2, ![M, 1]⟩) (r : Fin M) :
    maximumf m (shapeCast ⟨2, ![M, 1]⟩ (multiReduction .maximumf [1] ⟨1, ![M]⟩ x 0xFF800000#32 h hφ hacc) hsc) (ix2 r 0)
      = max (m (ix2 r 0)) ((Finset.univ : Finset (Fin N)).fold max ⊥ fun j => x (ix2 r j)) := by
  show max (m (ix2 r 0)) _ = _
  refine congrArg (max _) ((ValueIdx.shapeCast_a_a1_apply _ hsc r 0).trans ?_)
  rw [Ideal.multiReduction_maximumf_single]
  show (Finset.univ : Finset (Fin N)).fold max (Ideal.ofBits FTy.f32 0xFF800000#32) _ = _
  rw [neg_inf]
  refine Finset.fold_congr fun j _ => congrArg x ?_
  funext a
  match a with
  | ⟨0, _⟩ => rfl
  | ⟨1, _⟩ => rfl

/-- Scores of a context chunk: the dot product of a query row and a key row. -/
theorem ctxScore (q : Vec Ideal S1024x128 .bf16) (k : Vec Ideal S256x128 .bf16) (r : Fin 1024) (j : Fin 256) :
    k0_pay6 q k (ix2 r j) = ∑ d : Fin 128, q (ix2 r d) * k (ix2 j d) := by
  unfold_payloads
  pointwise

/-- The running maximum after the context chunk. -/
theorem ctxMax (q : Vec Ideal S1024x128 .bf16) (k : Vec Ideal S256x128 .bf16) (r : Fin 1024) :
    k0_pay7 q k (ix2 r 0) = max ⊥ ((Finset.univ : Finset (Fin 256)).fold max ⊥ fun j => ∑ d : Fin 128, q (ix2 r d) * k (ix2 j d)) := by
  unfold k0_pay7 k0_pay3
  refine (maxStep _ (k0_pay6 q k) _ _ _ _ r).trans ?_
  simp only [ctxScore]
  exact congrArg (max · _) neg_inf

/-- The accumulator after the context chunk. -/
theorem ctxAcc (q : Vec Ideal S1024x128 .bf16) (k v : Vec Ideal S256x128 .bf16) (r : Fin 1024) (l : Fin 128) :
    k0_pay8 q k v (ix2 r l) = 0 * Ideal.exp2 (⊥ - k0_pay7 q k (ix2 r 0))
      + ∑ j : Fin 256, Ideal.exp2 ((∑ d : Fin 128, q (ix2 r d) * k (ix2 j d)) - k0_pay7 q k (ix2 r 0)) * v (ix2 j l) := by
  unfold k0_pay8 k0_pay3
  pointwise
  simp only [neg_inf, ctxScore, exp2_def]

/-- Scores of a chunk of 2048 keys. -/
theorem score (q : FVec Ideal S1024x128 .bf16) (k : Vec Ideal S2048x128 .bf16) (r : Fin 1024) (j : Fin 2048) :
    k0_pay13 q k (ix2 r j) = ∑ d : Fin 128, q (ix2 r d) * k (ix2 j d) := by
  unfold_payloads
  pointwise

/-- The running maximum after a chunk of 2048 keys. -/
theorem stepMax (q : FVec Ideal S1024x128 .bf16) (m : FVec Ideal S1024x1 .f32) (k : Vec Ideal S2048x128 .bf16) (r : Fin 1024) :
    k0_pay14 q m k (ix2 r 0)
      = max (m (ix2 r 0)) ((Finset.univ : Finset (Fin 2048)).fold max ⊥ fun j => ∑ d : Fin 128, q (ix2 r d) * k (ix2 j d)) := by
  unfold k0_pay14
  refine (maxStep m (k0_pay13 q k) _ _ _ _ r).trans ?_
  simp only [score]

/-- The accumulator after a chunk of 2048 keys. -/
theorem stepAcc (q : FVec Ideal S1024x128 .bf16) (m : FVec Ideal S1024x1 .f32) (a : FVec Ideal S1024x128 .f32)
    (k v : Vec Ideal S2048x128 .bf16) (r : Fin 1024) (l : Fin 128) :
    k0_pay15 q m a k v (ix2 r l) = a (ix2 r l) * Ideal.exp2 (m (ix2 r 0) - k0_pay14 q m k (ix2 r 0))
      + ∑ j : Fin 2048, Ideal.exp2 ((∑ d : Fin 128, q (ix2 r d) * k (ix2 j d)) - k0_pay14 q m k (ix2 r 0)) * v (ix2 j l) := by
  unfold k0_pay15
  pointwise
  simp only [score, exp2_def]

/-- One head's accumulator after all its keys: the context chunk, then the two chunks of 2048. -/
def head (q : Vec Ideal S1024x128 .bf16) (kc vc : Vec Ideal S256x128 .bf16) (k1 v1 k2 v2 : Vec Ideal S2048x128 .bf16) :
    FVec Ideal S1024x128 .f32 :=
  k0_pay15 q (k0_pay14 q (k0_pay7 q kc) k1) (k0_pay15 q (k0_pay7 q kc) (k0_pay8 q kc vc) k1 v1) k2 v2

/-- One row of a head's accumulator is the softmax state over the context keys and the two chunks. -/
theorem head_row (q : Vec Ideal S1024x128 .bf16) (kc vc : Vec Ideal S256x128 .bf16) (k1 v1 k2 v2 : Vec Ideal S2048x128 .bf16)
    (r : Fin 1024) (sc : Fin 256 → ℝ) (s1 s2 : Fin 2048 → ℝ)
    (hc : ∀ j, ∑ d : Fin 128, q (ix2 r d) * kc (ix2 j d) = (sc j : EReal))
    (h1 : ∀ j, ∑ d : Fin 128, q (ix2 r d) * k1 (ix2 j d) = (s1 j : EReal))
    (h2 : ∀ j, ∑ d : Fin 128, q (ix2 r d) * k2 (ix2 j d) = (s2 j : EReal)) :
    ∃ m : EReal, Row (Sum.elim (Sum.elim sc s1) s2)
      (Sum.elim (Sum.elim (fun j l => vc (ix2 j l)) fun j l => v1 (ix2 j l)) fun j l => v2 (ix2 j l)) m
      (fun l : Fin 128 => head q kc vc k1 v1 k2 v2 (ix2 r l)) := by
  have e0 : Row sc (fun j l => vc (ix2 j l)) (k0_pay7 q kc (ix2 r 0)) (fun l => k0_pay8 q kc vc (ix2 r l)) :=
    Row.first sc _ _ (by rw [ctxMax]; simp only [hc]) _ fun l => by rw [ctxAcc]; simp only [hc]
  have e1 := Row.step e0 s1 (fun j l => v1 (ix2 j l)) (k0_pay14 q (k0_pay7 q kc) k1 (ix2 r 0))
    (by rw [stepMax]; simp only [h1]) (fun l => k0_pay15 q (k0_pay7 q kc) (k0_pay8 q kc vc) k1 v1 (ix2 r l))
    fun l => by rw [stepAcc]; simp only [h1]
  exact ⟨_, Row.step e1 s2 (fun j l => v2 (ix2 j l)) (k0_pay14 q (k0_pay14 q (k0_pay7 q kc) k1) k2 (ix2 r 0))
    (by rw [stepMax]; simp only [h2]) (fun l => head q kc vc k1 v1 k2 v2 (ix2 r l))
    fun l => by unfold head; rw [stepAcc]; simp only [h2]⟩

/-- Two heads' accumulators become the stored block: each lane below 64 divided by the head's lane 64, the heads side by side. -/
def store (a b : FVec Ideal S1024x128 .f32) : FVec Ideal S1024x128 .bf16 :=
  truncf .bf16 (concatenate S1024x128 1
    [⟨S1024x64, divf (extractStridedSlice S1024x64 ![0, 0] a slices_S1024x128_o0_0_S1024x64)
        (broadcastTo S1024x64 (extractStridedSlice S1024x1 ![0, 64] a slices_S1024x128_o0_64_S1024x1) broadcasts_S1024x1_S1024x64)⟩,
     ⟨S1024x64, divf (extractStridedSlice S1024x64 ![0, 0] b slices_S1024x128_o0_0_S1024x64)
        (broadcastTo S1024x64 (extractStridedSlice S1024x1 ![0, 64] b slices_S1024x128_o0_64_S1024x1) broadcasts_S1024x1_S1024x64)⟩]
    concatenates_S1024x64_S1024x64_S1024x128_d1) bitsLt_bf16_f32

theorem store_apply (a b : FVec Ideal S1024x128 .f32) (r : Fin 1024) (l : Fin 128) :
    store a b (ix2 r l) = if h : l.val < 64 then Ideal.div (a (ix2 r l)) (a (ix2 r 64))
      else Ideal.div (b (ix2 r ⟨l.val - 64, by omega⟩)) (b (ix2 r 64)) := by
  unfold store
  pointwise

/-- What a grid point leaves in its output block. -/
theorem out_eq (x0 : Vec Ideal S1024x256 .bf16) (x1 x2 : Vec Ideal S4096x256 .bf16) (x3 x4 : Vec Ideal S256x256 .bf16) :
    out0_5 x0 x1 x2 x3 x4 = store
      (head (View.ld x0 r0_0) (View.ld x3 r0_2) (View.ld x4 r0_2) (View.ld x1 r0_4) (View.ld x2 r0_4) (View.ld x1 r0_6) (View.ld x2 r0_6))
      (head (View.ld x0 r0_1) (View.ld x3 r0_3) (View.ld x4 r0_3) (View.ld x1 r0_5) (View.ld x2 r0_5) (View.ld x1 r0_7) (View.ld x2 r0_7)) := by
  have e1 : ∀ x : Vec Ideal S1024x128 .bf16, k0_pay1 x = x := fun x => by funext i; unfold k0_pay1; pointwise
  have e2 : ∀ x : Vec Ideal S1024x128 .bf16, k0_pay2 x = x := fun x => by funext i; unfold k0_pay2; pointwise
  unfold out0_5 k0_pay23 k0_pay22 k0_pay21 k0_pay20
  rw [e1, e2]
  rw [View.canon_unit_zero (by funext a; fin_cases a <;> rfl)]
  rfl

end Cert.LatentBlock
end
-- ==== Proof.Ref.lean ====
/-
  The reference's result, element by element, from its arguments.
-/
module

public import proofs.«01_k».proof.Proof.Gen.ReferenceIdeal.Read
public import Idealize.ShloMosaic.Lib.Pointwise

@[expose] public section

set_option maxRecDepth 16384

noncomputable section

namespace Cert.LatentRef

open Cert.ReferenceIdeal Cert.ReferenceIdeal.Gen Cert.ReferenceIdeal.Read
open Idealize.ShloMosaic
open scoped BigOperators

variable (x0 x1 : S40960x8x96.Idx → EReal) (x2 : S40960x8x64.Idx → EReal) (x3 : S8x256x8x96.Idx → EReal) (x4 : S8x256x8x64.Idx → EReal)

/-- The row of the token arrays where token `i` of request `b` sits. -/
def row (b : Fin 8) (i : Fin 4096) : Fin 40960 := ⟨8192 + 4096 * b.val + i.val, by omega⟩

/-- Key `j` of request `b`: the cached context's first, the request's own after. -/
def key (b : Fin 8) (j : Fin 4352) (h : Fin 8) (d : Fin 96) : EReal :=
  if e : j.val < 256 then x3 (ix4 b ⟨j.val, e⟩ h d) else x1 (ix3 (row b ⟨j.val - 256, by omega⟩) h d)

/-- Value `j` of request `b`. -/
def value (b : Fin 8) (j : Fin 4352) (h : Fin 8) (l : Fin 64) : EReal :=
  if e : j.val < 256 then x4 (ix4 b ⟨j.val, e⟩ h l) else x2 (ix3 (row b ⟨j.val - 256, by omega⟩) h l)

/-- The scaled score of query `i` and key `j`. -/
def score (b : Fin 8) (h : Fin 8) (i : Fin 4096) (j : Fin 4352) : EReal :=
  (∑ d : Fin 96, x0 (ix3 (row b i) h d) * key x1 x3 b j h d) * Ideal.ofBits FTy.f32 0x3DD105EC#32

/-- A query of the reference. -/
theorem q_at (b : Fin 8) (i : Fin 4096) (h : Fin 8) (d : Fin 96) :
    val_main_v1 (F := Ideal) x0 (ix4 b i h d) = x0 (ix3 (row b i) h d) := by
  unfold val_main_v1 val_main_v0
  pointwise
  exact congrArg (fun r => x0 (ix3 r h d)) (Fin.ext (by simp only [row]; omega))

/-- The joined keys. -/
theorem k_at (b : Fin 8) (j : Fin 4352) (h : Fin 8) (d : Fin 96) :
    val_main_v6 (F := Ideal) x1 x3 (ix4 b j h d) = key x1 x3 b j h d := by
  unfold val_main_v6 val_main_v3 val_main_v2 key
  pointwise
  split
  · rfl
  · exact congrArg (fun r => x1 (ix3 r h d)) (Fin.ext (by simp only [row]; omega))

/-- The joined values. -/
theorem v_at (b : Fin 8) (j : Fin 4352) (h : Fin 8) (l : Fin 64) :
    val_main_v7 (F := Ideal) x2 x4 (ix4 b j h l) = value x2 x4 b j h l := by
  unfold val_main_v7 val_main_v5 val_main_v4 value
  pointwise
  split
  · rfl
  · exact congrArg (fun r => x2 (ix3 r h l)) (Fin.ext (by simp only [row]; omega))

/-- The scaled scores. -/
theorem s_at (b : Fin 8) (i : Fin 4096) (h : Fin 8) (j : Fin 4352) :
    val_main_v10 (F := Ideal) x0 x1 x3 (ix4 b h i j) = score x0 x1 x3 b h i j := by
  unfold val_main_v10 val_main_v9 val_main_v8 val_main_cst score
  pointwise
  simp only [q_at, k_at]

/-- What the reference subtracts from a row's scores before exponentiating. -/
def shift (b : Fin 8) (h : Fin 8) (i : Fin 4096) : EReal := val_main_v13 (F := Ideal) x0 x1 x3 (ix3 b h i)

/-- An exponential of the softmax. -/
theorem e_at (b : Fin 8) (i : Fin 4096) (h : Fin 8) (j : Fin 4352) :
    val_main_v17 (F := Ideal) x0 x1 x3 (ix4 b h i j) = Ideal.exp (score x0 x1 x3 b h i j - shift x0 x1 x3 b h i) := by
  unfold val_main_v17 val_main_v16 val_main_v15 val_main_v14 shift
  pointwise
  simp only [s_at]

/-- A row's sum of exponentials. -/
theorem sum_at (b : Fin 8) (i : Fin 4096) (h : Fin 8) :
    val_main_v18 (F := Ideal) x0 x1 x3 (ix3 b h i) = ∑ j, Ideal.exp (score x0 x1 x3 b h i j - shift x0 x1 x3 b h i) := by
  rw [val_main_v18_apply]
  refine (congrArg (· + _) (Ideal.ofBits_zero .f32)).trans ((zero_add _).trans (Finset.sum_congr rfl fun j _ => ?_))
  rw [← e_at]
  refine congrArg _ (funext fun a => ?_)
  match a with
  | ⟨0, _⟩ => rfl
  | ⟨1, _⟩ => rfl
  | ⟨2, _⟩ => rfl
  | ⟨3, _⟩ => rfl

/-- A softmax probability. -/
theorem p_at (b : Fin 8) (i : Fin 4096) (h : Fin 8) (j : Fin 4352) :
    val_main_v21 (F := Ideal) x0 x1 x3 (ix4 b h i j)
      = Ideal.div (Ideal.exp (score x0 x1 x3 b h i j - shift x0 x1 x3 b h i))
          (∑ j, Ideal.exp (score x0 x1 x3 b h i j - shift x0 x1 x3 b h i)) := by
  unfold val_main_v21 val_main_v20 val_main_v19
  pointwise
  rw [e_at, sum_at]

/-- The reference's result: each value weighted by its softmax probability. -/
theorem o_at (i : Fin 32768) (l : Fin 512) (b : Fin 8) (r : Fin 4096) (h : Fin 8) (d : Fin 64)
    (hi : i.val = 4096 * b.val + r.val) (hl : l.val = 64 * h.val + d.val) :
    val_main_v25 (F := Ideal) x0 x1 x2 x3 x4 (ix2 i l)
      = ∑ j, value x2 x4 b j h d * Ideal.div (Ideal.exp (score x0 x1 x3 b h r j - shift x0 x1 x3 b h r))
          (∑ j, Ideal.exp (score x0 x1 x3 b h r j - shift x0 x1 x3 b h r)) := by
  unfold val_main_v25 val_main_v24 val_main_v23 val_main_v22
  pointwise
  simp only [v_at, p_at]
  have e1 : (⟨i.val / 4096, by omega⟩ : Fin 8) = b := Fin.ext (by simp only; omega)
  have e2 : (⟨i.val % 4096, by omega⟩ : Fin 4096) = r := Fin.ext (by simp only; omega)
  have e3 : (⟨l.val / 64, by omega⟩ : Fin 8) = h := Fin.ext (by simp only; omega)
  have e4 : (⟨l.val % 64, by omega⟩ : Fin 64) = d := Fin.ext (by simp only; omega)
  rw [e1, e2, e3, e4]

/-- A host maximum along one axis, started at minus infinity, of reals is real where the axis is not empty. -/
theorem reduce_max_real {s t u : Shape} {a : Fin s.rank} (f : EReal → EReal → EReal) (hf : f = max) (x : s.Idx → EReal) (hx : ∀ i, ∃ r : ℝ, x i = r)
    (init : u.Idx → EReal) (h : s.ReducesTo [a] t) (h' : s.Reduces [a] t) (hu : 0 < u.numel)
    (hinit : init (Shape.Idx.first hu) = ⊥) (j : t.Idx) (k : Fin (s.size a)) :
    ∃ r : ℝ, Host.reduce f x init h hu j = r := by
  subst hf
  rw [Host.reduce_eq_fold, hinit]
  have hlt : ∀ S : Finset s.Idx, S.fold max (⊥ : EReal) x < ⊤ := fun S => by
    rw [Finset.fold_max_lt]
    exact ⟨bot_lt_top, fun i _ => by obtain ⟨r, e⟩ := hx i; rw [e]; exact EReal.coe_lt_top r⟩
  refine ⟨_, (EReal.coe_toReal (hlt _).ne (bot_lt_iff_ne_bot.mp ?_)).symm⟩
  rw [Finset.lt_fold_max]
  obtain ⟨r, e⟩ := hx (h'.lift j k)
  exact Or.inr ⟨h'.lift j k, Finset.mem_filter.mpr ⟨Finset.mem_univ _, h'.drop_lift j k⟩, by rw [e]; exact EReal.bot_lt_coe r⟩

/-- What the reference subtracts is real when the scores are. -/
theorem shift_real (hs : ∀ b h i j, ∃ a : ℝ, score x0 x1 x3 b h i j = a) (b : Fin 8) (h : Fin 8) (i : Fin 4096) :
    ∃ a : ℝ, shift x0 x1 x3 b h i = a := by
  have hv : ∀ i, ∃ a : ℝ, val_main_v10 (F := Ideal) x0 x1 x3 i = a := fun i => by
    idx_vars i
    rw [s_at]
    exact hs _ _ _ _
  have hb : Ideal.ofBits FTy.f32 0xFF800000#32 = ⊥ := by simp [Ideal.ofBits, Ideal.ieee]
  have hc : val_main_cst_0 (F := Ideal) (Shape.Idx.first h_S_) = (⊥ : EReal) := (val_main_cst_0_apply _).trans hb
  have hr : ∃ a : ℝ, val_main_v11 (F := Ideal) x0 x1 x3 (ix3 b h i) = (a : EReal) := by
    unfold val_main_v11
    generalize val_main_v10 (F := Ideal) x0 x1 x3 = y at hv ⊢
    exact reduce_max_real (FloatOps.maximumf (F := Ideal) (φ := FTy.f32)) rfl y hv _
      reducesTo_S8x8x4096x4352_S8x8x4096_d3 (by decide) h_S_ hc (ix3 b h i) (0 : Fin 4352)
  obtain ⟨a, ha⟩ := hr
  refine ⟨a, ?_⟩
  have e : shift x0 x1 x3 b h i = max (Ideal.ofBits FTy.f32 0xFF800000#32) (val_main_v11 (F := Ideal) x0 x1 x3 (ix3 b h i)) := by
    unfold shift
    rw [val_main_v13_apply, val_main_v12_apply, val_main_cst_1_apply]
    rfl
  rw [e, hb, max_eq_right bot_le, ha]

end Cert.LatentRef
end
-- ==== Proof.Host.lean ====
/-
  The arrays the latent attention's windows read, element by element, from the arguments.
-/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.LatentHost

open Cert.KernelIdeal Cert.KernelIdeal.Gen
open Idealize.ShloMosaic Idealize.ShloMosaic.TcCoe

variable (m : (ℓ : Loc nD τ sig) → Buf (Elt Ideal) ℓ) (c : Dev nD)

/-- The five arguments, as arrays of extended reals. -/
abbrev q : S40960x8x96.Idx → EReal := m ((c : Thread nD τ).loc main_arg0)
abbrev k : S40960x8x96.Idx → EReal := m ((c : Thread nD τ).loc main_arg1)
abbrev v : S40960x8x64.Idx → EReal := m ((c : Thread nD τ).loc main_arg2)
abbrev kc : S8x256x8x96.Idx → EReal := m ((c : Thread nD τ).loc main_arg3)
abbrev vc : S8x256x8x64.Idx → EReal := m ((c : Thread nD τ).loc main_arg4)

/-- The query scale as the host forms it: the float of 96 to the minus one half, over the logarithm of two. -/
def scale : EReal := Ideal.div (Ideal.ofBits FTy.f32 0x3DD105EC#32) (Ideal.log (Ideal.ofBits FTy.f32 0x40000000#32))

/-- The integer zero becomes the float zero. -/
theorem pad_zero : FloatOps.sitofp (F := Ideal) FTy.f32 (0#32) = (0 : EReal) := by
  show (((0#32 : BitVec 32).toInt : ℝ) : EReal) = 0
  simp

/-- The lane marker: one at lane 64 of a head, zero at the others. -/
theorem marker (d : Fin 128) :
    FloatOps.uitofp (F := Ideal) FTy.f32 (IntOp.cmpi CmpIPredicate.eq (BitVec.ofNat 32 d.val) 64#32)
      = if d.val = 64 then (1 : EReal) else 0 := by
  have e : (IntOp.cmpi CmpIPredicate.eq (BitVec.ofNat 32 d.val) 64#32).toNat = if d.val = 64 then 1 else 0 := by
    revert d; decide +kernel
  show (((IntOp.cmpi CmpIPredicate.eq (BitVec.ofNat 32 d.val) 64#32).toNat : ℝ) : EReal) = _
  rw [e]; split <;> simp

/-- The query window's array: each head's 96 entries scaled, then zeros. -/
theorem q_at (i : Fin 40960) (h : Fin 8) (d : Fin 128) (j : Fin 1024) (hj : j.val = 128 * h.val + d.val) :
    (V m c main_v7 : S40960x1024.Idx → EReal) (ix2 i j)
      = (if e : d.val < 96 then q m c (ix3 i h ⟨d.val, e⟩) * scale else 0 : EReal) := by
  have e1 : j.val / 128 = h.val := by omega
  have e2 : j.val % 128 = d.val := by omega
  unfold V
  after_reads_at
  simp only [e1, e2, h.isLt, true_and, pad_zero]
  rfl

/-- The key window's array: each head's 96 entries, then zeros. -/
theorem k_at (i : Fin 40960) (h : Fin 8) (d : Fin 128) (j : Fin 1024) (hj : j.val = 128 * h.val + d.val) :
    (V m c main_v10 : S40960x1024.Idx → EReal) (ix2 i j)
      = (if e : d.val < 96 then k m c (ix3 i h ⟨d.val, e⟩) else 0 : EReal) := by
  have e1 : j.val / 128 = h.val := by omega
  have e2 : j.val % 128 = d.val := by omega
  unfold V
  after_reads_at
  simp only [e1, e2, h.isLt, true_and, pad_zero]

/-- The value window's array: each head's 64 entries, a one, then zeros. -/
theorem v_at (i : Fin 40960) (h : Fin 8) (d : Fin 128) (j : Fin 1024) (hj : j.val = 128 * h.val + d.val) :
    (V m c main_v23 : S40960x1024.Idx → EReal) (ix2 i j)
      = ((if e : d.val < 64 then v m c (ix3 i h ⟨d.val, e⟩) else 0) + if d.val = 64 then 1 else 0 : EReal) := by
  have e1 : j.val / 128 = h.val := by omega
  have e2 : j.val % 128 = d.val := by omega
  unfold V
  after_reads_at
  simp only [e1, e2, h.isLt, true_and, pad_zero, marker]

/-- The context keys' array. -/
theorem kc_at (i : Fin 2048) (h : Fin 8) (d : Fin 128) (j : Fin 1024) (hj : j.val = 128 * h.val + d.val) :
    (V m c main_v27 : S2048x1024.Idx → EReal) (ix2 i j)
      = (if e : d.val < 96 then kc m c (ix4 ⟨i.val / 256, by omega⟩ ⟨i.val % 256, by omega⟩ h ⟨d.val, e⟩) else 0 : EReal) := by
  have e1 : j.val / 128 = h.val := by omega
  have e2 : j.val % 128 = d.val := by omega
  unfold V
  after_reads_at
  simp only [e1, e2, h.isLt, true_and, pad_zero]

/-- The context values' array. -/
theorem vc_at (i : Fin 2048) (h : Fin 8) (d : Fin 128) (j : Fin 1024) (hj : j.val = 128 * h.val + d.val) :
    (V m c main_v41 : S2048x1024.Idx → EReal) (ix2 i j)
      = ((if e : d.val < 64 then vc m c (ix4 ⟨i.val / 256, by omega⟩ ⟨i.val % 256, by omega⟩ h ⟨d.val, e⟩) else 0) + if d.val = 64 then 1 else 0 : EReal) := by
  have e1 : j.val / 128 = h.val := by omega
  have e2 : j.val % 128 = d.val := by omega
  unfold V
  after_reads_at
  simp only [e1, e2, h.isLt, true_and, pad_zero, marker]

end Cert.LatentHost
end
-- ==== Proof.Equation.lean ====
/-
  The equation: a head's accumulator divided by its ones lane is the reference's softmax attention.
-/
module

public import proofs.«01_k».proof.Proof.Block
public import proofs.«01_k».proof.Proof.Ref
public import proofs.«01_k».proof.Proof.Host

@[expose] public section

set_option maxRecDepth 16384

noncomputable section

namespace Cert.LatentEquation

open Idealize.ShloMosaic Cert.Softmax Cert.LatentRef
open Cert.LatentBlock (head head_row)
open Cert.KernelIdeal (S1024x128 S256x128 S2048x128 S40960x8x96 S40960x8x64 S8x256x8x96 S8x256x8x64)
open scoped BigOperators

/-- The float of 96 to the minus one half is some real. -/
theorem scale_bits : ∃ a : ℝ, Ideal.ofBits FTy.f32 0x3DD105EC#32 = (a : EReal) :=
  ⟨_, by simp only [Ideal.ofBits, Ideal.ieee]; simp [-EReal.coe_mul]; rfl⟩

/-- The float of two is two. -/
theorem two_bits : Ideal.ofBits FTy.f32 0x40000000#32 = ((2 : ℝ) : EReal) := by
  simp [Ideal.ofBits, Ideal.ieee, -EReal.coe_mul]; norm_num

/-- The host's query scale is a real: the float of 96 to the minus one half over the logarithm of two. -/
theorem scale_real (a : ℝ) (ha : Ideal.ofBits FTy.f32 0x3DD105EC#32 = (a : EReal)) :
    LatentHost.scale = ((a / Real.log 2 : ℝ) : EReal) := by
  have h2 : Ideal.log ((2 : ℝ) : EReal) = ((Real.log 2 : ℝ) : EReal) := by
    rw [Ideal.log_coe]; exact if_neg (by norm_num)
  unfold LatentHost.scale
  rw [ha, two_bits, h2, Ideal.div_coe (Real.log_pos (by norm_num)).ne', ← EReal.coe_mul]
  congr 1; ring

/-- A dot product over 128 lanes, the first 96 scaled entries and the rest zeros, is the scaled dot product of the 96. -/
theorem padded (f g : Fin 96 → ℝ) (c : ℝ) :
    ∑ d : Fin 128, (if e : d.val < 96 then (f ⟨d.val, e⟩ : EReal) * (c : EReal) else 0) * (if e : d.val < 96 then (g ⟨d.val, e⟩ : EReal) else 0)
      = (((∑ d, f d * g d) * c : ℝ) : EReal) := by
  rw [show (128 : ℕ) = 96 + 32 from rfl, Fin.sum_univ_add]
  rw [Finset.sum_eq_zero (s := (Finset.univ : Finset (Fin 32))) (fun d _ => by
    rw [dif_neg (by simp), zero_mul]), add_zero, Finset.sum_mul, coe_sum]
  refine Finset.sum_congr rfl fun d _ => ?_
  rw [dif_pos (by simp), dif_pos (by simp), ← EReal.coe_mul, ← EReal.coe_mul]
  congr 1
  show f d * c * g d = _
  ring

/-- The three chunks of keys, end to end. -/
def chunks : (Fin 256 ⊕ Fin 2048) ⊕ Fin 2048 ≃ Fin 4352 :=
  (Equiv.sumCongr (finSumFinEquiv (m := 256) (n := 2048)) (Equiv.refl (Fin 2048))).trans (finSumFinEquiv (m := 2304) (n := 2048))

theorem chunks_ctx (j : Fin 256) : chunks (.inl (.inl j)) = ⟨j.val, by omega⟩ := rfl
theorem chunks_one (j : Fin 2048) : chunks (.inl (.inr j)) = ⟨256 + j.val, by omega⟩ := rfl
theorem chunks_two (j : Fin 2048) : chunks (.inr j) = ⟨2304 + j.val, by omega⟩ := rfl

/-- A softmax average over the keys, summed chunk by chunk. -/
theorem sum_chunks (s v : Fin 4352 → EReal) (N : EReal) :
    ∑ j, v (chunks j) * Ideal.div (Ideal.exp (s (chunks j) - N)) (∑ i, Ideal.exp (s (chunks i) - N))
      = ∑ j, v j * Ideal.div (Ideal.exp (s j - N)) (∑ i, Ideal.exp (s i - N)) := by
  rw [Equiv.sum_comp chunks fun i => Ideal.exp (s i - N)]
  exact Equiv.sum_comp chunks fun j => v j * Ideal.div (Ideal.exp (s j - N)) (∑ i, Ideal.exp (s i - N))

variable (x0 x1 : S40960x8x96.Idx → EReal) (x2 : S40960x8x64.Idx → EReal) (x3 : S8x256x8x96.Idx → EReal) (x4 : S8x256x8x64.Idx → EReal)

/-- The reference's attention at a request, a head, a query and a lane. -/
def attn (b : Fin 8) (h : Fin 8) (i : Fin 4096) (l : Fin 64) : EReal :=
  ∑ j, value x2 x4 b j h l * Ideal.div (Ideal.exp (score x0 x1 x3 b h i j - shift x0 x1 x3 b h i))
    (∑ j, Ideal.exp (score x0 x1 x3 b h i j - shift x0 x1 x3 b h i))

/-- With real queries and keys the scores are real: here is the real, without the scale. -/
theorem scores_real (h0 : ∀ i, ∃ r : ℝ, x0 i = r) (h1 : ∀ i, ∃ r : ℝ, x1 i = r) (h3 : ∀ i, ∃ r : ℝ, x3 i = r) :
    ∃ (a0 a1 : S40960x8x96.Idx → ℝ) (a3 : S8x256x8x96.Idx → ℝ), x0 = (fun i => (a0 i : EReal)) ∧ x1 = (fun i => (a1 i : EReal))
      ∧ x3 = (fun i => (a3 i : EReal)) := by
  choose a0 h0 using h0
  choose a1 h1 using h1
  choose a3 h3 using h3
  exact ⟨a0, a1, a3, funext h0, funext h1, funext h3⟩

/-- A context key, as the reference numbers it. -/
theorem key_ctx (b h : Fin 8) (d : Fin 96) (j : Fin 256) : key x1 x3 b (chunks (.inl (.inl j))) h d = x3 (ix4 b j h d) := by
  unfold key; rw [chunks_ctx]; exact dif_pos j.isLt
/-- A key of the first chunk. -/
theorem key_one (b h : Fin 8) (d : Fin 96) (j : Fin 2048) :
    key x1 x3 b (chunks (.inl (.inr j))) h d = x1 (ix3 (row b ⟨j.val, by omega⟩) h d) := by
  unfold key; rw [chunks_one, dif_neg (by simp)]; simp only [Nat.add_sub_cancel_left]
/-- A key of the second chunk. -/
theorem key_two (b h : Fin 8) (d : Fin 96) (j : Fin 2048) :
    key x1 x3 b (chunks (.inr j)) h d = x1 (ix3 (row b ⟨2048 + j.val, by omega⟩) h d) := by
  have e : 2304 + j.val - 256 = 2048 + j.val := by omega
  unfold key; rw [chunks_two, dif_neg (by simp; omega)]; simp only [e]
/-- A context value, as the reference numbers it. -/
theorem value_ctx (b h : Fin 8) (d : Fin 64) (j : Fin 256) : value x2 x4 b (chunks (.inl (.inl j))) h d = x4 (ix4 b j h d) := by
  unfold value; rw [chunks_ctx]; exact dif_pos j.isLt
/-- A value of the first chunk. -/
theorem value_one (b h : Fin 8) (d : Fin 64) (j : Fin 2048) :
    value x2 x4 b (chunks (.inl (.inr j))) h d = x2 (ix3 (row b ⟨j.val, by omega⟩) h d) := by
  unfold value; rw [chunks_one, dif_neg (by simp)]; simp only [Nat.add_sub_cancel_left]
/-- A value of the second chunk. -/
theorem value_two (b h : Fin 8) (d : Fin 64) (j : Fin 2048) :
    value x2 x4 b (chunks (.inr j)) h d = x2 (ix3 (row b ⟨2048 + j.val, by omega⟩) h d) := by
  have e : 2304 + j.val - 256 = 2048 + j.val := by omega
  unfold value; rw [chunks_two, dif_neg (by simp; omega)]; simp only [e]

/-- The reference's scaled score of a real query with a real key. -/
theorem score_of (a0 : S40960x8x96.Idx → ℝ) (c : ℝ) (hc : Ideal.ofBits FTy.f32 0x3DD105EC#32 = (c : EReal))
    (b h : Fin 8) (i : Fin 4096) (j : Fin 4352) (f : Fin 96 → ℝ) (hf : ∀ d, key x1 x3 b j h d = (f d : EReal)) :
    score (fun i => (a0 i : EReal)) x1 x3 b h i j = (((∑ d : Fin 96, a0 (ix3 (row b i) h d) * f d) * c : ℝ) : EReal) := by
  unfold LatentRef.score
  rw [hc, EReal.coe_mul, coe_sum]
  refine congrArg (· * (c : EReal)) (Finset.sum_congr rfl fun d _ => ?_)
  rw [hf, EReal.coe_mul]

/-- Real keys, as the reference numbers them, are real. -/
theorem key_real (a1 : S40960x8x96.Idx → ℝ) (a3 : S8x256x8x96.Idx → ℝ) (b h : Fin 8) (j : Fin 4352) :
    ∃ f : Fin 96 → ℝ, ∀ d, key (fun i => (a1 i : EReal)) (fun i => (a3 i : EReal)) b j h d = (f d : EReal) := by
  have : ∀ d, ∃ r : ℝ, key (fun i => (a1 i : EReal)) (fun i => (a3 i : EReal)) b j h d = (r : EReal) := fun d => by
    unfold key; split
    · exact ⟨_, rfl⟩
    · exact ⟨_, rfl⟩
  choose f hf using this
  exact ⟨f, hf⟩

/-- One head's row: its accumulator's lane over its ones lane is the reference's attention there. The blocks are given
    by what they hold: scaled padded queries, padded keys, padded values with a one at lane 64. -/
theorem head_attn (h0 : ∀ i, ∃ r : ℝ, x0 i = r) (h1 : ∀ i, ∃ r : ℝ, x1 i = r) (h3 : ∀ i, ∃ r : ℝ, x3 i = r)
    (q : Vec Ideal S1024x128 .bf16) (kc vc : Vec Ideal S256x128 .bf16) (k1 v1 k2 v2 : Vec Ideal S2048x128 .bf16)
    (r : Fin 1024) (b h : Fin 8) (i : Fin 4096)
    (hq : ∀ d : Fin 128, q (ix2 r d) = (if e : d.val < 96 then x0 (ix3 (row b i) h ⟨d.val, e⟩) * LatentHost.scale else 0 : EReal))
    (hkc : ∀ (j : Fin 256) (d : Fin 128), kc (ix2 j d) = (if e : d.val < 96 then x3 (ix4 b j h ⟨d.val, e⟩) else 0 : EReal))
    (hvc : ∀ (j : Fin 256) (d : Fin 128), vc (ix2 j d)
      = ((if e : d.val < 64 then x4 (ix4 b j h ⟨d.val, e⟩) else 0) + if d.val = 64 then 1 else 0 : EReal))
    (hk1 : ∀ (j : Fin 2048) (d : Fin 128), k1 (ix2 j d)
      = (if e : d.val < 96 then x1 (ix3 (row b ⟨j.val, by omega⟩) h ⟨d.val, e⟩) else 0 : EReal))
    (hv1 : ∀ (j : Fin 2048) (d : Fin 128), v1 (ix2 j d)
      = ((if e : d.val < 64 then x2 (ix3 (row b ⟨j.val, by omega⟩) h ⟨d.val, e⟩) else 0) + if d.val = 64 then 1 else 0 : EReal))
    (hk2 : ∀ (j : Fin 2048) (d : Fin 128), k2 (ix2 j d)
      = (if e : d.val < 96 then x1 (ix3 (row b ⟨2048 + j.val, by omega⟩) h ⟨d.val, e⟩) else 0 : EReal))
    (hv2 : ∀ (j : Fin 2048) (d : Fin 128), v2 (ix2 j d)
      = ((if e : d.val < 64 then x2 (ix3 (row b ⟨2048 + j.val, by omega⟩) h ⟨d.val, e⟩) else 0) + if d.val = 64 then 1 else 0 : EReal))
    (l : Fin 64) :
    Ideal.div (head q kc vc k1 v1 k2 v2 (ix2 r ⟨l.val, by omega⟩)) (head q kc vc k1 v1 k2 v2 (ix2 r 64))
      = attn x0 x1 x2 x3 x4 b h i l := by
  obtain ⟨a0, a1, a3, rfl, rfl, rfl⟩ := scores_real x0 x1 x3 h0 h1 h3
  obtain ⟨c, hc⟩ := scale_bits
  have hs := scale_real c hc
  have hlog : Real.log 2 ≠ 0 := (Real.log_pos (by norm_num)).ne'
  obtain ⟨N, hN⟩ := shift_real (fun i => (a0 i : EReal)) (fun i => (a1 i : EReal)) (fun i => (a3 i : EReal))
    (fun b h i j => (key_real a1 a3 b h j).elim fun f hf => ⟨_, score_of _ _ a0 c hc b h i j f hf⟩) b h i
  obtain ⟨M, hrow⟩ := head_row q kc vc k1 v1 k2 v2 r
    (fun j => (∑ d : Fin 96, a0 (ix3 (row b i) h d) * a3 (ix4 b j h d)) * (c / Real.log 2))
    (fun j => (∑ d : Fin 96, a0 (ix3 (row b i) h d) * a1 (ix3 (row b ⟨j.val, by omega⟩) h d)) * (c / Real.log 2))
    (fun j => (∑ d : Fin 96, a0 (ix3 (row b i) h d) * a1 (ix3 (row b ⟨2048 + j.val, by omega⟩) h d)) * (c / Real.log 2))
    (fun j => by simp only [hq, hkc, hs]; exact padded (fun d => a0 (ix3 (row b i) h d)) (fun d => a3 (ix4 b j h d)) _)
    (fun j => by simp only [hq, hk1, hs]; exact padded (fun d => a0 (ix3 (row b i) h d)) (fun d => a1 (ix3 (row b ⟨j.val, by omega⟩) h d)) _)
    (fun j => by simp only [hq, hk2, hs]; exact padded (fun d => a0 (ix3 (row b i) h d)) (fun d => a1 (ix3 (row b ⟨2048 + j.val, by omega⟩) h d)) _)
  have hone : ∀ j, Sum.elim (Sum.elim (fun j l => vc (ix2 j l)) fun j l => v1 (ix2 j l)) (fun j l => v2 (ix2 j l)) j (64 : Fin 128) = (1 : EReal) := by
    rintro ((j | j) | j)
    · show vc (ix2 j 64) = (1 : EReal); rw [hvc]; simp
    · show v1 (ix2 j 64) = (1 : EReal); rw [hv1]; simp
    · show v2 (ix2 j 64) = (1 : EReal); rw [hv2]; simp
  refine (Row.quotient hrow ⟨l.val, by omega⟩ 64 hone _ (fun j => rfl) N).trans ?_
  unfold attn
  have hx : ∀ j, ((Sum.elim (Sum.elim (fun j => (∑ d : Fin 96, a0 (ix3 (row b i) h d) * a3 (ix4 b j h d)) * (c / Real.log 2))
      (fun j : Fin 2048 => (∑ d : Fin 96, a0 (ix3 (row b i) h d) * a1 (ix3 (row b ⟨j.val, by omega⟩) h d)) * (c / Real.log 2)))
      (fun j : Fin 2048 => (∑ d : Fin 96, a0 (ix3 (row b i) h d) * a1 (ix3 (row b ⟨2048 + j.val, by omega⟩) h d)) * (c / Real.log 2)) j * Real.log 2 : ℝ) : EReal)
        = score (fun i => (a0 i : EReal)) (fun i => (a1 i : EReal)) (fun i => (a3 i : EReal)) b h i (chunks j) := by
    have e : ∀ x : ℝ, x * (c / Real.log 2) * Real.log 2 = x * c := fun x => by rw [mul_assoc, div_mul_cancel₀ _ hlog]
    rintro ((j | j) | j)
    · rw [score_of _ _ a0 c hc b h i _ _ fun d => key_ctx _ _ b h d j]
      exact congrArg (fun x : ℝ => (x : EReal)) (e _)
    · rw [score_of _ _ a0 c hc b h i _ _ fun d => key_one _ _ b h d j]
      exact congrArg (fun x : ℝ => (x : EReal)) (e _)
    · rw [score_of _ _ a0 c hc b h i _ _ fun d => key_two _ _ b h d j]
      exact congrArg (fun x : ℝ => (x : EReal)) (e _)
  have hv : ∀ j, Sum.elim (Sum.elim (fun j l => vc (ix2 j l)) fun j l => v1 (ix2 j l)) (fun j l => v2 (ix2 j l)) j (⟨l.val, by omega⟩ : Fin 128)
      = value x2 x4 b (chunks j) h l := by
    have hl : ¬ l.val = 64 := by omega
    rintro ((j | j) | j)
    · rw [value_ctx]
      refine (hvc j _).trans ?_
      simp [hl]
    · rw [value_one]
      refine (hv1 j _).trans ?_
      simp [hl]
    · rw [value_two]
      refine (hv2 j _).trans ?_
      simp [hl]
  simp only [hx, hv, ← hN]
  exact sum_chunks _ (fun j => value x2 x4 b j h l) _

end Cert.LatentEquation
end
-- ==== Proof.Array.lean ====
/-
  What the kernel's output array holds: the reference's array, block by block.
-/
module

public import proofs.«01_k».proof.Proof.Equation
public import proofs.«01_k».proof.Proof.Gen.KernelIdeal.Value
public import Idealize.ShloMosaic.Lib.Pipeline.ValueKit

@[expose] public section

set_option maxRecDepth 16384

noncomputable section

namespace Cert.LatentArray

open Idealize.ShloMosaic Cert.KernelIdeal Cert.KernelIdeal.Gen Cert.KernelIdeal.Value Cert.LatentHost

/-- A grid point counts requests, head pairs and query blocks: where its query block lies. -/
theorem at0 : ∀ t : Fin cfg0.N, win0_0.index t = ![8 + t.val / 16 * 4 + t.val % 4, t.val / 4 % 4] :=
  (by decide +kernel : ∀ t : Fin grid0.N, _)
/-- Where a grid point's keys lie. -/
theorem at1 : ∀ t : Fin cfg0.N, win0_1.index t = ![2 + t.val / 16, t.val / 4 % 4] :=
  (by decide +kernel : ∀ t : Fin grid0.N, _)
/-- Where a grid point's values lie. -/
theorem at2 : ∀ t : Fin cfg0.N, win0_2.index t = ![2 + t.val / 16, t.val / 4 % 4] :=
  (by decide +kernel : ∀ t : Fin grid0.N, _)
/-- Where a grid point's context keys lie. -/
theorem at3 : ∀ t : Fin cfg0.N, win0_3.index t = ![t.val / 16, t.val / 4 % 4] :=
  (by decide +kernel : ∀ t : Fin grid0.N, _)
/-- Where a grid point's context values lie. -/
theorem at4 : ∀ t : Fin cfg0.N, win0_4.index t = ![t.val / 16, t.val / 4 % 4] :=
  (by decide +kernel : ∀ t : Fin grid0.N, _)
/-- Where a grid point's output block lies. -/
theorem at5 : ∀ t : Fin cfg0.N, win0_5.index t = ![t.val / 16 * 4 + t.val % 4, t.val / 4 % 4] :=
  (by decide +kernel : ∀ t : Fin grid0.N, _)

variable (m : (ℓ : Loc nD τ sig) → Buf (Elt Ideal) ℓ) (c : Dev nD)

/-- Where an element of a grid point's queries lies in their array. -/
theorem blk0 (t : Fin cfg0.N) (y : S1024x256.Idx) (i : Fin 40960) (j : Fin 1024) (hi : (8 + t.val / 16 * 4 + t.val % 4) * 1024 + (y 0).val = i.val)
    (hj : t.val / 4 % 4 * 256 + (y 1).val = j.val) : iblk m c 0 t y = V m c main_v7 (ix2 i j) := by
  show V m c main_v7 ((win0_0.blk t).view.emb y) = _
  refine congrArg (V m c main_v7) ?_
  blk_ext [at0]

/-- Where an element of a grid point's keys lies in their array. -/
theorem blk1 (t : Fin cfg0.N) (y : S4096x256.Idx) (i : Fin 40960) (j : Fin 1024) (hi : (2 + t.val / 16) * 4096 + (y 0).val = i.val)
    (hj : t.val / 4 % 4 * 256 + (y 1).val = j.val) : iblk m c 1 t y = V m c main_v10 (ix2 i j) := by
  show V m c main_v10 ((win0_1.blk t).view.emb y) = _
  refine congrArg (V m c main_v10) ?_
  blk_ext [at1]

/-- Where an element of a grid point's values lies in their array. -/
theorem blk2 (t : Fin cfg0.N) (y : S4096x256.Idx) (i : Fin 40960) (j : Fin 1024) (hi : (2 + t.val / 16) * 4096 + (y 0).val = i.val)
    (hj : t.val / 4 % 4 * 256 + (y 1).val = j.val) : iblk m c 2 t y = V m c main_v23 (ix2 i j) := by
  show V m c main_v23 ((win0_2.blk t).view.emb y) = _
  refine congrArg (V m c main_v23) ?_
  blk_ext [at2]

/-- Where an element of a grid point's context keys lies in their array. -/
theorem blk3 (t : Fin cfg0.N) (y : S256x256.Idx) (i : Fin 2048) (j : Fin 1024) (hi : t.val / 16 * 256 + (y 0).val = i.val)
    (hj : t.val / 4 % 4 * 256 + (y 1).val = j.val) : iblk m c 3 t y = V m c main_v27 (ix2 i j) := by
  show V m c main_v27 ((win0_3.blk t).view.emb y) = _
  refine congrArg (V m c main_v27) ?_
  blk_ext [at3]

/-- Where an element of a grid point's context values lies in their array. -/
theorem blk4 (t : Fin cfg0.N) (y : S256x256.Idx) (i : Fin 2048) (j : Fin 1024) (hi : t.val / 16 * 256 + (y 0).val = i.val)
    (hj : t.val / 4 % 4 * 256 + (y 1).val = j.val) : iblk m c 4 t y = V m c main_v41 (ix2 i j) := by
  show V m c main_v41 ((win0_4.blk t).view.emb y) = _
  refine congrArg (V m c main_v41) ?_
  blk_ext [at4]

/-- The left head of a grid point, over its ones lane, is the reference's attention of that head. -/
theorem left (h0 : ∀ i, ∃ r : ℝ, q m c i = r) (h1 : ∀ i, ∃ r : ℝ, k m c i = r) (h3 : ∀ i, ∃ r : ℝ, kc m c i = r)
    (t : Fin cfg0.N) (r : Fin 1024) (b h : Fin 8) (i : Fin 4096) (l : Fin 64)
    (hb : b.val = t.val / 16) (hh : h.val = 2 * (t.val / 4 % 4) + 0) (hi : i.val = 1024 * (t.val % 4) + r.val) :
    Ideal.div (LatentBlock.head (View.ld (iblk m c 0 t) r0_0) (View.ld (iblk m c 3 t) r0_2) (View.ld (iblk m c 4 t) r0_2)
        (View.ld (iblk m c 1 t) r0_4) (View.ld (iblk m c 2 t) r0_4) (View.ld (iblk m c 1 t) r0_6) (View.ld (iblk m c 2 t) r0_6) (ix2 r ⟨l.val, by omega⟩))
      (LatentBlock.head (View.ld (iblk m c 0 t) r0_0) (View.ld (iblk m c 3 t) r0_2) (View.ld (iblk m c 4 t) r0_2)
        (View.ld (iblk m c 1 t) r0_4) (View.ld (iblk m c 2 t) r0_4) (View.ld (iblk m c 1 t) r0_6) (View.ld (iblk m c 2 t) r0_6) (ix2 r 64))
      = LatentEquation.attn (q m c) (k m c) (v m c) (kc m c) (vc m c) b h i l := by
  have ht : t.val < 128 := t.isLt
  refine LatentEquation.head_attn _ _ _ _ _ h0 h1 h3 _ _ _ _ _ _ _ r b h i ?_ ?_ ?_ ?_ ?_ ?_ ?_ l
  · intro d
    have e0 : (r0_0.idx (ix2 r d) 0).val = 0 + r.val := Rect.idx_unit_val _ _ _ _ _
    have e1 : (r0_0.idx (ix2 r d) 1).val = 0 + d.val := Rect.idx_unit_val _ _ _ _ _
    refine (blk0 m c t (r0_0.idx (ix2 r d)) (LatentRef.row b i) ⟨128 * h.val + d.val, by omega⟩ ?_ ?_).trans ?_
    · rw [e0]; show _ = 8192 + 4096 * b.val + i.val; omega
    · rw [e1]; show _ = 128 * h.val + d.val; omega
    · exact q_at m c _ h d _ rfl
  · intro j d
    have e0 : (r0_2.idx (ix2 j d) 0).val = 0 + j.val := Rect.idx_unit_val _ _ _ _ _
    have e1 : (r0_2.idx (ix2 j d) 1).val = 0 + d.val := Rect.idx_unit_val _ _ _ _ _
    refine (blk3 m c t (r0_2.idx (ix2 j d)) ⟨256 * b.val + j.val, by omega⟩ ⟨128 * h.val + d.val, by omega⟩ ?_ ?_).trans ?_
    · rw [e0]; show _ = 256 * b.val + j.val; omega
    · rw [e1]; show _ = 128 * h.val + d.val; omega
    · refine (kc_at m c _ h d _ rfl).trans ?_
      have ea : (⟨(256 * b.val + j.val) / 256, by omega⟩ : Fin 8) = b := Fin.ext (by show (256 * b.val + j.val) / 256 = b.val; omega)
      have eb : (⟨(256 * b.val + j.val) % 256, by omega⟩ : Fin 256) = j := Fin.ext (by show (256 * b.val + j.val) % 256 = j.val; omega)
      simp only [ea, eb]
  · intro j d
    have e0 : (r0_2.idx (ix2 j d) 0).val = 0 + j.val := Rect.idx_unit_val _ _ _ _ _
    have e1 : (r0_2.idx (ix2 j d) 1).val = 0 + d.val := Rect.idx_unit_val _ _ _ _ _
    refine (blk4 m c t (r0_2.idx (ix2 j d)) ⟨256 * b.val + j.val, by omega⟩ ⟨128 * h.val + d.val, by omega⟩ ?_ ?_).trans ?_
    · rw [e0]; show _ = 256 * b.val + j.val; omega
    · rw [e1]; show _ = 128 * h.val + d.val; omega
    · refine (vc_at m c _ h d _ rfl).trans ?_
      have ea : (⟨(256 * b.val + j.val) / 256, by omega⟩ : Fin 8) = b := Fin.ext (by show (256 * b.val + j.val) / 256 = b.val; omega)
      have eb : (⟨(256 * b.val + j.val) % 256, by omega⟩ : Fin 256) = j := Fin.ext (by show (256 * b.val + j.val) % 256 = j.val; omega)
      simp only [ea, eb]
  · intro j d
    have e0 : (r0_4.idx (ix2 j d) 0).val = 0 + j.val := Rect.idx_unit_val _ _ _ _ _
    have e1 : (r0_4.idx (ix2 j d) 1).val = 0 + d.val := Rect.idx_unit_val _ _ _ _ _
    refine (blk1 m c t (r0_4.idx (ix2 j d)) (LatentRef.row b ⟨j.val, by omega⟩) ⟨128 * h.val + d.val, by omega⟩ ?_ ?_).trans ?_
    · rw [e0]; show _ = 8192 + 4096 * b.val + j.val; omega
    · rw [e1]; show _ = 128 * h.val + d.val; omega
    · exact k_at m c _ h d _ rfl
  · intro j d
    have e0 : (r0_4.idx (ix2 j d) 0).val = 0 + j.val := Rect.idx_unit_val _ _ _ _ _
    have e1 : (r0_4.idx (ix2 j d) 1).val = 0 + d.val := Rect.idx_unit_val _ _ _ _ _
    refine (blk2 m c t (r0_4.idx (ix2 j d)) (LatentRef.row b ⟨j.val, by omega⟩) ⟨128 * h.val + d.val, by omega⟩ ?_ ?_).trans ?_
    · rw [e0]; show _ = 8192 + 4096 * b.val + j.val; omega
    · rw [e1]; show _ = 128 * h.val + d.val; omega
    · exact v_at m c _ h d _ rfl
  · intro j d
    have e0 : (r0_6.idx (ix2 j d) 0).val = 2048 + j.val := Rect.idx_unit_val _ _ _ _ _
    have e1 : (r0_6.idx (ix2 j d) 1).val = 0 + d.val := Rect.idx_unit_val _ _ _ _ _
    refine (blk1 m c t (r0_6.idx (ix2 j d)) (LatentRef.row b ⟨2048 + j.val, by omega⟩) ⟨128 * h.val + d.val, by omega⟩ ?_ ?_).trans ?_
    · rw [e0]; show _ = 8192 + 4096 * b.val + (2048 + j.val); omega
    · rw [e1]; show _ = 128 * h.val + d.val; omega
    · exact k_at m c _ h d _ rfl
  · intro j d
    have e0 : (r0_6.idx (ix2 j d) 0).val = 2048 + j.val := Rect.idx_unit_val _ _ _ _ _
    have e1 : (r0_6.idx (ix2 j d) 1).val = 0 + d.val := Rect.idx_unit_val _ _ _ _ _
    refine (blk2 m c t (r0_6.idx (ix2 j d)) (LatentRef.row b ⟨2048 + j.val, by omega⟩) ⟨128 * h.val + d.val, by omega⟩ ?_ ?_).trans ?_
    · rw [e0]; show _ = 8192 + 4096 * b.val + (2048 + j.val); omega
    · rw [e1]; show _ = 128 * h.val + d.val; omega
    · exact v_at m c _ h d _ rfl

/-- The right head of a grid point, over its ones lane, is the reference's attention of that head. -/
theorem right (h0 : ∀ i, ∃ r : ℝ, q m c i = r) (h1 : ∀ i, ∃ r : ℝ, k m c i = r) (h3 : ∀ i, ∃ r : ℝ, kc m c i = r)
    (t : Fin cfg0.N) (r : Fin 1024) (b h : Fin 8) (i : Fin 4096) (l : Fin 64)
    (hb : b.val = t.val / 16) (hh : h.val = 2 * (t.val / 4 % 4) + 1) (hi : i.val = 1024 * (t.val % 4) + r.val) :
    Ideal.div (LatentBlock.head (View.ld (iblk m c 0 t) r0_1) (View.ld (iblk m c 3 t) r0_3) (View.ld (iblk m c 4 t) r0_3)
        (View.ld (iblk m c 1 t) r0_5) (View.ld (iblk m c 2 t) r0_5) (View.ld (iblk m c 1 t) r0_7) (View.ld (iblk m c 2 t) r0_7) (ix2 r ⟨l.val, by omega⟩))
      (LatentBlock.head (View.ld (iblk m c 0 t) r0_1) (View.ld (iblk m c 3 t) r0_3) (View.ld (iblk m c 4 t) r0_3)
        (View.ld (iblk m c 1 t) r0_5) (View.ld (iblk m c 2 t) r0_5) (View.ld (iblk m c 1 t) r0_7) (View.ld (iblk m c 2 t) r0_7) (ix2 r 64))
      = LatentEquation.attn (q m c) (k m c) (v m c) (kc m c) (vc m c) b h i l := by
  have ht : t.val < 128 := t.isLt
  refine LatentEquation.head_attn _ _ _ _ _ h0 h1 h3 _ _ _ _ _ _ _ r b h i ?_ ?_ ?_ ?_ ?_ ?_ ?_ l
  · intro d
    have e0 : (r0_1.idx (ix2 r d) 0).val = 0 + r.val := Rect.idx_unit_val _ _ _ _ _
    have e1 : (r0_1.idx (ix2 r d) 1).val = 128 + d.val := Rect.idx_unit_val _ _ _ _ _
    refine (blk0 m c t (r0_1.idx (ix2 r d)) (LatentRef.row b i) ⟨128 * h.val + d.val, by omega⟩ ?_ ?_).trans ?_
    · rw [e0]; show _ = 8192 + 4096 * b.val + i.val; omega
    · rw [e1]; show _ = 128 * h.val + d.val; omega
    · exact q_at m c _ h d _ rfl
  · intro j d
    have e0 : (r0_3.idx (ix2 j d) 0).val = 0 + j.val := Rect.idx_unit_val _ _ _ _ _
    have e1 : (r0_3.idx (ix2 j d) 1).val = 128 + d.val := Rect.idx_unit_val _ _ _ _ _
    refine (blk3 m c t (r0_3.idx (ix2 j d)) ⟨256 * b.val + j.val, by omega⟩ ⟨128 * h.val + d.val, by omega⟩ ?_ ?_).trans ?_
    · rw [e0]; show _ = 256 * b.val + j.val; omega
    · rw [e1]; show _ = 128 * h.val + d.val; omega
    · refine (kc_at m c _ h d _ rfl).trans ?_
      have ea : (⟨(256 * b.val + j.val) / 256, by omega⟩ : Fin 8) = b := Fin.ext (by show (256 * b.val + j.val) / 256 = b.val; omega)
      have eb : (⟨(256 * b.val + j.val) % 256, by omega⟩ : Fin 256) = j := Fin.ext (by show (256 * b.val + j.val) % 256 = j.val; omega)
      simp only [ea, eb]
  · intro j d
    have e0 : (r0_3.idx (ix2 j d) 0).val = 0 + j.val := Rect.idx_unit_val _ _ _ _ _
    have e1 : (r0_3.idx (ix2 j d) 1).val = 128 + d.val := Rect.idx_unit_val _ _ _ _ _
    refine (blk4 m c t (r0_3.idx (ix2 j d)) ⟨256 * b.val + j.val, by omega⟩ ⟨128 * h.val + d.val, by omega⟩ ?_ ?_).trans ?_
    · rw [e0]; show _ = 256 * b.val + j.val; omega
    · rw [e1]; show _ = 128 * h.val + d.val; omega
    · refine (vc_at m c _ h d _ rfl).trans ?_
      have ea : (⟨(256 * b.val + j.val) / 256, by omega⟩ : Fin 8) = b := Fin.ext (by show (256 * b.val + j.val) / 256 = b.val; omega)
      have eb : (⟨(256 * b.val + j.val) % 256, by omega⟩ : Fin 256) = j := Fin.ext (by show (256 * b.val + j.val) % 256 = j.val; omega)
      simp only [ea, eb]
  · intro j d
    have e0 : (r0_5.idx (ix2 j d) 0).val = 0 + j.val := Rect.idx_unit_val _ _ _ _ _
    have e1 : (r0_5.idx (ix2 j d) 1).val = 128 + d.val := Rect.idx_unit_val _ _ _ _ _
    refine (blk1 m c t (r0_5.idx (ix2 j d)) (LatentRef.row b ⟨j.val, by omega⟩) ⟨128 * h.val + d.val, by omega⟩ ?_ ?_).trans ?_
    · rw [e0]; show _ = 8192 + 4096 * b.val + j.val; omega
    · rw [e1]; show _ = 128 * h.val + d.val; omega
    · exact k_at m c _ h d _ rfl
  · intro j d
    have e0 : (r0_5.idx (ix2 j d) 0).val = 0 + j.val := Rect.idx_unit_val _ _ _ _ _
    have e1 : (r0_5.idx (ix2 j d) 1).val = 128 + d.val := Rect.idx_unit_val _ _ _ _ _
    refine (blk2 m c t (r0_5.idx (ix2 j d)) (LatentRef.row b ⟨j.val, by omega⟩) ⟨128 * h.val + d.val, by omega⟩ ?_ ?_).trans ?_
    · rw [e0]; show _ = 8192 + 4096 * b.val + j.val; omega
    · rw [e1]; show _ = 128 * h.val + d.val; omega
    · exact v_at m c _ h d _ rfl
  · intro j d
    have e0 : (r0_7.idx (ix2 j d) 0).val = 2048 + j.val := Rect.idx_unit_val _ _ _ _ _
    have e1 : (r0_7.idx (ix2 j d) 1).val = 128 + d.val := Rect.idx_unit_val _ _ _ _ _
    refine (blk1 m c t (r0_7.idx (ix2 j d)) (LatentRef.row b ⟨2048 + j.val, by omega⟩) ⟨128 * h.val + d.val, by omega⟩ ?_ ?_).trans ?_
    · rw [e0]; show _ = 8192 + 4096 * b.val + (2048 + j.val); omega
    · rw [e1]; show _ = 128 * h.val + d.val; omega
    · exact k_at m c _ h d _ rfl
  · intro j d
    have e0 : (r0_7.idx (ix2 j d) 0).val = 2048 + j.val := Rect.idx_unit_val _ _ _ _ _
    have e1 : (r0_7.idx (ix2 j d) 1).val = 128 + d.val := Rect.idx_unit_val _ _ _ _ _
    refine (blk2 m c t (r0_7.idx (ix2 j d)) (LatentRef.row b ⟨2048 + j.val, by omega⟩) ⟨128 * h.val + d.val, by omega⟩ ?_ ?_).trans ?_
    · rw [e0]; show _ = 8192 + 4096 * b.val + (2048 + j.val); omega
    · rw [e1]; show _ = 128 * h.val + d.val; omega
    · exact v_at m c _ h d _ rfl

/-- The array the kernel leaves is the reference's. -/
theorem final (h0 : ∀ i, ∃ r : ℝ, q m c i = r) (h1 : ∀ i, ∃ r : ℝ, k m c i = r) (h3 : ∀ i, ∃ r : ℝ, kc m c i = r) :
    (dats m 0 c).arrAt 5 cfg0.N = ReferenceIdeal.Read.val_main_v25 (F := Ideal) (q m c) (k m c) (v m c) (kc m c) (vc m c) := by
  refine (dats m 0 c).arrAt_eq_of_covers 5 _ (by decide +kernel) fun t hf y => ?_
  blk_simp
  rw [after0_5, LatentBlock.out_eq]
  have ht : t.val < 128 := t.isLt
  idx_vars y
  have e : ((View.whole main_v42).slice (win0_5.rect t)).emb (ix2 y0 y1)
      = (ix2 (⟨(t.val / 16 * 4 + t.val % 4) * 1024 + y0.val, by omega⟩ : Fin 32768) (⟨t.val / 4 % 4 * 128 + y1.val, by omega⟩ : Fin 512) : S32768x512.Idx) := by
    blk_ext [at5]
  rw [e, LatentBlock.store_apply]
  by_cases hl : y1.val < 64
  · rw [dif_pos hl]
    refine (left m c h0 h1 h3 t y0 ⟨t.val / 16, by omega⟩ ⟨2 * (t.val / 4 % 4), by omega⟩ ⟨1024 * (t.val % 4) + y0.val, by omega⟩
      ⟨y1.val, hl⟩ rfl rfl rfl).trans ?_
    exact (LatentRef.o_at _ _ _ _ _ _ _ _ _ _ _ (by show _ = 4096 * (t.val / 16) + (1024 * (t.val % 4) + y0.val); dsimp only; omega)
      (by show _ = 64 * (2 * (t.val / 4 % 4)) + y1.val; dsimp only; omega)).symm
  · rw [dif_neg hl]
    refine (right m c h0 h1 h3 t y0 ⟨t.val / 16, by omega⟩ ⟨2 * (t.val / 4 % 4) + 1, by omega⟩ ⟨1024 * (t.val % 4) + y0.val, by omega⟩
      ⟨y1.val - 64, by omega⟩ rfl rfl rfl).trans ?_
    exact (LatentRef.o_at _ _ _ _ _ _ _ _ _ _ _ (by show _ = 4096 * (t.val / 16) + (1024 * (t.val % 4) + y0.val); dsimp only; omega)
      (by show _ = 64 * (2 * (t.val / 4 % 4) + 1) + (y1.val - 64); dsimp only; omega)).symm

end Cert.LatentArray
end
-- ==== Proof.Finite.lean ====
/-
  The precondition read: every query and key is a real number.
-/
module

public import proofs.«01_k».proof.Proof.Gen.Pre_finite
public import Idealize.ShloMosaic.Lib.ReduceAll
public import Idealize.ShloMosaic.PureOps.Ideal

@[expose] public section

noncomputable section

namespace Cert.LatentFinite

open Cert.Pre_finite
open Idealize.ShloMosaic

/-- An extended real whose absolute value is below infinity is real. -/
theorem real_of_abs_lt {x : EReal} (h : max x (-x) < ⊤) : ∃ r : ℝ, x = r := by
  induction x using EReal.rec with
  | bot => simp at h
  | coe r => exact ⟨r, rfl⟩
  | top => simp at h

/-- An array every element of which compares below infinity in absolute value is an array of reals. -/
theorem real_of_all {s u t : Shape} {axes : List (Fin s.rank)} [Subsingleton t.Idx] (x : FVec Ideal s .f32) (y : FVec Ideal s .f32)
    (hy : ∀ i, y i = (⊤ : EReal)) (init : u.Idx → BitVec 1) (h : s.ReducesTo axes t) (hu : 0 < u.numel) (j : t.Idx)
    (e : Host.reduce IntOp.andi (cmpf .olt (Host.absf x) y) init h hu j = 1#1) (i : s.Idx) : ∃ r : ℝ, (x i : EReal) = r := by
  have hi : BitVec.ofBool (decide (max (x i : EReal) (-(x i : EReal)) < y i)) = 1#1 := Host.reduce_andi_all _ init h hu j e i
  rw [hy] at hi
  refine real_of_abs_lt (of_decide_eq_true ?_)
  revert hi
  cases decide (max (x i : EReal) (-(x i : EReal)) < ⊤) <;> simp

instance : Subsingleton S_.Idx := ⟨fun a b => funext fun i => i.elim0⟩

/-- Under the precondition the queries, the keys and the cached keys are real. -/
theorem reals [Facts] (x0 x1 : FVec Ideal S40960x8x96 .f32) (x2 : FVec Ideal S40960x8x64 .f32) (x3 : FVec Ideal S8x256x8x96 .f32)
    (x4 : FVec Ideal S8x256x8x64 .f32) (h : fn x0 x1 x2 x3 x4 = fun _ => 1#1) :
    (∀ i, ∃ r : ℝ, (x0 i : EReal) = r) ∧ (∀ i, ∃ r : ℝ, (x1 i : EReal) = r) ∧ ∀ i, ∃ r : ℝ, (x3 i : EReal) = r := by
  have hz : S_.Idx := fun i => i.elim0
  have h0 := congrFun h hz
  have ht : Ideal.ofBits FTy.f32 0x7F800000#32 = (⊤ : EReal) := by simp [Ideal.ofBits, Ideal.ieee]
  obtain ⟨h01, h3⟩ := IntOp.andi_eq_one.1 h0
  obtain ⟨h0, h1⟩ := IntOp.andi_eq_one.1 h01
  exact ⟨real_of_all x0 _ (fun _ => ht) _ _ _ _ h0, real_of_all x1 _ (fun _ => ht) _ _ _ _ h1, real_of_all x3 _ (fun _ => ht) _ _ _ _ h3⟩

end Cert.LatentFinite
end
-- ==== Proof.Row.lean ====
/-
  One token's row: the normalised and modulated row, the gated feed-forward of it, and the merge of three mixers.
-/
module

public import Idealize.ShloMosaic.Lib.Pointwise

@[expose] public section

noncomputable section

namespace Cert.Row

open Idealize.ShloMosaic
open scoped BigOperators

/-- The pattern of one. -/
theorem one_bits : Ideal.ofBits FTy.f32 0x3F800000#32 = 1 := by
  simp [Ideal.ofBits, Ideal.ieee, -EReal.coe_mul]
  norm_num

/-- The mean as a product with a 1024th is the mean as a quotient by 1024. -/
theorem mean_bits (s : EReal) : Ideal.div s (Ideal.ofBits FTy.f32 0x44800000#32) = s * Ideal.ofBits FTy.f32 0x3A800000#32 := by
  have e1 : Ideal.ofBits FTy.f32 0x44800000#32 = ((1024 : ℝ) : EReal) := by
    simp [Ideal.ofBits, Ideal.ieee, -EReal.coe_mul]
    norm_num
  have e2 : Ideal.ofBits FTy.f32 0x3A800000#32 = ((1 / 1024 : ℝ) : EReal) := by
    simp [Ideal.ofBits, Ideal.ieee, -EReal.coe_mul]
    norm_num
  rw [e1, e2, Ideal.div_coe (by norm_num)]

/-- A token's row: the context's 32 × 256 tokens come first, the requests' 8 × 4096 after. -/
def tok {n : Nat} (a : Fin 32 → Fin 256 → Fin n → EReal) (b : Fin 8 → Fin 4096 → Fin n → EReal) (i : Fin 40960) (d : Fin n) : EReal :=
  if e : i.val < 8192 then a ⟨i.val / 256, by omega⟩ ⟨i.val % 256, by omega⟩ d
  else b ⟨(i.val - 8192) / 4096, by omega⟩ ⟨(i.val - 8192) % 4096, by omega⟩ d

/-- A token's row of the modulation: the context's is the first, a request's own is after it. -/
def grp (i : Fin 40960) : Fin 9 := if i.val < 8192 then 0 else ⟨1 + (i.val - 8192) / 4096, by omega⟩

/-- A token's share of the modulation: one of the six parts of its row. -/
def part (mod : Fin 9 → Fin 6144 → EReal) (i : Fin 40960) (j : Fin 6) (k : Fin 1024) : EReal := mod (grp i) ⟨j.val * 1024 + k.val, by omega⟩

/-- A context token's row. -/
theorem tok_ctx {n : Nat} (a : Fin 32 → Fin 256 → Fin n → EReal) (b : Fin 8 → Fin 4096 → Fin n → EReal) (i : Fin 40960) (h : i.val < 8192) :
    tok a b i = fun d => a ⟨i.val / 256, by omega⟩ ⟨i.val % 256, by omega⟩ d := funext fun _ => dif_pos h

/-- A request token's row. -/
theorem tok_req {n : Nat} (a : Fin 32 → Fin 256 → Fin n → EReal) (b : Fin 8 → Fin 4096 → Fin n → EReal) (i : Fin 40960) (h : ¬ i.val < 8192) :
    tok a b i = fun d => b ⟨(i.val - 8192) / 4096, by omega⟩ ⟨(i.val - 8192) % 4096, by omega⟩ d := funext fun _ => dif_neg h

/-- A context token's share of the modulation. -/
theorem part_ctx (mod : Fin 9 → Fin 6144 → EReal) (i : Fin 40960) (j : Fin 6) (h : i.val < 8192) :
    part mod i j = fun k => mod 0 ⟨j.val * 1024 + k.val, by omega⟩ := by
  have e : grp i = 0 := if_pos h
  funext k
  exact congrArg (fun g => mod g _) e

/-- A request token's share of the modulation. -/
theorem part_req (mod : Fin 9 → Fin 6144 → EReal) (i : Fin 40960) (j : Fin 6) (h : ¬ i.val < 8192) :
    part mod i j = fun k => mod ⟨1 + (i.val - 8192) / 4096, by omega⟩ ⟨j.val * 1024 + k.val, by omega⟩ := by
  have e : grp i = ⟨1 + (i.val - 8192) / 4096, by omega⟩ := if_neg h
  funext k
  exact congrArg (fun g => mod g _) e

/-- The row divided by its root mean square, times the gain, then scaled and shifted by the modulation. -/
def norm (x g sc sh : Fin 1024 → EReal) (d : Fin 1024) : EReal :=
  x d * Ideal.rsqrt ((∑ k, x k * x k) * Ideal.ofBits FTy.f32 0x3A800000#32 + Ideal.ofBits FTy.f32 0x358637BD#32) * g d * (1 + sc d) + sh d

/-- The normalised row's product with one column of a weight. -/
def proj (x g sc sh w : Fin 1024 → EReal) : EReal := ∑ k, norm x g sc sh k * w k

/-- A number times its logistic. -/
def silu (a : EReal) : EReal := a * Ideal.logistic a

/-- The feed-forward of a row: the row, and the gate times the gated product's image. -/
def feed (x g sc sh gate : Fin 1024 → EReal) (w1 w3 : Fin 1024 → Fin 2816 → EReal) (w2 : Fin 2816 → Fin 1024 → EReal) (d : Fin 1024) : EReal :=
  x d + gate d * ∑ f, silu (∑ k, norm x g sc sh k * w1 k f) * (∑ k, norm x g sc sh k * w3 k f) * w2 f d

/-- The merge of a row: the row, and its modulation times the image of the three mixers' images, each under its gate. -/
def mix (p h : Fin 256 → EReal) (a : Fin 512 → EReal) (g0 g1 g2 x gate : Fin 1024 → EReal) (wp wh : Fin 256 → Fin 1024 → EReal)
    (wa : Fin 512 → Fin 1024 → EReal) (wo : Fin 1024 → Fin 1024 → EReal) (d : Fin 1024) : EReal :=
  x d + gate d * ∑ k, (Ideal.logistic (g0 k) * (∑ j, p j * wp j k) + Ideal.logistic (g1 k) * (∑ j, h j * wh j k)
    + Ideal.logistic (g2 k) * (∑ j, a j * wa j k)) * wo k d

/-- The logistic as the quotient of one by one plus an exponential of the difference from zero. -/
theorem logistic_eq (a : EReal) : Ideal.div 1 (1 + Ideal.exp (0 - a)) = Ideal.logistic a := by
  rw [zero_sub]
  rfl

end Cert.Row
end
-- ==== Proof.FfnBlock.lean ====
/-
  What one grid point of the dense feed-forward computes: each row of its block.
-/
module

public import proofs.«01_k».proof.Proof.Gen.Kernel2Ideal.Frame
public import proofs.«01_k».proof.Proof.Row
public import Idealize.ShloMosaic.Lib.Pipeline.ValueKit

@[expose] public section

set_option maxRecDepth 16384

noncomputable section

namespace Cert.FfnBlock

open Cert.Kernel2Ideal Cert.Kernel2Ideal.Gen
open Idealize.ShloMosaic
open scoped BigOperators

/-- The 256 rows a store holds, from the modulation, the gain, the rows and the weights. -/
def rows (m : Vec Ideal S1x6x1024 .f32) (g : Vec Ideal S1x1024 .f32) (x : Vec Ideal S256x1024 .f32) (w1 w3 : Vec Ideal S1024x2816 .bf16)
    (w2 : Vec Ideal S2816x1024 .bf16) : FVec Ideal S256x1024 .f32 :=
  k0_pay10 (k0_pay2 m) (k0_pay4 x) (k0_pay6 m g x w1) (k0_pay7 m g x w3) (k0_pay8 m g x w1) (k0_pay9 (F := Ideal)) w2

/-- The normalised row. -/
theorem norm_at (m : Vec Ideal S1x6x1024 .f32) (g : Vec Ideal S1x1024 .f32) (x : Vec Ideal S256x1024 .f32) (r : Fin 256) (d : Fin 1024) :
    k0_pay5 m g x (ix2 r d) = Row.norm (fun k => x (ix2 r k)) (fun k => g (ix2 0 k)) (fun k => m (ix3 0 4 k)) (fun k => m (ix3 0 3 k)) d := by
  unfold_payloads
  pointwise
  simp only [Row.norm, Row.one_bits]

/-- The first product. -/
theorem one_at (m : Vec Ideal S1x6x1024 .f32) (g : Vec Ideal S1x1024 .f32) (x : Vec Ideal S256x1024 .f32) (w : Vec Ideal S1024x2816 .bf16)
    (r : Fin 256) (f : Fin 2816) : k0_pay6 m g x w (ix2 r f) = ∑ k : Fin 1024, k0_pay5 m g x (ix2 r k) * w (ix2 k f) := by
  unfold k0_pay6
  generalize k0_pay5 m g x = h
  pointwise

/-- The second product. -/
theorem two_at (m : Vec Ideal S1x6x1024 .f32) (g : Vec Ideal S1x1024 .f32) (x : Vec Ideal S256x1024 .f32) (w : Vec Ideal S1024x2816 .bf16)
    (r : Fin 256) (f : Fin 2816) : k0_pay7 m g x w (ix2 r f) = ∑ k : Fin 1024, k0_pay5 m g x (ix2 r k) * w (ix2 k f) := one_at m g x w r f

/-- A stored row is the feed-forward of its row. -/
theorem rows_at (m : Vec Ideal S1x6x1024 .f32) (g : Vec Ideal S1x1024 .f32) (x : Vec Ideal S256x1024 .f32) (w1 w3 : Vec Ideal S1024x2816 .bf16)
    (w2 : Vec Ideal S2816x1024 .bf16) (r : Fin 256) (d : Fin 1024) :
    rows m g x w1 w3 w2 (ix2 r d) = Row.feed (fun k => x (ix2 r k)) (fun k => g (ix2 0 k)) (fun k => m (ix3 0 4 k)) (fun k => m (ix3 0 3 k))
      (fun k => m (ix3 0 5 k)) (fun k f => w1 (ix2 k f)) (fun k f => w3 (ix2 k f)) (fun f k => w2 (ix2 f k)) d := by
  have e : ∀ f, k0_pay8 m g x w1 (ix2 r f) = 1 + Ideal.exp (0 - k0_pay6 m g x w1 (ix2 r f)) := fun f => by
    unfold k0_pay8
    generalize k0_pay6 m g x w1 = h
    pointwise
  unfold rows k0_pay10 k0_pay9
  generalize h1 : k0_pay6 m g x w1 = a at e ⊢
  generalize h3 : k0_pay7 m g x w3 = b
  generalize h8 : k0_pay8 m g x w1 = c at e ⊢
  unfold k0_pay2 k0_pay4
  pointwise
  subst h1 h3
  simp only [e, one_at, two_at, norm_at, Row.one_bits, Row.logistic_eq]
  rfl

/-- A block of whole rows keeps the lane. -/
theorem lane (n : Nat) (h : ∀ a, (![n, 0] : Fin 2 → Nat) a + S256x1024.size a ≤ S1024x1024.size a) (y0 : Fin 256) (y1 : Fin 1024) :
    (Rect.unit (s := S1024x1024) ![n, 0] S256x1024.size h).emb (ix2 y0 y1) 1 = y1 := Fin.ext ((Rect.idx_unit_val _ _ _ _ _).trans (Nat.zero_add _))

/-- What a grid point leaves in its output block. -/
theorem out_at (x0 : Vec Ideal S1024x1024 .f32) (x1 : Vec Ideal S1x6x1024 .f32) (x2 : Vec Ideal S1x1024 .f32) (x3 x4 : Vec Ideal S1024x2816 .bf16)
    (x5 : Vec Ideal S2816x1024 .bf16) (r d : Fin 1024) :
    out0_6 x0 x1 x2 x3 x4 x5 (ix2 r d) = Row.feed (fun k => x0 (ix2 r k)) (fun k => x2 (ix2 0 k)) (fun k => x1 (ix3 0 4 k)) (fun k => x1 (ix3 0 3 k))
      (fun k => x1 (ix3 0 5 k)) (fun k f => x3 (ix2 k f)) (fun k f => x4 (ix2 k f)) (fun f k => x5 (ix2 f k)) d := by
  have f0 : View.ld x1 r0_0 = x1 := View.ld_unit_zero (by funext a; fin_cases a <;> rfl) _ x1
  have f1 : View.ld x2 r0_1 = x2 := View.ld_unit_zero (by funext a; fin_cases a <;> rfl) _ x2
  have f3 : View.ld x3 r0_3 = x3 := View.ld_unit_zero (by funext a; fin_cases a <;> rfl) _ x3
  have f4 : View.ld x4 r0_3 = x4 := View.ld_unit_zero (by funext a; fin_cases a <;> rfl) _ x4
  have f5 : View.ld x5 r0_4 = x5 := View.ld_unit_zero (by funext a; fin_cases a <;> rfl) _ x5
  have e : out0_6 x0 x1 x2 x3 x4 x5 = View.canon [⟨r0_7, rows x1 x2 (View.ld x0 r0_7) x3 x4 x5⟩, ⟨r0_6, rows x1 x2 (View.ld x0 r0_6) x3 x4 x5⟩,
      ⟨r0_5, rows x1 x2 (View.ld x0 r0_5) x3 x4 x5⟩, ⟨r0_2, rows x1 x2 (View.ld x0 r0_2) x3 x4 x5⟩] := by
    unfold out0_6 k0_pay23 k0_pay24
    rw [f0, f1, f3, f4, f5]
    rfl
  rw [e]
  refine (View.canon_apply_of_pieces (fun y : S1024x1024.Idx => Row.feed (fun k => x0 (ix2 (y 0) k)) (fun k => x2 (ix2 0 k)) (fun k => x1 (ix3 0 4 k))
    (fun k => x1 (ix3 0 3 k)) (fun k => x1 (ix3 0 5 k)) (fun k f => x3 (ix2 k f)) (fun k f => x4 (ix2 k f)) (fun f k => x5 (ix2 f k)) (y 1)) _ ?_
    (ix2 r d) (cover0_6 _ _ _ _ _)).trans rfl
  intro p hp y
  simp only [List.mem_cons, List.not_mem_nil, or_false] at hp
  rcases hp with rfl | rfl | rfl | rfl
  all_goals
    idx_vars y
    refine (rows_at _ _ _ _ _ _ _ _).trans ?_
    congr 1
    · funext k
      refine congrArg x0 (funext fun a => ?_)
      fin_cases a
      · exact Fin.ext ((Rect.idx_unit_val _ _ _ _ _).trans (Rect.idx_unit_val _ _ _ _ _).symm)
      · exact Fin.ext ((Rect.idx_unit_val _ _ _ _ _).trans (Nat.zero_add _))
    · exact (lane _ _ _ _).symm

end Cert.FfnBlock
end
-- ==== Proof.FfnHost.lean ====
/-
  The arrays the dense feed-forward's windows read, element by element, from the arguments.
-/
module

public import proofs.«01_k».proof.Proof.Gen.Kernel2Ideal.Frame
public import proofs.«01_k».proof.Proof.Row
public import Idealize.ShloMosaic.Lib.StableHlo.ReadAt

@[expose] public section

set_option maxRecDepth 16384

noncomputable section

namespace Cert.FfnHost

open Cert.Kernel2Ideal Cert.Kernel2Ideal.Gen
open Idealize.ShloMosaic Idealize.ShloMosaic.TcCoe

variable (m : (ℓ : Loc nD τ sig) → Buf (Elt Ideal) ℓ) (c : Dev nD)

/-- The seven arguments, as arrays of extended reals. -/
abbrev xp : S32x256x1024.Idx → EReal := m ((c : Thread nD τ).loc main_arg0)
abbrev xs : S8x4096x1024.Idx → EReal := m ((c : Thread nD τ).loc main_arg1)
abbrev mod : S9x6144.Idx → EReal := m ((c : Thread nD τ).loc main_arg2)
abbrev gain : S1024.Idx → EReal := m ((c : Thread nD τ).loc main_arg3)
abbrev w1 : S1024x2816.Idx → EReal := m ((c : Thread nD τ).loc main_arg4)
abbrev w3 : S1024x2816.Idx → EReal := m ((c : Thread nD τ).loc main_arg5)
abbrev w2 : S2816x1024.Idx → EReal := m ((c : Thread nD τ).loc main_arg6)

/-- The token array: the context's rows, then the requests'. -/
theorem x_at (i : Fin 40960) (d : Fin 1024) :
    (V m c main_v2 : S40960x1024.Idx → EReal) (ix2 i d) = Row.tok (fun a b d => xp m c (ix3 a b d)) (fun a b d => xs m c (ix3 a b d)) i d := by
  have e : (V m c main_v2 : S40960x1024.Idx → EReal) = concatenate S40960x1024 0
      [⟨S8192x1024, shapeCast S8192x1024 (xp m c) shapeCasts_S32x256x1024_S8192x1024⟩,
        ⟨S32768x1024, shapeCast S32768x1024 (xs m c) shapeCasts_S8x4096x1024_S32768x1024⟩] concatenates_S8192x1024_S32768x1024_S40960x1024_d0 := by
    unfold V
    after_reads_simp
    rfl
  rw [e]
  generalize xp m c = p
  generalize xs m c = q
  clear e
  pointwise
  rfl

/-- The modulation's array: each row in six parts. -/
theorem mod_at (g : Fin 9) (j : Fin 6) (d : Fin 1024) :
    (V m c main_v3 : S9x6x1024.Idx → EReal) (ix3 g j d) = mod m c (ix2 g ⟨j.val * 1024 + d.val, by omega⟩) := by
  unfold V
  after_reads_at

/-- The gain's array. -/
theorem gain_at (d : Fin 1024) : (V m c main_v4 : S1x1024.Idx → EReal) (ix2 0 d) = gain m c (ix1 d) := by
  unfold V
  after_reads_at

/-- The weights' arrays. -/
theorem w1_at (k : Fin 1024) (f : Fin 2816) : (V m c main_v5 : S1024x2816.Idx → EReal) (ix2 k f) = w1 m c (ix2 k f) := by
  unfold V
  after_reads_at
theorem w3_at (k : Fin 1024) (f : Fin 2816) : (V m c main_v6 : S1024x2816.Idx → EReal) (ix2 k f) = w3 m c (ix2 k f) := by
  unfold V
  after_reads_at
theorem w2_at (f : Fin 2816) (k : Fin 1024) : (V m c main_v7 : S2816x1024.Idx → EReal) (ix2 f k) = w2 m c (ix2 f k) := by
  unfold V
  after_reads_at

end Cert.FfnHost
end
-- ==== Proof.FfnRef.lean ====
/-
  The reference feed-forward's result, element by element, from its arguments.
-/
module

public import proofs.«01_k».proof.Proof.Gen.Reference2Ideal.Read
public import proofs.«01_k».proof.Proof.Row

@[expose] public section

set_option maxRecDepth 16384

noncomputable section

namespace Cert.FfnRef

open Cert.Reference2Ideal Cert.Reference2Ideal.Gen Cert.Reference2Ideal.Read
open Idealize.ShloMosaic
open scoped BigOperators

variable (x0 : S32x256x1024.Idx → EReal) (x1 : S8x4096x1024.Idx → EReal) (x2 : S9x6144.Idx → EReal) (x3 : S1024.Idx → EReal)
  (x4 x5 : S1024x2816.Idx → EReal) (x6 : S2816x1024.Idx → EReal)

/-- A normalised row of the context. -/
theorem norm_p (a : Fin 32) (b : Fin 256) (d : Fin 1024) :
    val_main_v26 (F := Ideal) x0 x2 x3 (ix3 a b d) = Row.norm (fun k => x0 (ix3 a b k)) (fun k => x3 (ix1 k))
      (fun k => x2 (ix2 0 ⟨4 * 1024 + k.val, by omega⟩)) (fun k => x2 (ix2 0 ⟨3 * 1024 + k.val, by omega⟩)) d := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v6 val_main_v5
    val_main_v1 val_main_v0 val_main_cst val_main_cst_0 val_main_cst_1 val_main_cst_2
  pointwise
  simp only [Row.norm, Row.one_bits, Row.mean_bits, Ideal.ofBits_zero, zero_add]

/-- The gate of the context. -/
theorem gate_p (a : Fin 32) (b : Fin 256) (d : Fin 1024) :
    val_main_v32 (F := Ideal) x2 (ix3 a b d) = x2 (ix2 0 ⟨5 * 1024 + d.val, by omega⟩) := by
  unfold val_main_v32 val_main_v7 val_main_v1 val_main_v0
  pointwise

/-- The feed-forward of the context. -/
theorem feed_p (a : Fin 32) (b : Fin 256) (d : Fin 1024) :
    val_main_v34 (F := Ideal) x0 x2 x3 x4 x5 x6 (ix3 a b d) = Row.feed (fun k => x0 (ix3 a b k)) (fun k => x3 (ix1 k))
      (fun k => x2 (ix2 0 ⟨4 * 1024 + k.val, by omega⟩)) (fun k => x2 (ix2 0 ⟨3 * 1024 + k.val, by omega⟩))
      (fun k => x2 (ix2 0 ⟨5 * 1024 + k.val, by omega⟩)) (fun k f => x4 (ix2 k f)) (fun k f => x5 (ix2 k f)) (fun f k => x6 (ix2 f k)) d := by
  have e1 : ∀ f, val_main_v27 (F := Ideal) x0 x2 x3 x4 (ix3 a b f) = ∑ k : Fin 1024, val_main_v26 (F := Ideal) x0 x2 x3 (ix3 a b k) * x4 (ix2 k f) := fun f => by
    unfold val_main_v27
    generalize val_main_v26 (F := Ideal) x0 x2 x3 = h
    pointwise
  have e2 : ∀ f, val_main_v29 (F := Ideal) x0 x2 x3 x5 (ix3 a b f) = ∑ k : Fin 1024, val_main_v26 (F := Ideal) x0 x2 x3 (ix3 a b k) * x5 (ix2 k f) := fun f => by
    unfold val_main_v29
    generalize val_main_v26 (F := Ideal) x0 x2 x3 = h
    pointwise
  have eg := gate_p x2 a b d
  unfold val_main_v34 val_main_v33 val_main_v31 val_main_v30 val_main_v28
  generalize val_main_v32 (F := Ideal) x2 = g at eg ⊢
  unfold val_main_call0_v5 val_main_call0_v4 val_main_call0_v3 val_main_call0_v2 val_main_call0_v1 val_main_call0_v0 val_main_call0_cst val_main_call0_cst_0
  generalize val_main_v27 (F := Ideal) x0 x2 x3 x4 = p at e1 ⊢
  generalize val_main_v29 (F := Ideal) x0 x2 x3 x5 = q at e2 ⊢
  pointwise
  simp only [e1, e2, eg, norm_p, Row.one_bits]
  rfl

/-- A normalised row of the requests. -/
theorem norm_s (a : Fin 8) (b : Fin 4096) (d : Fin 1024) :
    val_main_v61 (F := Ideal) x1 x2 x3 (ix3 a b d) = Row.norm (fun k => x1 (ix3 a b k)) (fun k => x3 (ix1 k))
      (fun k => x2 (ix2 ⟨1 + a.val, by omega⟩ ⟨4 * 1024 + k.val, by omega⟩)) (fun k => x2 (ix2 ⟨1 + a.val, by omega⟩ ⟨3 * 1024 + k.val, by omega⟩)) d := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v41 val_main_v40
    val_main_v36 val_main_v35 val_main_cst_3 val_main_cst_4 val_main_cst_5 val_main_cst_6
  pointwise
  simp only [Row.norm, Row.one_bits, Row.mean_bits, Ideal.ofBits_zero, zero_add]

/-- The gate of the requests. -/
theorem gate_s (a : Fin 8) (b : Fin 4096) (d : Fin 1024) :
    val_main_v67 (F := Ideal) x2 (ix3 a b d) = x2 (ix2 ⟨1 + a.val, by omega⟩ ⟨5 * 1024 + d.val, by omega⟩) := by
  unfold val_main_v67 val_main_v42 val_main_v36 val_main_v35
  pointwise

/-- The feed-forward of the requests. -/
theorem feed_s (a : Fin 8) (b : Fin 4096) (d : Fin 1024) :
    val_main_v69 (F := Ideal) x1 x2 x3 x4 x5 x6 (ix3 a b d) = Row.feed (fun k => x1 (ix3 a b k)) (fun k => x3 (ix1 k))
      (fun k => x2 (ix2 ⟨1 + a.val, by omega⟩ ⟨4 * 1024 + k.val, by omega⟩)) (fun k => x2 (ix2 ⟨1 + a.val, by omega⟩ ⟨3 * 1024 + k.val, by omega⟩))
      (fun k => x2 (ix2 ⟨1 + a.val, by omega⟩ ⟨5 * 1024 + k.val, by omega⟩)) (fun k f => x4 (ix2 k f)) (fun k f => x5 (ix2 k f)) (fun f k => x6 (ix2 f k)) d := by
  have e1 : ∀ f, val_main_v62 (F := Ideal) x1 x2 x3 x4 (ix3 a b f) = ∑ k : Fin 1024, val_main_v61 (F := Ideal) x1 x2 x3 (ix3 a b k) * x4 (ix2 k f) := fun f => by
    unfold val_main_v62
    generalize val_main_v61 (F := Ideal) x1 x2 x3 = h
    pointwise
  have e2 : ∀ f, val_main_v64 (F := Ideal) x1 x2 x3 x5 (ix3 a b f) = ∑ k : Fin 1024, val_main_v61 (F := Ideal) x1 x2 x3 (ix3 a b k) * x5 (ix2 k f) := fun f => by
    unfold val_main_v64
    generalize val_main_v61 (F := Ideal) x1 x2 x3 = h
    pointwise
  have eg := gate_s x2 a b d
  unfold val_main_v69 val_main_v68 val_main_v66 val_main_v65 val_main_v63
  generalize val_main_v67 (F := Ideal) x2 = g at eg ⊢
  unfold val_main_call1_v5 val_main_call1_v4 val_main_call1_v3 val_main_call1_v2 val_main_call1_v1 val_main_call1_v0 val_main_call1_cst val_main_call1_cst_0
  generalize val_main_v62 (F := Ideal) x1 x2 x3 x4 = p at e1 ⊢
  generalize val_main_v64 (F := Ideal) x1 x2 x3 x5 = q at e2 ⊢
  pointwise
  simp only [e1, e2, eg, norm_s, Row.one_bits]
  rfl

/-- The result's row of a token. -/
theorem out_at (i : Fin 40960) (d : Fin 1024) :
    val_main_v72 (F := Ideal) x0 x1 x2 x3 x4 x5 x6 (ix2 i d) = Row.feed (Row.tok (fun a b d => x0 (ix3 a b d)) (fun a b d => x1 (ix3 a b d)) i)
      (fun k => x3 (ix1 k)) (Row.part (fun g k => x2 (ix2 g k)) i 4) (Row.part (fun g k => x2 (ix2 g k)) i 3) (Row.part (fun g k => x2 (ix2 g k)) i 5)
      (fun k f => x4 (ix2 k f)) (fun k f => x5 (ix2 k f)) (fun f k => x6 (ix2 f k)) d := by
  have ep := feed_p x0 x2 x3 x4 x5 x6
  have es := feed_s x1 x2 x3 x4 x5 x6
  unfold val_main_v72 val_main_v70 val_main_v71
  generalize val_main_v34 (F := Ideal) x0 x2 x3 x4 x5 x6 = p at ep ⊢
  generalize val_main_v69 (F := Ideal) x1 x2 x3 x4 x5 x6 = q at es ⊢
  pointwise
  by_cases h : i.val < 8192
  · rw [dif_pos h, ep]
    rw [Row.tok_ctx _ _ _ h, Row.part_ctx _ _ _ h, Row.part_ctx _ _ _ h, Row.part_ctx _ _ _ h]
    rfl
  · rw [dif_neg h, es]
    rw [Row.tok_req _ _ _ h, Row.part_req _ _ _ h, Row.part_req _ _ _ h, Row.part_req _ _ _ h]
    rfl

end Cert.FfnRef
end
-- ==== Proof.FfnArray.lean ====
/-
  What the dense feed-forward's output array holds: the reference's array, block by block.
-/
module

public import proofs.«01_k».proof.Proof.FfnBlock
public import proofs.«01_k».proof.Proof.FfnHost
public import proofs.«01_k».proof.Proof.FfnRef
public import proofs.«01_k».proof.Proof.Gen.Kernel2Ideal.Value
public import Idealize.ShloMosaic.Lib.Pipeline.ValueKit

@[expose] public section

set_option maxRecDepth 16384

noncomputable section

namespace Cert.FfnArray

open Idealize.ShloMosaic Cert.Kernel2Ideal Cert.Kernel2Ideal.Gen Cert.Kernel2Ideal.Value Cert.FfnHost

/-- Where a grid point's tokens lie. -/
theorem at0 : ∀ t : Fin cfg0.N, win0_0.index t = ![t.val, 0] := (by decide +kernel : ∀ t : Fin grid0.N, _)
/-- Which row of the modulation a grid point takes. -/
theorem at1 : ∀ t : Fin cfg0.N, win0_1.index t = ![if t.val < 8 then 0 else 1 + (t.val - 8) / 4, 0, 0] := (by decide +kernel : ∀ t : Fin grid0.N, _)
/-- The gain is taken whole. -/
theorem at2 : ∀ t : Fin cfg0.N, win0_2.index t = ![0, 0] := (by decide +kernel : ∀ t : Fin grid0.N, _)
/-- The first weight is taken whole. -/
theorem at3 : ∀ t : Fin cfg0.N, win0_3.index t = ![0, 0] := (by decide +kernel : ∀ t : Fin grid0.N, _)
/-- The second weight is taken whole. -/
theorem at4 : ∀ t : Fin cfg0.N, win0_4.index t = ![0, 0] := (by decide +kernel : ∀ t : Fin grid0.N, _)
/-- The last weight is taken whole. -/
theorem at5 : ∀ t : Fin cfg0.N, win0_5.index t = ![0, 0] := (by decide +kernel : ∀ t : Fin grid0.N, _)
/-- Where a grid point's output block lies. -/
theorem at6 : ∀ t : Fin cfg0.N, win0_6.index t = ![t.val, 0] := (by decide +kernel : ∀ t : Fin grid0.N, _)

variable (m : (ℓ : Loc nD τ sig) → Buf (Elt Ideal) ℓ) (c : Dev nD)

/-- A grid point's tokens. -/
theorem blk0 (t : Fin cfg0.N) (r k : Fin 1024) (i : Fin 40960) (hi : t.val * 1024 + r.val = i.val) :
    iblk m c 0 t (ix2 r k) = V m c main_v2 (ix2 i k) := by
  show V m c main_v2 ((win0_0.blk t).view.emb (ix2 r k)) = _
  refine congrArg (V m c main_v2) ?_
  blk_ext [at0]

/-- A grid point's row of the modulation. -/
theorem blk1 (t : Fin cfg0.N) (j : Fin 6) (k : Fin 1024) (g : Fin 9) (hg : (if t.val < 8 then 0 else 1 + (t.val - 8) / 4) = g.val) :
    iblk m c 1 t (ix3 0 j k) = V m c main_v3 (ix3 g j k) := by
  show V m c main_v3 ((win0_1.blk t).view.emb (ix3 0 j k)) = _
  refine congrArg (V m c main_v3) ?_
  blk_ext [at1]

/-- The gain. -/
theorem blk2 (t : Fin cfg0.N) (k : Fin 1024) : iblk m c 2 t (ix2 0 k) = V m c main_v4 (ix2 0 k) := by
  show V m c main_v4 ((win0_2.blk t).view.emb (ix2 0 k)) = _
  refine congrArg (V m c main_v4) ?_
  blk_ext [at2]

/-- The first weight. -/
theorem blk3 (t : Fin cfg0.N) (k : Fin 1024) (f : Fin 2816) : iblk m c 3 t (ix2 k f) = V m c main_v5 (ix2 k f) := by
  show V m c main_v5 ((win0_3.blk t).view.emb (ix2 k f)) = _
  refine congrArg (V m c main_v5) ?_
  blk_ext [at3]

/-- The second weight. -/
theorem blk4 (t : Fin cfg0.N) (k : Fin 1024) (f : Fin 2816) : iblk m c 4 t (ix2 k f) = V m c main_v6 (ix2 k f) := by
  show V m c main_v6 ((win0_4.blk t).view.emb (ix2 k f)) = _
  refine congrArg (V m c main_v6) ?_
  blk_ext [at4]

/-- The last weight. -/
theorem blk5 (t : Fin cfg0.N) (f : Fin 2816) (k : Fin 1024) : iblk m c 5 t (ix2 f k) = V m c main_v7 (ix2 f k) := by
  show V m c main_v7 ((win0_5.blk t).view.emb (ix2 f k)) = _
  refine congrArg (V m c main_v7) ?_
  blk_ext [at5]

/-- The array the kernel leaves is the reference's. -/
theorem final : (dats m 0 c).arrAt 6 cfg0.N
    = Reference2Ideal.Read.val_main_v72 (F := Ideal) (xp m c) (xs m c) (mod m c) (gain m c) (w1 m c) (w3 m c) (w2 m c) := by
  refine (dats m 0 c).arrAt_eq_of_covers 6 _ (by decide +kernel) fun t hf y => ?_
  blk_simp
  rw [after0_6]
  have ht : t.val < 40 := t.isLt
  idx_vars y
  have e : ((View.whole main_v8).slice (win0_6.rect t)).emb (ix2 y0 y1)
      = (ix2 (⟨t.val * 1024 + y0.val, by omega⟩ : Fin 40960) y1 : S40960x1024.Idx) := by
    blk_ext [at6]
  rw [e]
  refine (FfnBlock.out_at _ _ _ _ _ _ _ _).trans ((FfnRef.out_at _ _ _ _ _ _ _ _ _).trans ?_).symm
  have hg : (if t.val < 8 then 0 else 1 + (t.val - 8) / 4) = (Row.grp ⟨t.val * 1024 + y0.val, by omega⟩).val := by
    unfold Row.grp
    by_cases h : t.val < 8
    · rw [if_pos h, if_pos (by dsimp only; omega)]; rfl
    · rw [if_neg h, if_neg (by dsimp only; omega)]; show _ = 1 + (t.val * 1024 + y0.val - 8192) / 4096; omega
  have ep : ∀ (j : Fin 6), (fun k => iblk m c 1 t (ix3 0 j k)) = Row.part (fun g k => mod m c (ix2 g k)) ⟨t.val * 1024 + y0.val, by omega⟩ j := fun j =>
    funext fun k => (blk1 m c t j k _ hg).trans (mod_at m c _ j k)
  have ex : (fun k => iblk m c 0 t (ix2 y0 k)) = Row.tok (fun a b d => xp m c (ix3 a b d)) (fun a b d => xs m c (ix3 a b d)) ⟨t.val * 1024 + y0.val, by omega⟩ :=
    funext fun k => (blk0 m c t y0 k _ rfl).trans (x_at m c _ k)
  have eg : (fun k => iblk m c 2 t (ix2 0 k)) = fun k => gain m c (ix1 k) := funext fun k => (blk2 m c t k).trans (gain_at m c k)
  have e1 : (fun k f => iblk m c 3 t (ix2 k f)) = fun k f => w1 m c (ix2 k f) := funext fun k => funext fun f => (blk3 m c t k f).trans (w1_at m c k f)
  have e3 : (fun k f => iblk m c 4 t (ix2 k f)) = fun k f => w3 m c (ix2 k f) := funext fun k => funext fun f => (blk4 m c t k f).trans (w3_at m c k f)
  have e2 : (fun f k => iblk m c 5 t (ix2 f k)) = fun f k => w2 m c (ix2 f k) := funext fun f => funext fun k => (blk5 m c t f k).trans (w2_at m c f k)
  exact (by rw [← ex, ← ep 3, ← ep 4, ← ep 5, ← eg, ← e1, ← e3, ← e2])

end Cert.FfnArray
end
-- ==== Proof.ProjBlock.lean ====
/-
  What one grid point of the first projection computes: each row of its block.
-/
module

public import proofs.«01_k».proof.Proof.Gen.Kernel3Ideal.Frame
public import proofs.«01_k».proof.Proof.Row
public import Idealize.ShloMosaic.Lib.Pipeline.ValueKit

@[expose] public section

set_option maxRecDepth 16384

noncomputable section

namespace Cert.ProjBlock

open Cert.Kernel3Ideal Cert.Kernel3Ideal.Gen
open Idealize.ShloMosaic
open scoped BigOperators

/-- The normalised rows. -/
def norms (m : Vec Ideal S1x6x1024 .f32) (g : Vec Ideal S1x1024 .f32) (x : Vec Ideal S256x1024 .f32) : FVec Ideal S256x1024 .bf16 :=
  k0_pay10 (k0_pay3 m) (k0_pay4 g) x

/-- The 256 rows a store holds: the normalised rows' product with the weight. -/
def rows (m : Vec Ideal S1x6x1024 .f32) (g : Vec Ideal S1x1024 .f32) (x : Vec Ideal S256x1024 .f32) (w : Vec Ideal S1024x5120 .bf16) :
    FVec Ideal S256x5120 .bf16 := k0_pay1 (norms m g x) w

/-- A normalised row. -/
theorem norms_at (m : Vec Ideal S1x6x1024 .f32) (g : Vec Ideal S1x1024 .f32) (x : Vec Ideal S256x1024 .f32) (r : Fin 256) (d : Fin 1024) :
    norms m g x (ix2 r d) = Row.norm (fun k => x (ix2 r k)) (fun k => g (ix2 0 k)) (fun k => m (ix3 0 1 k)) (fun k => m (ix3 0 0 k)) d := by
  unfold norms
  unfold_payloads
  pointwise
  simp only [Row.norm, Row.one_bits]

/-- A stored row is the projection of its row. -/
theorem rows_at (m : Vec Ideal S1x6x1024 .f32) (g : Vec Ideal S1x1024 .f32) (x : Vec Ideal S256x1024 .f32) (w : Vec Ideal S1024x5120 .bf16)
    (r : Fin 256) (j : Fin 5120) :
    rows m g x w (ix2 r j) = Row.proj (fun k => x (ix2 r k)) (fun k => g (ix2 0 k)) (fun k => m (ix3 0 1 k)) (fun k => m (ix3 0 0 k))
      (fun k => w (ix2 k j)) := by
  have e := norms_at m g x r
  unfold rows k0_pay1
  generalize norms m g x = h at e ⊢
  pointwise
  simp only [e]
  rfl

/-- A block of whole rows keeps the column. -/
theorem lane (n : Nat) (h : ∀ a, (![n, 0] : Fin 2 → Nat) a + S256x5120.size a ≤ S1024x5120.size a) (y0 : Fin 256) (y1 : Fin 5120) :
    (Rect.unit (s := S1024x5120) ![n, 0] S256x5120.size h).emb (ix2 y0 y1) 1 = y1 := Fin.ext ((Rect.idx_unit_val _ _ _ _ _).trans (Nat.zero_add _))

/-- What a grid point leaves in its output block. -/
theorem out_at (x0 : Vec Ideal S1024x1024 .f32) (x1 : Vec Ideal S1x6x1024 .f32) (x2 : Vec Ideal S1x1024 .f32) (x3 : Vec Ideal S1024x5120 .bf16)
    (r : Fin 1024) (j : Fin 5120) :
    out0_4 x0 x1 x2 x3 (ix2 r j) = Row.proj (fun k => x0 (ix2 r k)) (fun k => x2 (ix2 0 k)) (fun k => x1 (ix3 0 1 k)) (fun k => x1 (ix3 0 0 k))
      (fun k => x3 (ix2 k j)) := by
  have f0 : View.ld x1 r0_0 = x1 := View.ld_unit_zero (by funext a; fin_cases a <;> rfl) _ x1
  have f1 : View.ld x2 r0_1 = x2 := View.ld_unit_zero (by funext a; fin_cases a <;> rfl) _ x2
  have f3 : View.ld x3 r0_3 = x3 := View.ld_unit_zero (by funext a; fin_cases a <;> rfl) _ x3
  have e : out0_4 x0 x1 x2 x3 = View.canon [⟨r0_10, rows x1 x2 (View.ld x0 r0_9) x3⟩, ⟨r0_8, rows x1 x2 (View.ld x0 r0_7) x3⟩,
      ⟨r0_6, rows x1 x2 (View.ld x0 r0_5) x3⟩, ⟨r0_4, rows x1 x2 (View.ld x0 r0_2) x3⟩] := by
    unfold out0_4 k0_pay11 k0_pay12
    rw [f0, f1, f3]
    rfl
  rw [e]
  refine (View.canon_apply_of_pieces (fun y : S1024x5120.Idx => Row.proj (fun k => x0 (ix2 (y 0) k)) (fun k => x2 (ix2 0 k)) (fun k => x1 (ix3 0 1 k))
    (fun k => x1 (ix3 0 0 k)) (fun k => x3 (ix2 k (y 1)))) _ ?_ (ix2 r j) (cover0_4 _ _ _ _ _)).trans rfl
  intro p hp y
  simp only [List.mem_cons, List.not_mem_nil, or_false] at hp
  rcases hp with rfl | rfl | rfl | rfl
  all_goals
    idx_vars y
    refine (rows_at _ _ _ _ _ _).trans ?_
    congr 1
    · funext k
      refine congrArg x0 (funext fun a => ?_)
      fin_cases a
      · exact Fin.ext ((Rect.idx_unit_val _ _ _ _ _).trans (Rect.idx_unit_val _ _ _ _ _).symm)
      · exact Fin.ext ((Rect.idx_unit_val _ _ _ _ _).trans (Nat.zero_add _))
    · funext k
      exact congrArg (fun j => x3 (ix2 k j)) (lane _ _ _ _).symm

end Cert.ProjBlock
end
-- ==== Proof.ProjHost.lean ====
/-
  The arrays the first projection's windows read, element by element, from the arguments, and the result's columns.
-/
module

public import proofs.«01_k».proof.Proof.Gen.Kernel3Ideal.Frame
public import proofs.«01_k».proof.Proof.Row
public import Idealize.ShloMosaic.Lib.StableHlo.ReadAt

@[expose] public section

set_option maxRecDepth 16384

noncomputable section

namespace Cert.ProjHost

open Cert.Kernel3Ideal Cert.Kernel3Ideal.Gen
open Idealize.ShloMosaic Idealize.ShloMosaic.TcCoe

variable (m : (ℓ : Loc nD τ sig) → Buf (Elt Ideal) ℓ) (c : Dev nD)

/-- The five arguments, as arrays of extended reals. -/
abbrev xp : S32x256x1024.Idx → EReal := m ((c : Thread nD τ).loc main_arg0)
abbrev xs : S8x4096x1024.Idx → EReal := m ((c : Thread nD τ).loc main_arg1)
abbrev mod : S9x6144.Idx → EReal := m ((c : Thread nD τ).loc main_arg2)
abbrev gain : S1024.Idx → EReal := m ((c : Thread nD τ).loc main_arg3)
abbrev win : S1024x4768.Idx → EReal := m ((c : Thread nD τ).loc main_arg4)

/-- Where the kernel keeps a column of the projection. -/
def col (n : Fin 4768) : Fin 5120 :=
  if h : n.val < 256 then ⟨768 + n.val, by omega⟩
  else if h : n.val < 1024 then ⟨n.val - 256, by omega⟩
  else if h : n.val < 1408 then ⟨512 + n.val, by omega⟩
  else if h : n.val < 1664 then ⟨n.val - 384, by omega⟩
  else if h : n.val < 1696 then ⟨n.val - 320, by omega⟩
  else ⟨352 + n.val, by omega⟩

/-- The token array: the context's rows, then the requests'. -/
theorem x_at (i : Fin 40960) (d : Fin 1024) :
    (V m c main_v22 : S40960x1024.Idx → EReal) (ix2 i d) = Row.tok (fun a b d => xp m c (ix3 a b d)) (fun a b d => xs m c (ix3 a b d)) i d := by
  have e : (V m c main_v22 : S40960x1024.Idx → EReal) = concatenate S40960x1024 0
      [⟨S8192x1024, shapeCast S8192x1024 (xp m c) shapeCasts_S32x256x1024_S8192x1024⟩,
        ⟨S32768x1024, shapeCast S32768x1024 (xs m c) shapeCasts_S8x4096x1024_S32768x1024⟩] concatenates_S8192x1024_S32768x1024_S40960x1024_d0 := by
    unfold V V0
    after_reads_simp
    rfl
  rw [e]
  generalize xp m c = p
  generalize xs m c = q
  clear e
  pointwise
  rfl

/-- The modulation's array: each row in six parts. -/
theorem mod_at (g : Fin 9) (j : Fin 6) (d : Fin 1024) :
    (V m c main_v23 : S9x6x1024.Idx → EReal) (ix3 g j d) = mod m c (ix2 g ⟨j.val * 1024 + d.val, by omega⟩) := by
  unfold V V0
  after_reads_at

/-- The gain's array. -/
theorem gain_at (d : Fin 1024) : (V m c main_v24 : S1x1024.Idx → EReal) (ix2 0 d) = gain m c (ix1 d) := by
  unfold V V0
  after_reads_at

/-- The group of the shared key's columns, between zero columns. -/
def group (z1 : S1x1024x64.Idx → EReal) (p z2 : S1x1024x32.Idx → EReal) : S1x1024x128.Idx → EReal :=
  concatenate S1x1024x128 2 [⟨S1x1024x64, z1⟩, ⟨S1x1024x32, p⟩, ⟨S1x1024x32, z2⟩] concatenates_S1x1024x64_S1x1024x32_S1x1024x32_S1x1024x128_d2

/-- Eight groups of columns side by side. -/
def joined (p0 : S1x1024x768.Idx → EReal) (p1 p2 : S1x1024x256.Idx → EReal) (p3 p4 : S1x1024x128.Idx → EReal) (p5 : S1x1024x384.Idx → EReal)
    (p6 : S1x1024x128.Idx → EReal) (p7 : S1x1024x3072.Idx → EReal) : S1024x5120.Idx → EReal :=
  shapeCast S1024x5120 (concatenate S1x1024x5120 2
    [⟨S1x1024x768, p0⟩, ⟨S1x1024x256, p1⟩, ⟨S1x1024x256, p2⟩, ⟨S1x1024x128, p3⟩, ⟨S1x1024x128, p4⟩, ⟨S1x1024x384, p5⟩, ⟨S1x1024x128, p6⟩,
      ⟨S1x1024x3072, p7⟩]
    concatenates_S1x1024x768_S1x1024x256_S1x1024x256_S1x1024x128_S1x1024x128_S1x1024x384_S1x1024x128_S1x1024x3072_S1x1024x5120_d2)
    shapeCasts_S1x1024x5120_S1024x5120

/-- The weight with a leading axis of one. -/
def lead (w : S1024x4768.Idx → EReal) : S1x1024x4768.Idx → EReal := broadcastInDim S1x1024x4768 ![1, 2] bcast_S1024x4768_S1x1024x4768_1_2 w

/-- The weight's groups of columns, as the kernel lays them out, with the rotated lanes' group and the zero columns left open. -/
def laid (w : S1024x4768.Idx → EReal) (z1 : S1x1024x64.Idx → EReal) (z2 : S1x1024x32.Idx → EReal) (z3 z4 : S1x1024x128.Idx → EReal) :
    S1024x5120.Idx → EReal :=
  joined (extractStridedSlice S1x1024x768 ![0, 0, 256] (lead w) slices_S1x1024x4768_S1x1024x768_0_0_256)
    (extractStridedSlice S1x1024x256 ![0, 0, 0] (lead w) slices_S1x1024x4768_S1x1024x256_0_0_0)
    (extractStridedSlice S1x1024x256 ![0, 0, 1408] (lead w) slices_S1x1024x4768_S1x1024x256_0_0_1408)
    (group z1 (extractStridedSlice S1x1024x32 ![0, 0, 1664] (lead w) slices_S1x1024x4768_S1x1024x32_0_0_1664) z2) z3
    (extractStridedSlice S1x1024x384 ![0, 0, 1024] (lead w) slices_S1x1024x4768_S1x1024x384_0_0_1024) z4
    (extractStridedSlice S1x1024x3072 ![0, 0, 1696] (lead w) slices_S1x1024x4768_S1x1024x3072_0_0_1696)

/-- The weight's array is so laid out. -/
theorem w_laid : ∃ z1 z2 z3 z4, (V m c main_v19 : S1024x5120.Idx → EReal) = laid (win m c) z1 z2 z3 z4 := by
  have e : (V m c main_v19 : S1024x5120.Idx → EReal) = joined (V m c main_v5) (V m c main_v6) (V m c main_v7) (V m c main_v4) (V m c main_v13)
      (V m c main_v14) (V m c main_v15) (V m c main_v16) := by
    unfold V V0
    after_reads_simp
    change joined (StableHlo.upto (Val := Elt Ideal) _ _ _ (Proc.devRef .tc main_v5)) (StableHlo.upto (Val := Elt Ideal) _ _ _ (Proc.devRef .tc main_v6))
      (StableHlo.upto (Val := Elt Ideal) _ _ _ (Proc.devRef .tc main_v7)) (StableHlo.upto (Val := Elt Ideal) _ _ _ (Proc.devRef .tc main_v4))
      (StableHlo.upto (Val := Elt Ideal) _ _ _ (Proc.devRef .tc main_v13)) (StableHlo.upto (Val := Elt Ideal) _ _ _ (Proc.devRef .tc main_v14))
      (StableHlo.upto (Val := Elt Ideal) _ _ _ (Proc.devRef .tc main_v15)) (StableHlo.upto (Val := Elt Ideal) _ _ _ (Proc.devRef .tc main_v16)) = _
    after_reads_simp
  have e0 : (V m c main_v0 : S1x1024x4768.Idx → EReal) = lead (win m c) := by
    unfold V V0
    after_reads_simp
    rfl
  have e5 : (V m c main_v5 : S1x1024x768.Idx → EReal) = extractStridedSlice S1x1024x768 ![0, 0, 256] (V m c main_v0) slices_S1x1024x4768_S1x1024x768_0_0_256 := by
    unfold V V0
    after_reads_simp
  have e6 : (V m c main_v6 : S1x1024x256.Idx → EReal) = extractStridedSlice S1x1024x256 ![0, 0, 0] (V m c main_v0) slices_S1x1024x4768_S1x1024x256_0_0_0 := by
    unfold V V0
    after_reads_simp
  have e7 : (V m c main_v7 : S1x1024x256.Idx → EReal) = extractStridedSlice S1x1024x256 ![0, 0, 1408] (V m c main_v0) slices_S1x1024x4768_S1x1024x256_0_0_1408 := by
    unfold V V0
    after_reads_simp
  have e14 : (V m c main_v14 : S1x1024x384.Idx → EReal) = extractStridedSlice S1x1024x384 ![0, 0, 1024] (V m c main_v0) slices_S1x1024x4768_S1x1024x384_0_0_1024 := by
    unfold V V0
    after_reads_simp
  have e16 : (V m c main_v16 : S1x1024x3072.Idx → EReal) = extractStridedSlice S1x1024x3072 ![0, 0, 1696] (V m c main_v0) slices_S1x1024x4768_S1x1024x3072_0_0_1696 := by
    unfold V V0
    after_reads_simp
  have e4 : (V m c main_v4 : S1x1024x128.Idx → EReal) = group (V m c main_v1)
      (extractStridedSlice S1x1024x32 ![0, 0, 1664] (V m c main_v0) slices_S1x1024x4768_S1x1024x32_0_0_1664) (V m c main_v3) := by
    unfold V V0
    after_reads_simp
    change group (StableHlo.upto (Val := Elt Ideal) _ _ _ (Proc.devRef .tc main_v1)) (StableHlo.upto (Val := Elt Ideal) _ _ _ (Proc.devRef .tc main_v2))
      (StableHlo.upto (Val := Elt Ideal) _ _ _ (Proc.devRef .tc main_v3)) = _
    after_reads_simp
  exact ⟨V m c main_v1, V m c main_v3, V m c main_v13, V m c main_v15, by rw [e, e5, e6, e7, e14, e16, e4, e0]; rfl⟩

/-- Where the kernel keeps a column, by ranges. -/
theorem col_val (n : Fin 4768) : (n.val < 256 ∧ (col n).val = 768 + n.val) ∨ (256 ≤ n.val ∧ n.val < 1024 ∧ (col n).val = n.val - 256)
    ∨ (1024 ≤ n.val ∧ n.val < 1408 ∧ (col n).val = 512 + n.val) ∨ (1408 ≤ n.val ∧ n.val < 1664 ∧ (col n).val = n.val - 384)
    ∨ (1664 ≤ n.val ∧ n.val < 1696 ∧ (col n).val = n.val - 320) ∨ (1696 ≤ n.val ∧ (col n).val = 352 + n.val) := by
  unfold col
  split_ifs <;> dsimp only <;> omega

/-- A column of the weight, where the kernel keeps it. -/
theorem laid_at (w : S1024x4768.Idx → EReal) (z1 : S1x1024x64.Idx → EReal) (z2 : S1x1024x32.Idx → EReal) (z3 z4 : S1x1024x128.Idx → EReal)
    (k : Fin 1024) (n : Fin 4768) : laid w z1 z2 z3 z4 (ix2 k (col n)) = w (ix2 k n) := by
  have hv := col_val n
  generalize col n = j at hv ⊢
  unfold laid joined group lead
  pointwise
  split_ifs
  all_goals first
    | (exfalso; omega)
    | exact congrArg (fun l => w (ix2 k l)) (Fin.ext (by dsimp only; omega))

/-- The weight's array, in the column where the kernel keeps it. -/
theorem w_at (k : Fin 1024) (n : Fin 4768) : (V m c main_v19 : S1024x5120.Idx → EReal) (ix2 k (col n)) = win m c (ix2 k n) := by
  obtain ⟨z1, z2, z3, z4, e⟩ := w_laid m c
  rw [e]
  exact laid_at _ _ _ _ _ k n

/-- Six groups of columns side by side. -/
def six (p0 : S40960x256.Idx → EReal) (p1 : S40960x768.Idx → EReal) (p2 : S40960x384.Idx → EReal) (p3 : S40960x256.Idx → EReal)
    (p4 : S40960x32.Idx → EReal) (p5 : S40960x3072.Idx → EReal) : S40960x4768.Idx → EReal :=
  concatenate S40960x4768 1
    [⟨S40960x256, p0⟩, ⟨S40960x768, p1⟩, ⟨S40960x384, p2⟩, ⟨S40960x256, p3⟩, ⟨S40960x32, p4⟩, ⟨S40960x3072, p5⟩]
    concatenates_S40960x256_S40960x768_S40960x384_S40960x256_S40960x32_S40960x3072_S40960x4768_d1

/-- The result, from the array the call leaves: its columns back in the projection's order. -/
def back (a : S40960x5120.Idx → EReal) : S40960x4768.Idx → EReal :=
  six (extractStridedSlice S40960x256 ![0, 768] a slices_S40960x5120_S40960x256_0_768)
    (extractStridedSlice S40960x768 ![0, 0] a slices_S40960x5120_S40960x768_0_0)
    (extractStridedSlice S40960x384 ![0, 1536] a slices_S40960x5120_S40960x384_0_1536)
    (extractStridedSlice S40960x256 ![0, 1024] a slices_S40960x5120_S40960x256_0_1024)
    (extractStridedSlice S40960x32 ![0, 1344] a slices_S40960x5120_S40960x32_0_1344)
    (extractStridedSlice S40960x3072 ![0, 2048] a slices_S40960x5120_S40960x3072_0_2048)

/-- The result's column is the one the kernel keeps for it. -/
theorem back_at (a : S40960x5120.Idx → EReal) (i : Fin 40960) (n : Fin 4768) : back a (ix2 i n) = a (ix2 i (col n)) := by
  have hv := col_val n
  generalize col n = j at hv ⊢
  unfold back six
  pointwise
  split_ifs
  all_goals first
    | (exfalso; omega)
    | exact congrArg (fun l => a (ix2 i l)) (Fin.ext (by dsimp only; omega))

/-- What the result reads after the call. -/
theorem result : (Pipeline.afterTail₀ cfgs (dats m) 0 (V0 m) [hostOps1] c main_v33 : S40960x4768.Idx → EReal) = back ((dats m 0 c).arrAt 4 cfg0.N) := by
  have e := Pipeline.withArrays_arr cfg0.spec (by decide : Function.Injective (Pipeline.arrRef spec0)) c (V0 m c) (fun w => (dats m 0 c).arrAt w cfg0.N) 4
  unfold Pipeline.afterTail₀
  generalize Pipeline.withArrays (cfgs 0).spec c (V0 m c) (fun w => (dats m 0 c).arrAt w (cfgs 0).N) = W at e ⊢
  after_reads_simp
  change six (StableHlo.upto (Val := Elt Ideal) _ _ _ (Proc.devRef .tc main_v26)) (StableHlo.upto (Val := Elt Ideal) _ _ _ (Proc.devRef .tc main_v27))
    (StableHlo.upto (Val := Elt Ideal) _ _ _ (Proc.devRef .tc main_v28)) (StableHlo.upto (Val := Elt Ideal) _ _ _ (Proc.devRef .tc main_v29))
    (StableHlo.upto (Val := Elt Ideal) _ _ _ (Proc.devRef .tc main_v30)) (StableHlo.upto (Val := Elt Ideal) _ _ _ (Proc.devRef .tc main_v31)) = _
  after_reads_simp
  rw [← e]
  rfl

end Cert.ProjHost
end
-- ==== Proof.ProjRef.lean ====
/-
  The reference projection's result, element by element, from its arguments.
-/
module

public import proofs.«01_k».proof.Proof.Gen.Reference3Ideal.Read
public import proofs.«01_k».proof.Proof.Row

@[expose] public section

set_option maxRecDepth 16384

noncomputable section

namespace Cert.ProjRef

open Cert.Reference3Ideal Cert.Reference3Ideal.Gen Cert.Reference3Ideal.Read
open Idealize.ShloMosaic
open scoped BigOperators

variable (x0 : S32x256x1024.Idx → EReal) (x1 : S8x4096x1024.Idx → EReal) (x2 : S9x6144.Idx → EReal) (x3 : S1024.Idx → EReal)
  (x4 : S1024x4768.Idx → EReal)

/-- A normalised row of the context. -/
theorem norm_p (a : Fin 32) (b : Fin 256) (d : Fin 1024) :
    val_main_v26 (F := Ideal) x0 x2 x3 (ix3 a b d) = Row.norm (fun k => x0 (ix3 a b k)) (fun k => x3 (ix1 k))
      (fun k => x2 (ix2 0 ⟨1 * 1024 + k.val, by omega⟩)) (fun k => x2 (ix2 0 ⟨k.val, by omega⟩)) d := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v3 val_main_v2
    val_main_v1 val_main_v0 val_main_cst val_main_cst_0 val_main_cst_1 val_main_cst_2
  pointwise
  simp only [Row.norm, Row.one_bits, Row.mean_bits, Ideal.ofBits_zero, zero_add]

/-- The projection of the context. -/
theorem proj_p (a : Fin 32) (b : Fin 256) (n : Fin 4768) :
    val_main_v27 (F := Ideal) x0 x2 x3 x4 (ix3 a b n) = Row.proj (fun k => x0 (ix3 a b k)) (fun k => x3 (ix1 k))
      (fun k => x2 (ix2 0 ⟨1 * 1024 + k.val, by omega⟩)) (fun k => x2 (ix2 0 ⟨k.val, by omega⟩)) (fun k => x4 (ix2 k n)) := by
  have e := norm_p x0 x2 x3 a b
  unfold val_main_v27
  generalize val_main_v26 (F := Ideal) x0 x2 x3 = h at e ⊢
  pointwise
  simp only [e]
  rfl

/-- A normalised row of the requests. -/
theorem norm_s (a : Fin 8) (b : Fin 4096) (d : Fin 1024) :
    val_main_v54 (F := Ideal) x1 x2 x3 (ix3 a b d) = Row.norm (fun k => x1 (ix3 a b k)) (fun k => x3 (ix1 k))
      (fun k => x2 (ix2 ⟨1 + a.val, by omega⟩ ⟨1 * 1024 + k.val, by omega⟩)) (fun k => x2 (ix2 ⟨1 + a.val, by omega⟩ ⟨k.val, by omega⟩)) d := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v31 val_main_v30
    val_main_v29 val_main_v28 val_main_cst_3 val_main_cst_4 val_main_cst_5 val_main_cst_6
  pointwise
  simp only [Row.norm, Row.one_bits, Row.mean_bits, Ideal.ofBits_zero, zero_add]

/-- The projection of the requests. -/
theorem proj_s (a : Fin 8) (b : Fin 4096) (n : Fin 4768) :
    val_main_v55 (F := Ideal) x1 x2 x3 x4 (ix3 a b n) = Row.proj (fun k => x1 (ix3 a b k)) (fun k => x3 (ix1 k))
      (fun k => x2 (ix2 ⟨1 + a.val, by omega⟩ ⟨1 * 1024 + k.val, by omega⟩)) (fun k => x2 (ix2 ⟨1 + a.val, by omega⟩ ⟨k.val, by omega⟩))
      (fun k => x4 (ix2 k n)) := by
  have e := norm_s x1 x2 x3 a b
  unfold val_main_v55
  generalize val_main_v54 (F := Ideal) x1 x2 x3 = h at e ⊢
  pointwise
  simp only [e]
  rfl

/-- The first part of a token's modulation. -/
theorem part_zero (p : Fin 9 → Fin 6144 → EReal) (i : Fin 40960) : Row.part p i 0 = fun k => p (Row.grp i) ⟨k.val, by omega⟩ :=
  funext fun k => congrArg (p (Row.grp i)) (Fin.ext (by show 0 * 1024 + k.val = k.val; omega))

/-- The result's row of a token. -/
theorem out_at (i : Fin 40960) (n : Fin 4768) :
    val_main_v58 (F := Ideal) x0 x1 x2 x3 x4 (ix2 i n) = Row.proj (Row.tok (fun a b d => x0 (ix3 a b d)) (fun a b d => x1 (ix3 a b d)) i)
      (fun k => x3 (ix1 k)) (Row.part (fun g k => x2 (ix2 g k)) i 1) (Row.part (fun g k => x2 (ix2 g k)) i 0) (fun k => x4 (ix2 k n)) := by
  have ep := proj_p x0 x2 x3 x4
  have es := proj_s x1 x2 x3 x4
  unfold val_main_v58 val_main_v56 val_main_v57
  generalize val_main_v27 (F := Ideal) x0 x2 x3 x4 = p at ep ⊢
  generalize val_main_v55 (F := Ideal) x1 x2 x3 x4 = q at es ⊢
  pointwise
  by_cases h : i.val < 8192
  · rw [dif_pos h, ep, part_zero]
    have e : Row.grp i = 0 := if_pos h
    rw [Row.tok_ctx _ _ _ h, Row.part_ctx _ _ _ h, e]
    rfl
  · rw [dif_neg h, es, part_zero]
    have e : Row.grp i = ⟨1 + (i.val - 8192) / 4096, by omega⟩ := if_neg h
    rw [Row.tok_req _ _ _ h, Row.part_req _ _ _ h, e]
    rfl

end Cert.ProjRef
end
-- ==== Proof.ProjArray.lean ====
/-
  What the first projection's output array and result hold: the reference's array, block by block.
-/
module

public import proofs.«01_k».proof.Proof.ProjBlock
public import proofs.«01_k».proof.Proof.ProjHost
public import proofs.«01_k».proof.Proof.ProjRef
public import Idealize.ShloMosaic.Lib.Pipeline.ValueKit

@[expose] public section

set_option maxRecDepth 16384

noncomputable section

namespace Cert.ProjArray

open Idealize.ShloMosaic Cert.Kernel3Ideal Cert.Kernel3Ideal.Gen Cert.ProjHost

/-- Where a grid point's tokens lie. -/
theorem at0 : ∀ t : Fin cfg0.N, win0_0.index t = ![t.val, 0] := (by decide +kernel : ∀ t : Fin grid0.N, _)
/-- Which row of the modulation a grid point takes. -/
theorem at1 : ∀ t : Fin cfg0.N, win0_1.index t = ![if t.val < 8 then 0 else 1 + (t.val - 8) / 4, 0, 0] := (by decide +kernel : ∀ t : Fin grid0.N, _)
/-- The gain is taken whole. -/
theorem at2 : ∀ t : Fin cfg0.N, win0_2.index t = ![0, 0] := (by decide +kernel : ∀ t : Fin grid0.N, _)
/-- The weight is taken whole. -/
theorem at3 : ∀ t : Fin cfg0.N, win0_3.index t = ![0, 0] := (by decide +kernel : ∀ t : Fin grid0.N, _)
/-- Where a grid point's output block lies. -/
theorem at4 : ∀ t : Fin cfg0.N, win0_4.index t = ![t.val, 0] := (by decide +kernel : ∀ t : Fin grid0.N, _)

variable (m : (ℓ : Loc nD τ sig) → Buf (Elt Ideal) ℓ) (c : Dev nD)

/-- A grid point's tokens. -/
theorem blk0 (t : Fin cfg0.N) (r k : Fin 1024) (i : Fin 40960) (hi : t.val * 1024 + r.val = i.val) :
    iblk m c 0 t (ix2 r k) = V m c main_v22 (ix2 i k) := by
  show V m c main_v22 ((win0_0.blk t).view.emb (ix2 r k)) = _
  refine congrArg (V m c main_v22) ?_
  blk_ext [at0]

/-- A grid point's row of the modulation. -/
theorem blk1 (t : Fin cfg0.N) (j : Fin 6) (k : Fin 1024) (g : Fin 9) (hg : (if t.val < 8 then 0 else 1 + (t.val - 8) / 4) = g.val) :
    iblk m c 1 t (ix3 0 j k) = V m c main_v23 (ix3 g j k) := by
  show V m c main_v23 ((win0_1.blk t).view.emb (ix3 0 j k)) = _
  refine congrArg (V m c main_v23) ?_
  blk_ext [at1]

/-- The gain. -/
theorem blk2 (t : Fin cfg0.N) (k : Fin 1024) : iblk m c 2 t (ix2 0 k) = V m c main_v24 (ix2 0 k) := by
  show V m c main_v24 ((win0_2.blk t).view.emb (ix2 0 k)) = _
  refine congrArg (V m c main_v24) ?_
  blk_ext [at2]

/-- The weight. -/
theorem blk3 (t : Fin cfg0.N) (k : Fin 1024) (j : Fin 5120) : iblk m c 3 t (ix2 k j) = V m c main_v19 (ix2 k j) := by
  show V m c main_v19 ((win0_3.blk t).view.emb (ix2 k j)) = _
  refine congrArg (V m c main_v19) ?_
  blk_ext [at3]

/-- The array the call leaves: each token's row times the laid-out weight's column. -/
theorem array (i : Fin 40960) (j : Fin 5120) : ((dats m 0 c).arrAt 4 cfg0.N : S40960x5120.Idx → EReal) (ix2 i j)
    = Row.proj (Row.tok (fun a b d => xp m c (ix3 a b d)) (fun a b d => xs m c (ix3 a b d)) i) (fun k => gain m c (ix1 k))
      (Row.part (fun g k => mod m c (ix2 g k)) i 1) (Row.part (fun g k => mod m c (ix2 g k)) i 0) (fun k => V m c main_v19 (ix2 k j)) := by
  refine (congrFun ((dats m 0 c).arrAt_eq_of_covers 4 (fun y : S40960x5120.Idx =>
    Row.proj (Row.tok (fun a b d => xp m c (ix3 a b d)) (fun a b d => xs m c (ix3 a b d)) (y 0)) (fun k => gain m c (ix1 k))
      (Row.part (fun g k => mod m c (ix2 g k)) (y 0) 1) (Row.part (fun g k => mod m c (ix2 g k)) (y 0) 0) (fun k => V m c main_v19 (ix2 k (y 1))))
    (by decide +kernel) fun t hf y => ?_) (ix2 i j)).trans rfl
  blk_simp
  rw [after0_4]
  have ht : t.val < 40 := t.isLt
  idx_vars y
  have e : ((View.whole main_v25).slice (win0_4.rect t)).emb (ix2 y0 y1)
      = (ix2 (⟨t.val * 1024 + y0.val, by omega⟩ : Fin 40960) y1 : S40960x5120.Idx) := by
    blk_ext [at4]
  rw [e]
  refine (ProjBlock.out_at _ _ _ _ _ _).trans ?_
  have hg : (if t.val < 8 then 0 else 1 + (t.val - 8) / 4) = (Row.grp ⟨t.val * 1024 + y0.val, by omega⟩).val := by
    unfold Row.grp
    by_cases h : t.val < 8
    · rw [if_pos h, if_pos (by dsimp only; omega)]; rfl
    · rw [if_neg h, if_neg (by dsimp only; omega)]; show _ = 1 + (t.val * 1024 + y0.val - 8192) / 4096; omega
  have ep : ∀ (j : Fin 6), (fun k => iblk m c 1 t (ix3 0 j k)) = Row.part (fun g k => mod m c (ix2 g k)) ⟨t.val * 1024 + y0.val, by omega⟩ j := fun j =>
    funext fun k => (blk1 m c t j k _ hg).trans (mod_at m c _ j k)
  have ex : (fun k => iblk m c 0 t (ix2 y0 k)) = Row.tok (fun a b d => xp m c (ix3 a b d)) (fun a b d => xs m c (ix3 a b d)) ⟨t.val * 1024 + y0.val, by omega⟩ :=
    funext fun k => (blk0 m c t y0 k _ rfl).trans (x_at m c _ k)
  have eg : (fun k => iblk m c 2 t (ix2 0 k)) = fun k => gain m c (ix1 k) := funext fun k => (blk2 m c t k).trans (gain_at m c k)
  have ew : (fun k => iblk m c 3 t (ix2 k y1)) = fun k => V m c main_v19 (ix2 k y1) := funext fun k => blk3 m c t k y1
  rw [ex, ep 0, ep 1, eg, ew]
  rfl

/-- The result is the reference's. -/
theorem final : (Pipeline.afterTail₀ cfgs (dats m) 0 (V0 m) [hostOps1] c main_v33 : S40960x4768.Idx → EReal)
    = Reference3Ideal.Read.val_main_v58 (F := Ideal) (xp m c) (xs m c) (mod m c) (gain m c) (win m c) := by
  rw [result]
  funext y
  idx_vars y
  refine (back_at _ y0 y1).trans ((array m c y0 (col y1)).trans ((ProjRef.out_at _ _ _ _ _ _ _).trans ?_).symm)
  exact congrArg (Row.proj _ _ _ _) (funext fun k => (w_at m c k y1).symm)

/-- The run: the result is that array, and the arguments are kept. -/
theorem run (g : Dev nD → PrngReg) : θ_run defs (onTc (τ := τ) (main (F := Ideal))) ⟨m, fun _ => 0, g⟩ (fun r => ∀ c : Dev nD,
    r.2.mem ((c.tc : Thread nD τ).loc main_v33) = (Pipeline.afterTail₀ cfgs (dats m) 0 (V0 m) [hostOps1] c main_v33)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine θ_run_mono (run_main m g) fun r h c => ⟨(h c).2 main_v33 (Pipeline.mem_restRefs_of main_v33 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

end Cert.ProjArray
end
-- ==== Proof.MergeBlock.lean ====
/-
  What one grid point of the merge computes: each row of its block.
-/
module

public import proofs.«01_k».proof.Proof.Gen.Kernel4Ideal.Frame
public import proofs.«01_k».proof.Proof.Row
public import Idealize.ShloMosaic.Lib.Pipeline.ValueKit

@[expose] public section

set_option maxRecDepth 16384

noncomputable section

namespace Cert.MergeBlock

open Cert.Kernel4Ideal Cert.Kernel4Ideal.Gen
open Idealize.ShloMosaic
open scoped BigOperators

/-- A grid point takes the context's block where its number is below sixteen, else the requests'. -/
theorem pick {α : Type} (n : Fin 80) (a b : α) : Scalar.select (Scalar.cmpi .slt (BitVec.ofNat 32 n.val) 16#32) a b = if n.val < 16 then a else b := by
  have e : Scalar.cmpi .slt (BitVec.ofNat 32 n.val) 16#32 = if n.val < 16 then 1#1 else 0#1 := by revert n; decide +kernel
  rw [e]
  split <;> rfl

/-- The first mixer's image. -/
theorem pool_at (i : grid0.Coords) (a b : Vec Ideal S512x256 .bf16) (w : Vec Ideal S256x1024 .bf16) (r : Fin 512) (k : Fin 1024) :
    k0_pay1 i a b w (ix2 r k) = ∑ j : Fin 256, (if (i 0).val < 16 then a (ix2 r j) else b (ix2 r j)) * w (ix2 j k) := by
  unfold k0_pay1
  dsimp only
  rw [pick (i 0)]
  by_cases h : (i 0).val < 16
  · simp only [if_pos h]
    pointwise
  · simp only [if_neg h]
    pointwise

/-- The second mixer's image. -/
theorem hy_at (i : grid0.Coords) (a b : Vec Ideal S512x256 .bf16) (w : Vec Ideal S256x1024 .bf16) (r : Fin 512) (k : Fin 1024) :
    k0_pay2 i a b w (ix2 r k) = ∑ j : Fin 256, (if (i 0).val < 16 then a (ix2 r j) else b (ix2 r j)) * w (ix2 j k) := pool_at i a b w r k

/-- The third mixer's image. -/
theorem att_at (i : grid0.Coords) (a b : Vec Ideal S512x512 .bf16) (w : Vec Ideal S512x1024 .bf16) (r : Fin 512) (k : Fin 1024) :
    k0_pay3 i a b w (ix2 r k) = ∑ j : Fin 512, (if (i 0).val < 16 then a (ix2 r j) else b (ix2 r j)) * w (ix2 j k) := by
  unfold k0_pay3
  dsimp only
  rw [pick (i 0)]
  by_cases h : (i 0).val < 16
  · simp only [if_pos h]
    pointwise
  · simp only [if_neg h]
    pointwise

/-- The stored block from the three images. -/
theorem store_at (p h a : FVec Ideal S512x1024 .f32) (g0 g1 g2 : Vec Ideal S512x1024 .bf16) (wo : Vec Ideal S1024x1024 .bf16)
    (x : Vec Ideal S512x1024 .f32) (m : Vec Ideal S1x6x1024 .f32) (r : Fin 512) (d : Fin 1024) :
    k0_pay5 p h a (k0_pay4 g0) g1 g2 wo x m (ix2 r d) = x (ix2 r d) + m (ix3 0 2 d) * ∑ k : Fin 1024,
      (Ideal.logistic (g0 (ix2 r k)) * p (ix2 r k) + Ideal.logistic (g1 (ix2 r k)) * h (ix2 r k) + Ideal.logistic (g2 (ix2 r k)) * a (ix2 r k))
        * wo (ix2 k d) := by
  unfold k0_pay5 k0_pay4
  pointwise
  simp only [Row.one_bits, Ideal.ofBits_zero, Row.logistic_eq]

/-- What a grid point leaves in its output block. -/
theorem out_at (i : grid0.Coords) (x0 x1 x2 x3 : Vec Ideal S512x256 .bf16) (x4 x5 : Vec Ideal S512x512 .bf16) (x6 x7 x8 : Vec Ideal S512x1024 .bf16)
    (x9 : Vec Ideal S512x1024 .f32) (x10 : Vec Ideal S1x6x1024 .f32) (x11 x12 : Vec Ideal S256x1024 .bf16) (x13 : Vec Ideal S512x1024 .bf16)
    (x14 : Vec Ideal S1024x1024 .bf16) (r : Fin 512) (d : Fin 1024) :
    out0_15 i x0 x1 x2 x3 x4 x5 x6 x7 x8 x9 x10 x11 x12 x13 x14 (ix2 r d) = Row.mix
      (fun j => if (i 0).val < 16 then x0 (ix2 r j) else x1 (ix2 r j)) (fun j => if (i 0).val < 16 then x2 (ix2 r j) else x3 (ix2 r j))
      (fun j => if (i 0).val < 16 then x4 (ix2 r j) else x5 (ix2 r j)) (fun k => x6 (ix2 r k)) (fun k => x7 (ix2 r k)) (fun k => x8 (ix2 r k))
      (fun k => x9 (ix2 r k)) (fun k => x10 (ix3 0 2 k)) (fun j k => x11 (ix2 j k)) (fun j k => x12 (ix2 j k)) (fun j k => x13 (ix2 j k))
      (fun k d => x14 (ix2 k d)) d := by
  have z : (![0, 0] : Fin 2 → Nat) = fun _ => 0 := by funext a; fin_cases a <;> rfl
  have z3 : (![0, 0, 0] : Fin 3 → Nat) = fun _ => 0 := by funext a; fin_cases a <;> rfl
  have f0 : ∀ x : Vec Ideal S512x256 .bf16, View.ld x r0_0 = x := fun x => View.ld_unit_zero z _ x
  have f1 : ∀ x : Vec Ideal S256x1024 .bf16, View.ld x r0_1 = x := fun x => View.ld_unit_zero z _ x
  have f2 : ∀ x : Vec Ideal S512x512 .bf16, View.ld x r0_2 = x := fun x => View.ld_unit_zero z _ x
  have f3 : ∀ x : Vec Ideal S512x1024 .bf16, View.ld x r0_3 = x := fun x => View.ld_unit_zero z _ x
  have f3' : ∀ x : Vec Ideal S512x1024 .f32, View.ld x r0_3 = x := fun x => View.ld_unit_zero z _ x
  have f4 : ∀ x : Vec Ideal S1024x1024 .bf16, View.ld x r0_4 = x := fun x => View.ld_unit_zero z _ x
  have f5 : ∀ x : Vec Ideal S1x6x1024 .f32, View.ld x r0_5 = x := fun x => View.ld_unit_zero z3 _ x
  unfold out0_15
  rw [View.canon_cons_unit_zero z]
  simp only [f0, f1, f2, f3, f3', f4, f5]
  rw [store_at]
  simp only [pool_at, hy_at, att_at]
  rfl

end Cert.MergeBlock
end
-- ==== Proof.MergeHost.lean ====
/-
  The arrays the merge's windows read, element by element, from the arguments.
-/
module

public import proofs.«01_k».proof.Proof.Gen.Kernel4Ideal.Frame
public import proofs.«01_k».proof.Proof.Row
public import Idealize.ShloMosaic.Lib.StableHlo.ReadAt

@[expose] public section

set_option maxRecDepth 16384

noncomputable section

namespace Cert.MergeHost

open Cert.Kernel4Ideal Cert.Kernel4Ideal.Gen
open Idealize.ShloMosaic Idealize.ShloMosaic.TcCoe

variable (m : (ℓ : Loc nD τ sig) → Buf (Elt Ideal) ℓ) (c : Dev nD)

/-- The fifteen arguments, as arrays of extended reals. -/
abbrev pp : S32x256x256.Idx → EReal := m ((c : Thread nD τ).loc main_arg0)
abbrev ps : S8x4096x256.Idx → EReal := m ((c : Thread nD τ).loc main_arg1)
abbrev hp : S32x256x256.Idx → EReal := m ((c : Thread nD τ).loc main_arg2)
abbrev hs : S8x4096x256.Idx → EReal := m ((c : Thread nD τ).loc main_arg3)
abbrev ap : S32x256x512.Idx → EReal := m ((c : Thread nD τ).loc main_arg4)
abbrev at_ : S8x4096x512.Idx → EReal := m ((c : Thread nD τ).loc main_arg5)
abbrev gp : S32x256x3072.Idx → EReal := m ((c : Thread nD τ).loc main_arg6)
abbrev gs : S8x4096x3072.Idx → EReal := m ((c : Thread nD τ).loc main_arg7)
abbrev xp : S32x256x1024.Idx → EReal := m ((c : Thread nD τ).loc main_arg8)
abbrev xs : S8x4096x1024.Idx → EReal := m ((c : Thread nD τ).loc main_arg9)
abbrev mod : S9x6144.Idx → EReal := m ((c : Thread nD τ).loc main_arg10)
abbrev wp : S256x1024.Idx → EReal := m ((c : Thread nD τ).loc main_arg11)
abbrev wh : S256x1024.Idx → EReal := m ((c : Thread nD τ).loc main_arg12)
abbrev wa : S512x1024.Idx → EReal := m ((c : Thread nD τ).loc main_arg13)
abbrev wo : S1024x1024.Idx → EReal := m ((c : Thread nD τ).loc main_arg14)

/-- The first mixer's context rows. -/
theorem pp_at (i : Fin 8192) (k : Fin 256) :
    (V m c main_v8 : S8192x256.Idx → EReal) (ix2 i k) = pp m c (ix3 ⟨i.val / 256, by omega⟩ ⟨i.val % 256, by omega⟩ k) := by
  unfold V
  after_reads_at

/-- The first mixer's request rows. -/
theorem ps_at (i : Fin 32768) (k : Fin 256) :
    (V m c main_v10 : S32768x256.Idx → EReal) (ix2 i k) = ps m c (ix3 ⟨i.val / 4096, by omega⟩ ⟨i.val % 4096, by omega⟩ k) := by
  unfold V
  after_reads_at

/-- The second mixer's context rows. -/
theorem hp_at (i : Fin 8192) (k : Fin 256) :
    (V m c main_v12 : S8192x256.Idx → EReal) (ix2 i k) = hp m c (ix3 ⟨i.val / 256, by omega⟩ ⟨i.val % 256, by omega⟩ k) := by
  unfold V
  after_reads_at

/-- The second mixer's request rows. -/
theorem hs_at (i : Fin 32768) (k : Fin 256) :
    (V m c main_v14 : S32768x256.Idx → EReal) (ix2 i k) = hs m c (ix3 ⟨i.val / 4096, by omega⟩ ⟨i.val % 4096, by omega⟩ k) := by
  unfold V
  after_reads_at

/-- The third mixer's context rows. -/
theorem ap_at (i : Fin 8192) (k : Fin 512) :
    (V m c main_v16 : S8192x512.Idx → EReal) (ix2 i k) = ap m c (ix3 ⟨i.val / 256, by omega⟩ ⟨i.val % 256, by omega⟩ k) := by
  unfold V
  after_reads_at

/-- The third mixer's request rows. -/
theorem at_at (i : Fin 32768) (k : Fin 512) :
    (V m c main_v18 : S32768x512.Idx → EReal) (ix2 i k) = at_ m c (ix3 ⟨i.val / 4096, by omega⟩ ⟨i.val % 4096, by omega⟩ k) := by
  unfold V
  after_reads_at

/-- The token array: the context's rows, then the requests'. -/
theorem x_at (i : Fin 40960) (d : Fin 1024) :
    (V m c main_v21 : S40960x1024.Idx → EReal) (ix2 i d) = Row.tok (fun a b d => xp m c (ix3 a b d)) (fun a b d => xs m c (ix3 a b d)) i d := by
  have e : (V m c main_v21 : S40960x1024.Idx → EReal) = concatenate S40960x1024 0
      [⟨S8192x1024, shapeCast S8192x1024 (xp m c) shapeCasts_S32x256x1024_S8192x1024⟩,
        ⟨S32768x1024, shapeCast S32768x1024 (xs m c) shapeCasts_S8x4096x1024_S32768x1024⟩] concatenates_S8192x1024_S32768x1024_S40960x1024_d0 := by
    unfold V
    after_reads_simp
    rfl
  rw [e]
  generalize xp m c = p
  generalize xs m c = q
  clear e
  pointwise
  rfl

/-- The gates' array, in the last columns of the projection's. -/
theorem g_at (i : Fin 40960) (d : Fin 3072) (j : Fin 5120) (hj : j.val = 2048 + d.val) :
    (V m c main_v6 : S40960x5120.Idx → EReal) (ix2 i j) = Row.tok (fun a b d => gp m c (ix3 a b d)) (fun a b d => gs m c (ix3 a b d)) i d := by
  have e : (V m c main_v6 : S40960x5120.Idx → EReal) = concatenate S40960x5120 1
      [⟨S40960x2048, broadcastInDim S40960x2048 ![] bcast_S_S40960x2048 (constant (F := Ideal) S_ .bf16 0x0000#16)⟩,
        ⟨S40960x3072, concatenate S40960x3072 0
          [⟨S8192x3072, shapeCast S8192x3072 (gp m c) shapeCasts_S32x256x3072_S8192x3072⟩,
            ⟨S32768x3072, shapeCast S32768x3072 (gs m c) shapeCasts_S8x4096x3072_S32768x3072⟩] concatenates_S8192x3072_S32768x3072_S40960x3072_d0⟩]
      concatenates_S40960x2048_S40960x3072_S40960x5120_d1 := by
    unfold V
    after_reads_simp
    rfl
  rw [e]
  generalize gp m c = p
  generalize gs m c = q
  clear e
  have h1 : ¬ j.val < 2048 := by omega
  have h2 : (⟨j.val - 2048, by omega⟩ : Fin 3072) = d := Fin.ext (by show j.val - 2048 = d.val; omega)
  pointwise
  rw [dif_neg h1]
  simp only [h2]
  rfl

/-- The modulation's array: each row in six parts. -/
theorem mod_at (g : Fin 9) (j : Fin 6) (d : Fin 1024) :
    (V m c main_v22 : S9x6x1024.Idx → EReal) (ix3 g j d) = mod m c (ix2 g ⟨j.val * 1024 + d.val, by omega⟩) := by
  unfold V
  after_reads_at

/-- The weights' arrays. -/
theorem wp_at (k : Fin 256) (f : Fin 1024) : (V m c main_v23 : S256x1024.Idx → EReal) (ix2 k f) = wp m c (ix2 k f) := by
  unfold V
  after_reads_at
theorem wh_at (k : Fin 256) (f : Fin 1024) : (V m c main_v24 : S256x1024.Idx → EReal) (ix2 k f) = wh m c (ix2 k f) := by
  unfold V
  after_reads_at
theorem wa_at (k : Fin 512) (f : Fin 1024) : (V m c main_v25 : S512x1024.Idx → EReal) (ix2 k f) = wa m c (ix2 k f) := by
  unfold V
  after_reads_at
theorem wo_at (k : Fin 1024) (f : Fin 1024) : (V m c main_v26 : S1024x1024.Idx → EReal) (ix2 k f) = wo m c (ix2 k f) := by
  unfold V
  after_reads_at

end Cert.MergeHost
end
-- ==== Proof.MergeRef.lean ====
/-
  The reference merge's result, element by element, from its arguments.
-/
module

public import proofs.«01_k».proof.Proof.Gen.Reference4Ideal.Read
public import proofs.«01_k».proof.Proof.Row

@[expose] public section

set_option maxRecDepth 16384

noncomputable section

namespace Cert.MergeRef

open Cert.Reference4Ideal Cert.Reference4Ideal.Gen Cert.Reference4Ideal.Read
open Idealize.ShloMosaic
open scoped BigOperators

variable (x0 : S32x256x256.Idx → EReal) (x1 : S8x4096x256.Idx → EReal) (x2 : S32x256x256.Idx → EReal) (x3 : S8x4096x256.Idx → EReal)
  (x4 : S32x256x512.Idx → EReal) (x5 : S8x4096x512.Idx → EReal) (x6 : S32x256x3072.Idx → EReal) (x7 : S8x4096x3072.Idx → EReal)
  (x8 : S32x256x1024.Idx → EReal) (x9 : S8x4096x1024.Idx → EReal) (x10 : S9x6144.Idx → EReal) (x11 x12 : S256x1024.Idx → EReal)
  (x13 : S512x1024.Idx → EReal) (x14 : S1024x1024.Idx → EReal)

/-- The gate of the context. -/
theorem gate_p (a : Fin 32) (b : Fin 256) (d : Fin 1024) : val_main_v30 (F := Ideal) x10 (ix3 a b d) = x10 (ix2 0 ⟨2 * 1024 + d.val, by omega⟩) := by
  unfold val_main_v30 val_main_v4 val_main_v1 val_main_v0
  pointwise

/-- The first mixer's image of the context. -/
theorem first_p (a : Fin 32) (b : Fin 256) (k : Fin 1024) : val_main_v8 (F := Ideal) x0 x11 (ix3 a b k) = ∑ j : Fin 256, x0 (ix3 a b j) * x11 (ix2 j k) := by
  unfold val_main_v8
  pointwise

/-- The first mixer's gates of the context. -/
theorem first_gate_p (a : Fin 32) (b : Fin 256) (k : Fin 1024) : val_main_v19 (F := Ideal) x6 (ix3 a b k) = Ideal.logistic (x6 (ix3 a b ⟨k.val, by omega⟩)) := by
  unfold val_main_v19 val_main_v18 val_main_v17 val_main_v16 val_main_v15 val_main_v14 val_main_v13 val_main_v12 val_main_v11 val_main_cst val_main_cst_0
  pointwise
  rfl

/-- The second mixer's image of the context. -/
theorem second_p (a : Fin 32) (b : Fin 256) (k : Fin 1024) : val_main_v9 (F := Ideal) x2 x12 (ix3 a b k) = ∑ j : Fin 256, x2 (ix3 a b j) * x12 (ix2 j k) := by
  unfold val_main_v9
  pointwise

/-- The second mixer's gates of the context. -/
theorem second_gate_p (a : Fin 32) (b : Fin 256) (k : Fin 1024) : val_main_v22 (F := Ideal) x6 (ix3 a b k) = Ideal.logistic (x6 (ix3 a b ⟨1024 + k.val, by omega⟩)) := by
  unfold val_main_v22 val_main_v21 val_main_v17 val_main_v16 val_main_v15 val_main_v14 val_main_v13 val_main_v12 val_main_v11 val_main_cst val_main_cst_0
  pointwise
  rfl

/-- The third mixer's image of the context. -/
theorem third_p (a : Fin 32) (b : Fin 256) (k : Fin 1024) : val_main_v10 (F := Ideal) x4 x13 (ix3 a b k) = ∑ j : Fin 512, x4 (ix3 a b j) * x13 (ix2 j k) := by
  unfold val_main_v10
  pointwise

/-- The third mixer's gates of the context. -/
theorem third_gate_p (a : Fin 32) (b : Fin 256) (k : Fin 1024) : val_main_v26 (F := Ideal) x6 (ix3 a b k) = Ideal.logistic (x6 (ix3 a b ⟨2048 + k.val, by omega⟩)) := by
  unfold val_main_v26 val_main_v25 val_main_v17 val_main_v16 val_main_v15 val_main_v14 val_main_v13 val_main_v12 val_main_v11 val_main_cst val_main_cst_0
  pointwise
  rfl

/-- The merge of the context. -/
theorem mix_p (a : Fin 32) (b : Fin 256) (d : Fin 1024) :
    val_main_v32 (F := Ideal) x0 x2 x4 x6 x8 x10 x11 x12 x13 x14 (ix3 a b d) = Row.mix (fun j => x0 (ix3 a b j)) (fun j => x2 (ix3 a b j))
      (fun j => x4 (ix3 a b j)) (fun k => x6 (ix3 a b ⟨k.val, by omega⟩)) (fun k => x6 (ix3 a b ⟨1024 + k.val, by omega⟩))
      (fun k => x6 (ix3 a b ⟨2048 + k.val, by omega⟩)) (fun k => x8 (ix3 a b k)) (fun k => x10 (ix2 0 ⟨2 * 1024 + k.val, by omega⟩))
      (fun j k => x11 (ix2 j k)) (fun j k => x12 (ix2 j k)) (fun j k => x13 (ix2 j k)) (fun k d => x14 (ix2 k d)) d := by
  have e0 := gate_p x10 a b d
  have e1 := first_p x0 x11 a b
  have e2 := second_p x2 x12 a b
  have e3 := third_p x4 x13 a b
  have g1 := first_gate_p x6 a b
  have g2 := second_gate_p x6 a b
  have g3 := third_gate_p x6 a b
  unfold val_main_v32 val_main_v31 val_main_v29 val_main_v28 val_main_v27 val_main_v24 val_main_v23 val_main_v20
  generalize val_main_v30 (F := Ideal) x10 = o0 at e0 ⊢
  generalize val_main_v8 (F := Ideal) x0 x11 = o1 at e1 ⊢
  generalize val_main_v9 (F := Ideal) x2 x12 = o2 at e2 ⊢
  generalize val_main_v10 (F := Ideal) x4 x13 = o3 at e3 ⊢
  generalize val_main_v19 (F := Ideal) x6 = q1 at g1 ⊢
  generalize val_main_v22 (F := Ideal) x6 = q2 at g2 ⊢
  generalize val_main_v26 (F := Ideal) x6 = q3 at g3 ⊢
  pointwise
  simp only [e0, e1, e2, e3, g1, g2, g3]
  rfl

/-- The gate of the requests. -/
theorem gate_s (a : Fin 8) (b : Fin 4096) (d : Fin 1024) : val_main_v63 (F := Ideal) x10 (ix3 a b d) = x10 (ix2 ⟨1 + a.val, by omega⟩ ⟨2 * 1024 + d.val, by omega⟩) := by
  unfold val_main_v63 val_main_v37 val_main_v34 val_main_v33
  pointwise

/-- The first mixer's image of the requests. -/
theorem first_s (a : Fin 8) (b : Fin 4096) (k : Fin 1024) : val_main_v41 (F := Ideal) x1 x11 (ix3 a b k) = ∑ j : Fin 256, x1 (ix3 a b j) * x11 (ix2 j k) := by
  unfold val_main_v41
  pointwise

/-- The first mixer's gates of the requests. -/
theorem first_gate_s (a : Fin 8) (b : Fin 4096) (k : Fin 1024) : val_main_v52 (F := Ideal) x7 (ix3 a b k) = Ideal.logistic (x7 (ix3 a b ⟨k.val, by omega⟩)) := by
  unfold val_main_v52 val_main_v51 val_main_v50 val_main_v49 val_main_v48 val_main_v47 val_main_v46 val_main_v45 val_main_v44 val_main_cst_1 val_main_cst_2
  pointwise
  rfl

/-- The second mixer's image of the requests. -/
theorem second_s (a : Fin 8) (b : Fin 4096) (k : Fin 1024) : val_main_v42 (F := Ideal) x3 x12 (ix3 a b k) = ∑ j : Fin 256, x3 (ix3 a b j) * x12 (ix2 j k) := by
  unfold val_main_v42
  pointwise

/-- The second mixer's gates of the requests. -/
theorem second_gate_s (a : Fin 8) (b : Fin 4096) (k : Fin 1024) : val_main_v55 (F := Ideal) x7 (ix3 a b k) = Ideal.logistic (x7 (ix3 a b ⟨1024 + k.val, by omega⟩)) := by
  unfold val_main_v55 val_main_v54 val_main_v50 val_main_v49 val_main_v48 val_main_v47 val_main_v46 val_main_v45 val_main_v44 val_main_cst_1 val_main_cst_2
  pointwise
  rfl

/-- The third mixer's image of the requests. -/
theorem third_s (a : Fin 8) (b : Fin 4096) (k : Fin 1024) : val_main_v43 (F := Ideal) x5 x13 (ix3 a b k) = ∑ j : Fin 512, x5 (ix3 a b j) * x13 (ix2 j k) := by
  unfold val_main_v43
  pointwise

/-- The third mixer's gates of the requests. -/
theorem third_gate_s (a : Fin 8) (b : Fin 4096) (k : Fin 1024) : val_main_v59 (F := Ideal) x7 (ix3 a b k) = Ideal.logistic (x7 (ix3 a b ⟨2048 + k.val, by omega⟩)) := by
  unfold val_main_v59 val_main_v58 val_main_v50 val_main_v49 val_main_v48 val_main_v47 val_main_v46 val_main_v45 val_main_v44 val_main_cst_1 val_main_cst_2
  pointwise
  rfl

/-- The merge of the requests. -/
theorem mix_s (a : Fin 8) (b : Fin 4096) (d : Fin 1024) :
    val_main_v65 (F := Ideal) x1 x3 x5 x7 x9 x10 x11 x12 x13 x14 (ix3 a b d) = Row.mix (fun j => x1 (ix3 a b j)) (fun j => x3 (ix3 a b j))
      (fun j => x5 (ix3 a b j)) (fun k => x7 (ix3 a b ⟨k.val, by omega⟩)) (fun k => x7 (ix3 a b ⟨1024 + k.val, by omega⟩))
      (fun k => x7 (ix3 a b ⟨2048 + k.val, by omega⟩)) (fun k => x9 (ix3 a b k)) (fun k => x10 (ix2 ⟨1 + a.val, by omega⟩ ⟨2 * 1024 + k.val, by omega⟩))
      (fun j k => x11 (ix2 j k)) (fun j k => x12 (ix2 j k)) (fun j k => x13 (ix2 j k)) (fun k d => x14 (ix2 k d)) d := by
  have e0 := gate_s x10 a b d
  have e1 := first_s x1 x11 a b
  have e2 := second_s x3 x12 a b
  have e3 := third_s x5 x13 a b
  have g1 := first_gate_s x7 a b
  have g2 := second_gate_s x7 a b
  have g3 := third_gate_s x7 a b
  unfold val_main_v65 val_main_v64 val_main_v62 val_main_v61 val_main_v60 val_main_v57 val_main_v56 val_main_v53
  generalize val_main_v63 (F := Ideal) x10 = o0 at e0 ⊢
  generalize val_main_v41 (F := Ideal) x1 x11 = o1 at e1 ⊢
  generalize val_main_v42 (F := Ideal) x3 x12 = o2 at e2 ⊢
  generalize val_main_v43 (F := Ideal) x5 x13 = o3 at e3 ⊢
  generalize val_main_v52 (F := Ideal) x7 = q1 at g1 ⊢
  generalize val_main_v55 (F := Ideal) x7 = q2 at g2 ⊢
  generalize val_main_v59 (F := Ideal) x7 = q3 at g3 ⊢
  pointwise
  simp only [e0, e1, e2, e3, g1, g2, g3]
  rfl

/-- The result's row of a token. -/
theorem out_at (i : Fin 40960) (d : Fin 1024) :
    val_main_v68 (F := Ideal) x0 x1 x2 x3 x4 x5 x6 x7 x8 x9 x10 x11 x12 x13 x14 (ix2 i d) = Row.mix
      (Row.tok (fun a b d => x0 (ix3 a b d)) (fun a b d => x1 (ix3 a b d)) i)
      (Row.tok (fun a b d => x2 (ix3 a b d)) (fun a b d => x3 (ix3 a b d)) i)
      (Row.tok (fun a b d => x4 (ix3 a b d)) (fun a b d => x5 (ix3 a b d)) i)
      (fun k => Row.tok (fun a b d => x6 (ix3 a b d)) (fun a b d => x7 (ix3 a b d)) i ⟨k.val, by omega⟩)
      (fun k => Row.tok (fun a b d => x6 (ix3 a b d)) (fun a b d => x7 (ix3 a b d)) i ⟨1024 + k.val, by omega⟩)
      (fun k => Row.tok (fun a b d => x6 (ix3 a b d)) (fun a b d => x7 (ix3 a b d)) i ⟨2048 + k.val, by omega⟩)
      (Row.tok (fun a b d => x8 (ix3 a b d)) (fun a b d => x9 (ix3 a b d)) i) (Row.part (fun g k => x10 (ix2 g k)) i 2)
      (fun j k => x11 (ix2 j k)) (fun j k => x12 (ix2 j k)) (fun j k => x13 (ix2 j k)) (fun k d => x14 (ix2 k d)) d := by
  have ep := mix_p x0 x2 x4 x6 x8 x10 x11 x12 x13 x14
  have es := mix_s x1 x3 x5 x7 x9 x10 x11 x12 x13 x14
  unfold val_main_v68 val_main_v66 val_main_v67
  generalize val_main_v32 (F := Ideal) x0 x2 x4 x6 x8 x10 x11 x12 x13 x14 = p at ep ⊢
  generalize val_main_v65 (F := Ideal) x1 x3 x5 x7 x9 x10 x11 x12 x13 x14 = q at es ⊢
  pointwise
  by_cases h : i.val < 8192
  · rw [dif_pos h, ep, Row.tok_ctx _ _ _ h, Row.tok_ctx _ _ _ h, Row.tok_ctx _ _ _ h, Row.tok_ctx _ _ _ h, Row.tok_ctx _ _ _ h, Row.part_ctx _ _ _ h]
    rfl
  · rw [dif_neg h, es, Row.tok_req _ _ _ h, Row.tok_req _ _ _ h, Row.tok_req _ _ _ h, Row.tok_req _ _ _ h, Row.tok_req _ _ _ h, Row.part_req _ _ _ h]
    rfl

end Cert.MergeRef
end
-- ==== Proof.MergeArray.lean ====
/-
  What the merge's output array holds: the reference's array, block by block.
-/
module

public import proofs.«01_k».proof.Proof.MergeBlock
public import proofs.«01_k».proof.Proof.MergeHost
public import proofs.«01_k».proof.Proof.MergeRef
public import proofs.«01_k».proof.Proof.Gen.Kernel4Ideal.Value
public import Idealize.ShloMosaic.Lib.Pipeline.ValueKit

@[expose] public section

set_option maxRecDepth 16384

noncomputable section

namespace Cert.MergeArray

open Idealize.ShloMosaic Cert.Kernel4Ideal Cert.Kernel4Ideal.Gen Cert.Kernel4Ideal.Value Cert.MergeHost

/-- A grid point's coordinate is its number. -/
theorem coord : ∀ t : Fin cfg0.N, (grid0.coords t 0).val = t.val := (by decide +kernel : ∀ t : Fin grid0.N, _)
/-- Where a grid point's first context rows lie. -/
theorem at0 : ∀ t : Fin cfg0.N, win0_0.index t = ![min t.val 15, 0] := (by decide +kernel : ∀ t : Fin grid0.N, _)
/-- Where a grid point's first request rows lie. -/
theorem at1 : ∀ t : Fin cfg0.N, win0_1.index t = ![t.val - 16, 0] := (by decide +kernel : ∀ t : Fin grid0.N, _)
/-- Where a grid point's second context rows lie. -/
theorem at2 : ∀ t : Fin cfg0.N, win0_2.index t = ![min t.val 15, 0] := (by decide +kernel : ∀ t : Fin grid0.N, _)
/-- Where a grid point's second request rows lie. -/
theorem at3 : ∀ t : Fin cfg0.N, win0_3.index t = ![t.val - 16, 0] := (by decide +kernel : ∀ t : Fin grid0.N, _)
/-- Where a grid point's third context rows lie. -/
theorem at4 : ∀ t : Fin cfg0.N, win0_4.index t = ![min t.val 15, 0] := (by decide +kernel : ∀ t : Fin grid0.N, _)
/-- Where a grid point's third request rows lie. -/
theorem at5 : ∀ t : Fin cfg0.N, win0_5.index t = ![t.val - 16, 0] := (by decide +kernel : ∀ t : Fin grid0.N, _)
/-- Where a grid point's first gates lie. -/
theorem at6 : ∀ t : Fin cfg0.N, win0_6.index t = ![t.val, 2] := (by decide +kernel : ∀ t : Fin grid0.N, _)
/-- Where a grid point's second gates lie. -/
theorem at7 : ∀ t : Fin cfg0.N, win0_7.index t = ![t.val, 3] := (by decide +kernel : ∀ t : Fin grid0.N, _)
/-- Where a grid point's third gates lie. -/
theorem at8 : ∀ t : Fin cfg0.N, win0_8.index t = ![t.val, 4] := (by decide +kernel : ∀ t : Fin grid0.N, _)
/-- Where a grid point's tokens lie. -/
theorem at9 : ∀ t : Fin cfg0.N, win0_9.index t = ![t.val, 0] := (by decide +kernel : ∀ t : Fin grid0.N, _)
/-- Which row of the modulation a grid point takes. -/
theorem at10 : ∀ t : Fin cfg0.N, win0_10.index t = ![if t.val < 16 then 0 else 1 + (t.val - 16) / 8, 0, 0] := (by decide +kernel : ∀ t : Fin grid0.N, _)
/-- The first mixer's weight is taken whole. -/
theorem at11 : ∀ t : Fin cfg0.N, win0_11.index t = ![0, 0] := (by decide +kernel : ∀ t : Fin grid0.N, _)
/-- The second mixer's weight is taken whole. -/
theorem at12 : ∀ t : Fin cfg0.N, win0_12.index t = ![0, 0] := (by decide +kernel : ∀ t : Fin grid0.N, _)
/-- The third mixer's weight is taken whole. -/
theorem at13 : ∀ t : Fin cfg0.N, win0_13.index t = ![0, 0] := (by decide +kernel : ∀ t : Fin grid0.N, _)
/-- The last weight is taken whole. -/
theorem at14 : ∀ t : Fin cfg0.N, win0_14.index t = ![0, 0] := (by decide +kernel : ∀ t : Fin grid0.N, _)
/-- Where a grid point's output block lies. -/
theorem at15 : ∀ t : Fin cfg0.N, win0_15.index t = ![t.val, 0] := (by decide +kernel : ∀ t : Fin grid0.N, _)

variable (m : (ℓ : Loc nD τ sig) → Buf (Elt Ideal) ℓ) (c : Dev nD)

/-- A grid point's first context rows. -/
theorem blk0 (t : Fin cfg0.N) (r : Fin 512) (k : Fin 256) (i : Fin 8192) (hi : min t.val 15 * 512 + r.val = i.val) :
    iblk m c 0 t (ix2 r k) = V m c main_v8 (ix2 i k) := by
  show V m c main_v8 ((win0_0.blk t).view.emb (ix2 r k)) = _
  refine congrArg (V m c main_v8) ?_
  blk_ext [at0]

/-- A grid point's first request rows. -/
theorem blk1 (t : Fin cfg0.N) (r : Fin 512) (k : Fin 256) (i : Fin 32768) (hi : (t.val - 16) * 512 + r.val = i.val) :
    iblk m c 1 t (ix2 r k) = V m c main_v10 (ix2 i k) := by
  show V m c main_v10 ((win0_1.blk t).view.emb (ix2 r k)) = _
  refine congrArg (V m c main_v10) ?_
  blk_ext [at1]

/-- A grid point's second context rows. -/
theorem blk2 (t : Fin cfg0.N) (r : Fin 512) (k : Fin 256) (i : Fin 8192) (hi : min t.val 15 * 512 + r.val = i.val) :
    iblk m c 2 t (ix2 r k) = V m c main_v12 (ix2 i k) := by
  show V m c main_v12 ((win0_2.blk t).view.emb (ix2 r k)) = _
  refine congrArg (V m c main_v12) ?_
  blk_ext [at2]

/-- A grid point's second request rows. -/
theorem blk3 (t : Fin cfg0.N) (r : Fin 512) (k : Fin 256) (i : Fin 32768) (hi : (t.val - 16) * 512 + r.val = i.val) :
    iblk m c 3 t (ix2 r k) = V m c main_v14 (ix2 i k) := by
  show V m c main_v14 ((win0_3.blk t).view.emb (ix2 r k)) = _
  refine congrArg (V m c main_v14) ?_
  blk_ext [at3]

/-- A grid point's third context rows. -/
theorem blk4 (t : Fin cfg0.N) (r : Fin 512) (k : Fin 512) (i : Fin 8192) (hi : min t.val 15 * 512 + r.val = i.val) :
    iblk m c 4 t (ix2 r k) = V m c main_v16 (ix2 i k) := by
  show V m c main_v16 ((win0_4.blk t).view.emb (ix2 r k)) = _
  refine congrArg (V m c main_v16) ?_
  blk_ext [at4]

/-- A grid point's third request rows. -/
theorem blk5 (t : Fin cfg0.N) (r : Fin 512) (k : Fin 512) (i : Fin 32768) (hi : (t.val - 16) * 512 + r.val = i.val) :
    iblk m c 5 t (ix2 r k) = V m c main_v18 (ix2 i k) := by
  show V m c main_v18 ((win0_5.blk t).view.emb (ix2 r k)) = _
  refine congrArg (V m c main_v18) ?_
  blk_ext [at5]

/-- A grid point's first gates. -/
theorem blk6 (t : Fin cfg0.N) (r : Fin 512) (k : Fin 1024) (i : Fin 40960) (j : Fin 5120) (hi : t.val * 512 + r.val = i.val) (hj : 2 * 1024 + k.val = j.val) :
    iblk m c 6 t (ix2 r k) = V m c main_v6 (ix2 i j) := by
  show V m c main_v6 ((win0_6.blk t).view.emb (ix2 r k)) = _
  refine congrArg (V m c main_v6) ?_
  blk_ext [at6]

/-- A grid point's second gates. -/
theorem blk7 (t : Fin cfg0.N) (r : Fin 512) (k : Fin 1024) (i : Fin 40960) (j : Fin 5120) (hi : t.val * 512 + r.val = i.val) (hj : 3 * 1024 + k.val = j.val) :
    iblk m c 7 t (ix2 r k) = V m c main_v6 (ix2 i j) := by
  show V m c main_v6 ((win0_7.blk t).view.emb (ix2 r k)) = _
  refine congrArg (V m c main_v6) ?_
  blk_ext [at7]

/-- A grid point's third gates. -/
theorem blk8 (t : Fin cfg0.N) (r : Fin 512) (k : Fin 1024) (i : Fin 40960) (j : Fin 5120) (hi : t.val * 512 + r.val = i.val) (hj : 4 * 1024 + k.val = j.val) :
    iblk m c 8 t (ix2 r k) = V m c main_v6 (ix2 i j) := by
  show V m c main_v6 ((win0_8.blk t).view.emb (ix2 r k)) = _
  refine congrArg (V m c main_v6) ?_
  blk_ext [at8]

/-- A grid point's tokens. -/
theorem blk9 (t : Fin cfg0.N) (r : Fin 512) (k : Fin 1024) (i : Fin 40960) (hi : t.val * 512 + r.val = i.val) :
    iblk m c 9 t (ix2 r k) = V m c main_v21 (ix2 i k) := by
  show V m c main_v21 ((win0_9.blk t).view.emb (ix2 r k)) = _
  refine congrArg (V m c main_v21) ?_
  blk_ext [at9]

/-- A grid point's row of the modulation. -/
theorem blk10 (t : Fin cfg0.N) (j : Fin 6) (k : Fin 1024) (g : Fin 9) (hg : (if t.val < 16 then 0 else 1 + (t.val - 16) / 8) = g.val) :
    iblk m c 10 t (ix3 0 j k) = V m c main_v22 (ix3 g j k) := by
  show V m c main_v22 ((win0_10.blk t).view.emb (ix3 0 j k)) = _
  refine congrArg (V m c main_v22) ?_
  blk_ext [at10]

/-- The first mixer's weight. -/
theorem blk11 (t : Fin cfg0.N) (j : Fin 256) (k : Fin 1024) :
    iblk m c 11 t (ix2 j k) = V m c main_v23 (ix2 j k) := by
  show V m c main_v23 ((win0_11.blk t).view.emb (ix2 j k)) = _
  refine congrArg (V m c main_v23) ?_
  blk_ext [at11]

/-- The second mixer's weight. -/
theorem blk12 (t : Fin cfg0.N) (j : Fin 256) (k : Fin 1024) :
    iblk m c 12 t (ix2 j k) = V m c main_v24 (ix2 j k) := by
  show V m c main_v24 ((win0_12.blk t).view.emb (ix2 j k)) = _
  refine congrArg (V m c main_v24) ?_
  blk_ext [at12]

/-- The third mixer's weight. -/
theorem blk13 (t : Fin cfg0.N) (j : Fin 512) (k : Fin 1024) :
    iblk m c 13 t (ix2 j k) = V m c main_v25 (ix2 j k) := by
  show V m c main_v25 ((win0_13.blk t).view.emb (ix2 j k)) = _
  refine congrArg (V m c main_v25) ?_
  blk_ext [at13]

/-- The last weight. -/
theorem blk14 (t : Fin cfg0.N) (j : Fin 1024) (k : Fin 1024) :
    iblk m c 14 t (ix2 j k) = V m c main_v26 (ix2 j k) := by
  show V m c main_v26 ((win0_14.blk t).view.emb (ix2 j k)) = _
  refine congrArg (V m c main_v26) ?_
  blk_ext [at14]

/-- The rows a grid point takes from the first mixer are its tokens'. -/
theorem first (t : Fin cfg0.N) (r : Fin 512) :
    (fun j : Fin 256 => if (grid0.coords t 0).val < 16 then iblk m c 0 t (ix2 r j) else iblk m c 1 t (ix2 r j))
      = Row.tok (fun a b d => pp m c (ix3 a b d)) (fun a b d => ps m c (ix3 a b d)) ⟨t.val * 512 + r.val, by have : t.val < 80 := t.isLt; omega⟩ := by
  have ht : t.val < 80 := t.isLt
  rw [coord t]
  by_cases h : t.val < 16
  · rw [Row.tok_ctx _ _ _ (by dsimp only; omega)]
    funext j
    rw [if_pos h]
    exact (blk0 m c t r j ⟨t.val * 512 + r.val, by omega⟩ (by show _ = t.val * 512 + r.val; omega)).trans (pp_at m c _ j)
  · rw [Row.tok_req _ _ _ (by dsimp only; omega)]
    funext j
    rw [if_neg h]
    exact (blk1 m c t r j ⟨t.val * 512 + r.val - 8192, by omega⟩ (by show _ = t.val * 512 + r.val - 8192; omega)).trans (ps_at m c _ j)

/-- The rows a grid point takes from the second mixer are its tokens'. -/
theorem second (t : Fin cfg0.N) (r : Fin 512) :
    (fun j : Fin 256 => if (grid0.coords t 0).val < 16 then iblk m c 2 t (ix2 r j) else iblk m c 3 t (ix2 r j))
      = Row.tok (fun a b d => hp m c (ix3 a b d)) (fun a b d => hs m c (ix3 a b d)) ⟨t.val * 512 + r.val, by have : t.val < 80 := t.isLt; omega⟩ := by
  have ht : t.val < 80 := t.isLt
  rw [coord t]
  by_cases h : t.val < 16
  · rw [Row.tok_ctx _ _ _ (by dsimp only; omega)]
    funext j
    rw [if_pos h]
    exact (blk2 m c t r j ⟨t.val * 512 + r.val, by omega⟩ (by show _ = t.val * 512 + r.val; omega)).trans (hp_at m c _ j)
  · rw [Row.tok_req _ _ _ (by dsimp only; omega)]
    funext j
    rw [if_neg h]
    exact (blk3 m c t r j ⟨t.val * 512 + r.val - 8192, by omega⟩ (by show _ = t.val * 512 + r.val - 8192; omega)).trans (hs_at m c _ j)

/-- The rows a grid point takes from the third mixer are its tokens'. -/
theorem third (t : Fin cfg0.N) (r : Fin 512) :
    (fun j : Fin 512 => if (grid0.coords t 0).val < 16 then iblk m c 4 t (ix2 r j) else iblk m c 5 t (ix2 r j))
      = Row.tok (fun a b d => ap m c (ix3 a b d)) (fun a b d => at_ m c (ix3 a b d)) ⟨t.val * 512 + r.val, by have : t.val < 80 := t.isLt; omega⟩ := by
  have ht : t.val < 80 := t.isLt
  rw [coord t]
  by_cases h : t.val < 16
  · rw [Row.tok_ctx _ _ _ (by dsimp only; omega)]
    funext j
    rw [if_pos h]
    exact (blk4 m c t r j ⟨t.val * 512 + r.val, by omega⟩ (by show _ = t.val * 512 + r.val; omega)).trans (ap_at m c _ j)
  · rw [Row.tok_req _ _ _ (by dsimp only; omega)]
    funext j
    rw [if_neg h]
    exact (blk5 m c t r j ⟨t.val * 512 + r.val - 8192, by omega⟩ (by show _ = t.val * 512 + r.val - 8192; omega)).trans (at_at m c _ j)

/-- A grid point's gates zero are its tokens'. -/
theorem gates_zero (t : Fin cfg0.N) (r : Fin 512) :
    (fun k : Fin 1024 => iblk m c 6 t (ix2 r k)) = fun k : Fin 1024 =>
      Row.tok (fun a b d => gp m c (ix3 a b d)) (fun a b d => gs m c (ix3 a b d)) ⟨t.val * 512 + r.val, by have : t.val < 80 := t.isLt; omega⟩ ⟨k.val, by omega⟩ :=
  funext fun k => (blk6 m c t r k _ ⟨2048 + k.val, by omega⟩ rfl (by show _ = 2048 + k.val; omega)).trans
    (g_at m c _ ⟨k.val, by omega⟩ _ (by show 2048 + k.val = 2048 + k.val; omega))

/-- A grid point's gates one are its tokens'. -/
theorem gates_one (t : Fin cfg0.N) (r : Fin 512) :
    (fun k : Fin 1024 => iblk m c 7 t (ix2 r k)) = fun k : Fin 1024 =>
      Row.tok (fun a b d => gp m c (ix3 a b d)) (fun a b d => gs m c (ix3 a b d)) ⟨t.val * 512 + r.val, by have : t.val < 80 := t.isLt; omega⟩ ⟨1024 + k.val, by omega⟩ :=
  funext fun k => (blk7 m c t r k _ ⟨3072 + k.val, by omega⟩ rfl (by show _ = 3072 + k.val; omega)).trans
    (g_at m c _ ⟨1024 + k.val, by omega⟩ _ (by show 3072 + k.val = 2048 + (1024 + k.val); omega))

/-- A grid point's gates two are its tokens'. -/
theorem gates_two (t : Fin cfg0.N) (r : Fin 512) :
    (fun k : Fin 1024 => iblk m c 8 t (ix2 r k)) = fun k : Fin 1024 =>
      Row.tok (fun a b d => gp m c (ix3 a b d)) (fun a b d => gs m c (ix3 a b d)) ⟨t.val * 512 + r.val, by have : t.val < 80 := t.isLt; omega⟩ ⟨2048 + k.val, by omega⟩ :=
  funext fun k => (blk8 m c t r k _ ⟨4096 + k.val, by omega⟩ rfl (by show _ = 4096 + k.val; omega)).trans
    (g_at m c _ ⟨2048 + k.val, by omega⟩ _ (by show 4096 + k.val = 2048 + (2048 + k.val); omega))

/-- The array the kernel leaves is the reference's. -/
theorem final : (dats m 0 c).arrAt 15 cfg0.N
    = Reference4Ideal.Read.val_main_v68 (F := Ideal) (pp m c) (ps m c) (hp m c) (hs m c) (ap m c) (at_ m c) (gp m c) (gs m c) (xp m c) (xs m c)
      (mod m c) (wp m c) (wh m c) (wa m c) (wo m c) := by
  refine (dats m 0 c).arrAt_eq_of_covers 15 _ (by decide +kernel) fun t hf y => ?_
  blk_simp
  rw [after0_15]
  have ht : t.val < 80 := t.isLt
  idx_vars y
  have e : ((View.whole main_v27).slice (win0_15.rect t)).emb (ix2 y0 y1)
      = (ix2 (⟨t.val * 512 + y0.val, by omega⟩ : Fin 40960) y1 : S40960x1024.Idx) := by
    blk_ext [at15]
  rw [e]
  refine (MergeBlock.out_at _ _ _ _ _ _ _ _ _ _ _ _ _ _ _ _ _ _).trans ((MergeRef.out_at _ _ _ _ _ _ _ _ _ _ _ _ _ _ _ _ _).trans ?_).symm
  have hg : (if t.val < 16 then 0 else 1 + (t.val - 16) / 8) = (Row.grp ⟨t.val * 512 + y0.val, by omega⟩).val := by
    unfold Row.grp
    by_cases h : t.val < 16
    · rw [if_pos h, if_pos (by dsimp only; omega)]; rfl
    · rw [if_neg h, if_neg (by dsimp only; omega)]; show _ = 1 + (t.val * 512 + y0.val - 8192) / 4096; omega
  have ep : (fun k => iblk m c 10 t (ix3 0 2 k)) = Row.part (fun g k => mod m c (ix2 g k)) ⟨t.val * 512 + y0.val, by omega⟩ 2 :=
    funext fun k => (blk10 m c t 2 k _ hg).trans (mod_at m c _ 2 k)
  have ex : (fun k => iblk m c 9 t (ix2 y0 k)) = Row.tok (fun a b d => xp m c (ix3 a b d)) (fun a b d => xs m c (ix3 a b d)) ⟨t.val * 512 + y0.val, by omega⟩ :=
    funext fun k => (blk9 m c t y0 k _ rfl).trans (x_at m c _ k)
  have e1 : (fun j k => iblk m c 11 t (ix2 j k)) = fun j k => wp m c (ix2 j k) := funext fun j => funext fun k => (blk11 m c t j k).trans (wp_at m c j k)
  have e2 : (fun j k => iblk m c 12 t (ix2 j k)) = fun j k => wh m c (ix2 j k) := funext fun j => funext fun k => (blk12 m c t j k).trans (wh_at m c j k)
  have e3 : (fun j k => iblk m c 13 t (ix2 j k)) = fun j k => wa m c (ix2 j k) := funext fun j => funext fun k => (blk13 m c t j k).trans (wa_at m c j k)
  have e4 : (fun j k => iblk m c 14 t (ix2 j k)) = fun j k => wo m c (ix2 j k) := funext fun j => funext fun k => (blk14 m c t j k).trans (wo_at m c j k)
  rw [← first m c t y0, ← second m c t y0, ← third m c t y0, ← gates_zero m c t y0, ← gates_one m c t y0, ← gates_two m c t y0, ← ex, ← ep, ← e1, ← e2, ← e3, ← e4]

end Cert.MergeArray
end
-- ==== Proof.MoeBody.lean ====
/-
  The experts' kernel body at one grid point: what it leaves in its output block, at any tables and blocks.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.FrameSuffix
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.MoeBody

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of each tile's expert. -/
abbrev tb0 : Memref sig .tc .smem S168 .i32 := Memref.whole main_arg1
/-- The table of each tile's occupied rows. -/
abbrev tb1 : Memref sig .tc .smem S168 .i32 := Memref.whole main_arg2

/-- The number of occupied rows that the body reads at a grid point. -/
abbrev word (T : S168.Idx → Elt F .i32) (i : grid0.Coords) : Elt F .i32 :=
  View.readAt (Elt F) tb1.view (Rect.unit (s := S168) (k0_off1 i) S1.size (k0_off1_inb i)).toLoadRect T (Shape.Idx.first (numel1_S1.symm ▸ Nat.one_pos))

/-- The first 256 rows of a tile. -/
abbrev top : Rect S512x1024 := Rect.unit (s := S512x1024) ![0, 0] S256x1024.size inb_S512x1024_S256x1024_0_0
/-- The last 256 rows of a tile. -/
abbrev bot : Rect S512x1024 := Rect.unit (s := S512x1024) ![256, 0] S256x1024.size inb_S512x1024_S256x1024_256_0
/-- A whole tile. -/
abbrev tile : Rect S512x1024 := Rect.unit (s := S512x1024) ![0, 0] S512x1024.size inb_S512x1024_S512x1024_0_0
/-- The whole of an expert's first weights. -/
abbrev rw13 : Rect S1x1024x2816 := Rect.unit (s := S1x1024x2816) ![0, 0, 0] S1x1024x2816.size inb_S1x1024x2816_S1x1024x2816_0_0_0
/-- The whole of an expert's last weights. -/
abbrev rw2 : Rect S1x1408x1024 := Rect.unit (s := S1x1408x1024) ![0, 0, 0] S1x1408x1024.size inb_S1x1408x1024_S1x1408x1024_0_0_0

/-- What the first half's store puts down. -/
def payTop (w : Elt F .i32) (x : Vec F S512x1024 .f32) (a : Vec F S1x1024x2816 .bf16) (b : Vec F S1x1408x1024 .bf16) : FVec F S256x1024 .f32 :=
  k0_pay3 w (View.ld x top) (View.ld a rw13) (View.ld b rw2)
/-- What the second half's store puts down. -/
def payBot (w : Elt F .i32) (x : Vec F S512x1024 .f32) (a : Vec F S1x1024x2816 .bf16) (b : Vec F S1x1408x1024 .bf16) : FVec F S256x1024 .f32 :=
  k0_pay1 (View.ld x bot) (Scalar.ofBits .f32 0x00000000#32) (k0_pay4 w) (View.ld a rw13) (View.ld b rw2)

/-- The output block of an occupied tile. -/
def full (w : Elt F .i32) (x : Vec F S512x1024 .f32) (a : Vec F S1x1024x2816 .bf16) (b : Vec F S1x1408x1024 .bf16) : Vec F S512x1024 .f32 :=
  View.canon [⟨bot, payBot w x a b⟩, ⟨top, payTop w x a b⟩]
/-- The output block of an empty tile. -/
def none : Vec F S512x1024 .f32 := View.canon [⟨tile, k0_pay2 (F := F)⟩]

/-- The output block of a tile. -/
def out (w : Elt F .i32) (x : Vec F S512x1024 .f32) (a : Vec F S1x1024x2816 .bf16) (b : Vec F S1x1408x1024 .bf16) : Vec F S512x1024 .f32 :=
  if k0_cond1 w = 1#1 then full w x a b else none

/-- The two halves cover the block. -/
theorem cover2 (p q : Vec F S256x1024 .f32) (y : S512x1024.Idx) :
    ∃ pc ∈ ([⟨bot, p⟩, ⟨top, q⟩] : List (View.Piece (Elt F) S512x1024 .f32)), y ∈ pc.1.set :=
  View.cover_of_tiled [⟨bot, p⟩, ⟨top, q⟩] S256x1024.size (by rfl) y
/-- The whole covers the block. -/
theorem cover1 (p : Vec F S512x1024 .f32) (y : S512x1024.Idx) :
    ∃ pc ∈ ([⟨tile, p⟩] : List (View.Piece (Elt F) S512x1024 .f32)), y ∈ pc.1.set :=
  View.cover_of_tiled [⟨tile, p⟩] S512x1024.size (by rfl) y

section Triple

variable (c : Dev nD) (i : grid0.Coords) (arg3 : Memref sig .tc .vmem S512x1024 .f32) (harg3 : arg3.IsWhole)
  (arg4 : Memref sig .tc .vmem S1x1024x2816 .bf16) (harg4 : arg4.IsWhole) (arg5 : Memref sig .tc .vmem S1x1408x1024 .bf16) (harg5 : arg5.IsWhole)
  (arg6 : Memref sig .tc .vmem S512x1024 .f32) (harg6 : arg6.IsWhole) (T0 T1 : S168.Idx → Elt F .i32)
  (x : Vec F S512x1024 .f32) (a : Vec F S1x1024x2816 .bf16) (b : Vec F S1x1408x1024 .bf16) (K : PUnit → sProp (MT nD τ sig Unit (Elt F) ℕ (UR sig nD τ) ℕ))

set_option maxHeartbeats 8000000 in
/-- The body at an occupied tile. -/
theorem run_full (h1 : k0_cond1 (word T1 i) = 1#1) (h2 : ¬(k0_cond2 (word T1 i) = 1#1)) :
    iprop(owns (c : Thread nD τ) arg3 fullShare x ∗ owns (c : Thread nD τ) arg4 fullShare a ∗ owns (c : Thread nD τ) arg5 fullShare b
        ∗ (tb0.view.loc (c : Thread nD τ) ↦{fullShare.right} T0) ∗ (tb1.view.loc (c : Thread nD τ) ↦{fullShare.right} T1)
        ∗ (∃ d, owns (c : Thread nD τ) arg6 fullShare d)
        ∗ (iprop(owns (c : Thread nD τ) arg3 fullShare x ∗ owns (c : Thread nD τ) arg4 fullShare a ∗ owns (c : Thread nD τ) arg5 fullShare b
            ∗ (tb0.view.loc (c : Thread nD τ) ↦{fullShare.right} T0) ∗ (tb1.view.loc (c : Thread nD τ) ↦{fullShare.right} T1)
            ∗ owns (c : Thread nD τ) arg6 fullShare (full (word T1 i) x a b)) -∗ K ⟨⟩))
      ⊢ wp frame (wpE (defs₀ (F := F)) Variants.none c Option.none) Set.univ
          (cc0_ffn_moe i tb0 (Memref.isWhole_whole _) tb1 (Memref.isWhole_whole _) arg3 harg3 arg4 harg4 arg5 harg5 arg6 harg6) K := by
  rw [cc0_ffn_moe_eq_skeleton]; unfold cc0_ffn_moe_skel
  rw [k0_part1_eq_skeleton]; unfold k0_part1_skel
  unfold owns
  iintro ⟨⟨%f0, %hf0, H0⟩, ⟨%f1, %hf1, H1⟩, ⟨%f2, %hf2, H2⟩, HT0, HT1, ⟨%d3, %f3, -, H3⟩, Hk⟩
  subst hf0 hf1 hf2
  have hT0 : tb0.IsWhole := Memref.isWhole_whole _
  have hT1 : tb1.IsWhole := Memref.isWhole_whole _
  sl_exec! (disch := first | (guard_target = k0_cond1 _ = _; exact h1) | (guard_target = ¬(k0_cond2 _ = _); exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HT0]; · iexact HT0
  isplitl [HT1]; · iexact HT1
  iexists _; isplitr
  swap; · iexact H3
  ipureintro
  refine (View.read_writes_eq_canon _ _ _ (cover2 _ _)).trans ?_
  rfl

set_option maxHeartbeats 8000000 in
/-- The body at an empty tile. -/
theorem run_none (h1 : ¬(k0_cond1 (word T1 i) = 1#1)) (h2 : k0_cond2 (word T1 i) = 1#1) :
    iprop(owns (c : Thread nD τ) arg3 fullShare x ∗ owns (c : Thread nD τ) arg4 fullShare a ∗ owns (c : Thread nD τ) arg5 fullShare b
        ∗ (tb0.view.loc (c : Thread nD τ) ↦{fullShare.right} T0) ∗ (tb1.view.loc (c : Thread nD τ) ↦{fullShare.right} T1)
        ∗ (∃ d, owns (c : Thread nD τ) arg6 fullShare d)
        ∗ (iprop(owns (c : Thread nD τ) arg3 fullShare x ∗ owns (c : Thread nD τ) arg4 fullShare a ∗ owns (c : Thread nD τ) arg5 fullShare b
            ∗ (tb0.view.loc (c : Thread nD τ) ↦{fullShare.right} T0) ∗ (tb1.view.loc (c : Thread nD τ) ↦{fullShare.right} T1)
            ∗ owns (c : Thread nD τ) arg6 fullShare (none (F := F))) -∗ K ⟨⟩))
      ⊢ wp frame (wpE (defs₀ (F := F)) Variants.none c Option.none) Set.univ
          (cc0_ffn_moe i tb0 (Memref.isWhole_whole _) tb1 (Memref.isWhole_whole _) arg3 harg3 arg4 harg4 arg5 harg5 arg6 harg6) K := by
  rw [cc0_ffn_moe_eq_skeleton]; unfold cc0_ffn_moe_skel
  unfold owns
  iintro ⟨⟨%f0, %hf0, H0⟩, ⟨%f1, %hf1, H1⟩, ⟨%f2, %hf2, H2⟩, HT0, HT1, ⟨%d3, %f3, -, H3⟩, Hk⟩
  subst hf0 hf1 hf2
  have hT0 : tb0.IsWhole := Memref.isWhole_whole _
  have hT1 : tb1.IsWhole := Memref.isWhole_whole _
  sl_exec! (disch := first | (guard_target = ¬(k0_cond1 _ = _); exact h1) | (guard_target = k0_cond2 _ = _; exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HT0]; · iexact HT0
  isplitl [HT1]; · iexact HT1
  iexists _; isplitr
  swap; · iexact H3
  ipureintro
  refine (View.read_writes_eq_canon _ _ _ (cover1 _)).trans ?_
  rfl

end Triple

end Cert.MoeBody

end
-- ==== Proof.MoeRow.lean ====
/-
  A row of the experts' call over the extended reals.
-/
module

public import proofs.«01_k».proof.Proof.Row
public import Idealize.ShloMosaic.Lib.ReduceAll
public import Mathlib.Tactic.FinCases

@[expose] public section

noncomputable section

namespace Cert.MoeRow

open Idealize.ShloMosaic
open scoped BigOperators

/-- The gated feed-forward of a row through one expert's weights. -/
def glu (x : Fin 1024 → EReal) (w1 w3 : Fin 1024 → Fin 1408 → EReal) (w2 : Fin 1408 → Fin 1024 → EReal) (d : Fin 1024) : EReal :=
  ∑ f, Row.silu (∑ k, x k * w1 k f) * (∑ k, x k * w3 k f) * w2 f d

/-- A row of zeros has a feed-forward of zeros. -/
theorem glu_zero (w1 w3 : Fin 1024 → Fin 1408 → EReal) (w2 : Fin 1408 → Fin 1024 → EReal) (d : Fin 1024) : glu (fun _ => 0) w1 w3 w2 d = 0 := by
  simp [glu, Row.silu]

/-- Whether a row of a tile is occupied. -/
def used (tr : BitVec 32) (r : Fin 512) : Prop := (BitVec.ofNat 32 r.val).slt tr = true

open Classical in
/-- A row of a tile: its feed-forward if it is occupied, zero otherwise. -/
def row (tr : BitVec 32) (r : Fin 512) (x : Fin 1024 → EReal) (w1 w3 : Fin 1024 → Fin 1408 → EReal) (w2 : Fin 1408 → Fin 1024 → EReal) (d : Fin 1024) : EReal :=
  if used tr r then glu x w1 w3 w2 d else 0

/-- A row that is blanked unless occupied, before its feed-forward, is the same. -/
theorem glu_blank (tr : BitVec 32) (r : Fin 512) (x y : Fin 1024 → EReal) (w1 w3 : Fin 1024 → Fin 1408 → EReal) (w2 : Fin 1408 → Fin 1024 → EReal) (d : Fin 1024)
    (h1 : used tr r → y = x) (h0 : ¬used tr r → y = fun _ => 0) : glu y w1 w3 w2 d = row tr r x w1 w3 w2 d := by
  unfold row
  split_ifs with h
  · rw [h1 h]
  · rw [h0 h, glu_zero]

/-- In an empty tile every row is zero. -/
theorem row_empty (r : Fin 512) (x : Fin 1024 → EReal) (w1 w3 : Fin 1024 → Fin 1408 → EReal) (w2 : Fin 1408 → Fin 1024 → EReal) (d : Fin 1024) :
    row 0#32 r x w1 w3 w2 d = 0 := by
  unfold row
  rw [if_neg]
  unfold used
  have h : r.val < 512 := r.isLt
  rw [BitVec.slt_iff_toInt_lt]
  simp only [BitVec.toInt_zero, not_lt]
  rw [BitVec.toInt_eq_toNat_of_lt (by rw [BitVec.toNat_ofNat]; omega)]
  omega

/-- The word of a bit that is set is one. -/
def bit (b : BitVec 1) : EReal := ((b.toNat : ℝ) : EReal)

/-- Whether an expert is a tile's, and a row occupied, as a number. -/
def pick (e : Nat) (te tr : BitVec 32) (r : Fin 512) : EReal :=
  bit (IntOp.andi (IntOp.cmpi .eq te (BitVec.ofNat 32 e)) (IntOp.cmpi .slt (BitVec.ofNat 32 r.val) tr))

/-- Another expert contributes nothing. -/
theorem pick_ne (e : Nat) (te tr : BitVec 32) (r : Fin 512) (h : te ≠ BitVec.ofNat 32 e) : pick e te tr r = 0 := by
  have : (te == BitVec.ofNat 32 e) = false := beq_false_of_ne h
  simp [pick, bit, IntOp.cmpi, IntOp.andi, this]

/-- The tile's expert contributes its row. -/
theorem pick_eq (e : Nat) (te tr : BitVec 32) (r : Fin 512) (h : te = BitVec.ofNat 32 e) (x : Fin 1024 → EReal) (w1 w3 : Fin 1024 → Fin 1408 → EReal)
    (w2 : Fin 1408 → Fin 1024 → EReal) (d : Fin 1024) : pick e te tr r * glu x w1 w3 w2 d = row tr r x w1 w3 w2 d := by
  unfold pick row used bit
  subst h
  cases hs : (BitVec.ofNat 32 r.val).slt tr <;> simp [IntOp.cmpi, IntOp.andi, hs]

/-- The sum over the experts of what each contributes is the row of the tile's expert. -/
theorem sum_eq (te tr : BitVec 32) (r : Fin 512) (h : te.toNat < 8) (g : Fin 8 → EReal) (x : Fin 1024 → EReal) (w1 w3 : Fin 8 → Fin 1024 → Fin 1408 → EReal)
    (w2 : Fin 8 → Fin 1408 → Fin 1024 → EReal) (d : Fin 1024) (hg : ∀ e, g e = pick e.val te tr r * glu x (w1 e) (w3 e) (w2 e) d) :
    0 + g 0 + g 1 + g 2 + g 3 + g 4 + g 5 + g 6 + g 7 = row tr r x (w1 ⟨te.toNat, h⟩) (w3 ⟨te.toNat, h⟩) (w2 ⟨te.toNat, h⟩) d := by
  have ht : te = BitVec.ofNat 32 te.toNat := by simp
  have h0 : ∀ e : Fin 8, e ≠ ⟨te.toNat, h⟩ → g e = 0 := fun e he => by
    rw [hg, pick_ne, zero_mul]
    intro hh
    apply he
    apply Fin.ext
    have := congrArg BitVec.toNat hh
    rw [BitVec.toNat_ofNat] at this
    have := e.isLt
    change e.val = te.toNat
    omega
  have h1 : g ⟨te.toNat, h⟩ = row tr r x (w1 ⟨te.toNat, h⟩) (w3 ⟨te.toNat, h⟩) (w2 ⟨te.toNat, h⟩) d := by
    rw [hg]
    exact pick_eq _ _ _ _ ht _ _ _ _ _
  rw [← h1]
  generalize (⟨te.toNat, h⟩ : Fin 8) = q at h0
  have s : 0 + g 0 + g 1 + g 2 + g 3 + g 4 + g 5 + g 6 + g 7 = ∑ e, g e := by
    simp only [Fin.sum_univ_eight, zero_add]
  rw [s]
  exact Finset.sum_eq_single q (fun e _ he => h0 e he) (fun hh => absurd (Finset.mem_univ _) hh)

end Cert.MoeRow
end
-- ==== Proof.MoeFrame.lean ====
/-
  The experts' run from start to end, at any element values: the tables the call takes are ones it may use, the body's contract at every
  grid point, and every argument left as it was.
-/
module

public import proofs.«01_k».proof.Proof.MoeBody
public import Idealize.ShloMosaic.Lib.Claim
public import Idealize.ShloMosaic.Lib.Pipeline.ValueKit
public import Idealize.ShloMosaic.Lib.WordCmp
public import Idealize.ShloMosaic.Lib.Tactic.WordOmega

@[expose] public section

set_option maxRecDepth 16384

noncomputable section

namespace Cert.MoeFrame

open Cert.Kernel5Ideal Cert.Kernel5Ideal.Gen Cert.MoeBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-! ## The tables -/

/-- The axis an offset word names. -/
theorem k0_off1_val (i : grid0.Coords) : k0_off1 i 0 = (i 0).val := by
  have h : (i 0).val < 168 := (i 0).isLt
  change (BitVec.ofNat 32 (i 0).val).toNat = _
  rw [BitVec.toNat_ofNat]; omega

/-- The expert's word the windows read at a grid point. -/
theorem at_eq (p : pre0.Contents (Elt F)) (i : grid0.Coords) : p.at 0 (Rect.unit (s := S168) (k0_off1 i) S1.size (k0_off1_inb i)) numel1_S1
    = (p 0 : S168.Idx → BitVec 32) (ix1 ((i 0 : Fin 168))) := by
  refine congrArg (p 0 : S168.Idx → BitVec 32) (funext fun (a : Fin 1) => Fin.ext ?_)
  obtain rfl : a = 0 := Subsingleton.elim _ _
  change k0_off1 i 0 + _ = _
  rw [k0_off1_val]; rfl

/-- The number of occupied rows the body reads at a grid point. -/
theorem word_eq (T : S168.Idx → Elt F .i32) (i : grid0.Coords) : word T i = (T : S168.Idx → BitVec 32) (ix1 ((i 0 : Fin 168))) := by
  refine congrArg (T : S168.Idx → BitVec 32) (funext fun (a : Fin 1) => Fin.ext ?_)
  obtain rfl : a = 0 := Subsingleton.elim _ _
  change k0_off1 i 0 + _ = _
  rw [k0_off1_val]; rfl

/-- The second window's block index is a table word and two zeros. -/
theorem trans1_eq (p : pre0.Contents (Elt F)) (i : grid0.Coords) :
    cc0_transform_1 k0_off1_inb numel1_S1 p i = ![((p 0 : S168.Idx → BitVec 32) (ix1 ((i 0 : Fin 168)))).toNat, 0, 0] :=
  congrArg (fun v : BitVec 32 => (![v.toNat, 0, 0] : Fin 3 → ℕ)) (at_eq p i)
/-- The third window's block index is the same. -/
theorem trans2_eq (p : pre0.Contents (Elt F)) (i : grid0.Coords) :
    cc0_transform_2 k0_off1_inb numel1_S1 p i = ![((p 0 : S168.Idx → BitVec 32) (ix1 ((i 0 : Fin 168)))).toNat, 0, 0] :=
  congrArg (fun v : BitVec 32 => (![v.toNat, 0, 0] : Fin 3 → ℕ)) (at_eq p i)

/-- Tables that name experts are ones the region may run at. -/
theorem ok (p : pre0.Contents (Elt F)) (h : ∀ t : Fin 168, ((p 0 : S168.Idx → BitVec 32) (ix1 t)).toNat < 8) : ok0 p := by
  refine ⟨fun i => ⟨?_, .inr (Affine.block_words_dvd (s := S8x1024x2816) (p := EltTy.packing .bf16) (by decide) (by decide))⟩,
    fun i => ⟨?_, .inr (Affine.block_words_dvd (s := S8x1408x1024) (p := EltTy.packing .bf16) (by decide) (by decide))⟩⟩
  · rw [trans1_eq]
    have := h (i 0)
    intro a; fin_cases a
    · change (_ + 1) * 1 ≤ 8; simpa using this
    · show (0 + 1) * _ ≤ _; decide
    · show (0 + 1) * _ ≤ _; decide
  · rw [trans2_eq]
    have := h (i 0)
    intro a; fin_cases a
    · change (_ + 1) * 1 ≤ 8; simpa using this
    · show (0 + 1) * _ ≤ _; decide
    · show (0 + 1) * _ ≤ _; decide

/-- The condition for an occupied tile. -/
theorem cond1_iff (w : BitVec 32) (h : 0 ≤ w.toInt) : k0_cond1 w = 1#1 ↔ w ≠ 0#32 := by
  have e : k0_cond1 w = if (0#32).slt w then 1#1 else 0#1 := by
    simp only [k0_cond1, Scalar.cmpi, Scalar.extui, IntOp.cmpi]
    cases (0#32).slt w <;> decide
  have k : (0#32).slt w = true ↔ w ≠ 0#32 := by
    rw [BitVec.slt_iff_toInt_lt, ← BitVec.toInt_ne (y := 0#32)]
    simp only [BitVec.toInt_zero]
    omega
  rw [e, ← k]
  cases (0#32).slt w <;> simp
/-- The condition for an empty tile. -/
theorem cond2_iff (w : BitVec 32) : k0_cond2 w = 1#1 ↔ w = 0#32 := by
  have h : k0_cond2 w = if w = 0#32 then 1#1 else 0#1 := by
    simp only [k0_cond2, Scalar.cmpi, Scalar.extui, IntOp.cmpi]
    by_cases e : w = 0#32
    · subst e; decide
    · rw [if_neg e, show (w == 0#32) = false from beq_false_of_ne e]; decide
  rw [h]
  by_cases e : w = 0#32 <;> simp [e]

/-- The output block is stored at a point whose word is not negative, whatever the tables. -/
theorem idle0_eq (p : pre0.Contents (Elt F)) (i : grid0.Coords) (hr : 0 ≤ (word (p 1) i : BitVec 32).toInt) : idle0 p (3 : Fin 4) i = false := by
  have hw : p.atD 1 (k0_off1 i) = word (p 1) i :=
    dif_pos (c := ∀ a : Fin (pre0.ref 1).ty.shape.rank, k0_off1 i a + 1 ≤ (pre0.ref 1).ty.shape.size a) (fun (a : Fin 1) => by obtain rfl : a = 0 := Subsingleton.elim _ _; exact k0_off1_inb i 0)
  change (!(k0_cond1 (p.atD 1 (k0_off1 i)) == 1#1) && !(k0_cond2 (p.atD 1 (k0_off1 i)) == 1#1)) = false
  rw [hw]
  by_cases e : (word (p 1) i : BitVec 32) = 0#32
  · rw [(cond2_iff _).2 e]; simp
  · rw [(cond1_iff _ hr).2 e]; simp

/-- The output block is stored at every point of a pipeline whose words are not negative. -/
theorem idleA (a : (pcfg0 (F := F)).Adm) (h : ∀ i, 0 ≤ (word (a.1 1) i : BitVec 32).toInt) (t : Fin (cfg0 a).N) :
    (cfg0 a).idle (3 : Fin 4) ((cfg0 a).grid.coords t) = false :=
  idle0_eq a.1 _ (h _)

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-! ## The region at given tables and arrays -/

variable (a : (pcfg0 (F := F)).Adm) (V : (c : Dev nD) → (b : Ref sig .tc) → Buf (Elt F) ((c : Thread nD τ).loc b))

/-- A point's coordinates. -/
abbrev crd (t : Fin (cfg0 a).N) : (cfg0 a).grid.Coords := (cfg0 a).grid.coords t

/-- Window 0's staging buffer at a point. -/
abbrev ms0_0 (t : Fin (cfg0 a).N) : Memref sig .tc .vmem S512x1024 .f32 := spec0_0.stage ((cfg0 a).slots t (0 : Fin 4))
/-- It is a whole buffer. -/
abbrev hs0_0 (t : Fin (cfg0 a).N) : (ms0_0 a t).IsWhole := hstage0_0 (((cfg0 a).slots t (0 : Fin 4)).cast nbuf0_0)
/-- Window 1's staging buffer at a point. -/
abbrev ms0_1 (t : Fin (cfg0 a).N) : Memref sig .tc .vmem S1x1024x2816 .bf16 := spec0_1.stage ((cfg0 a).slots t (1 : Fin 4))
/-- It is a whole buffer. -/
abbrev hs0_1 (t : Fin (cfg0 a).N) : (ms0_1 a t).IsWhole := hstage0_1 (((cfg0 a).slots t (1 : Fin 4)).cast nbuf0_1)
/-- Window 2's staging buffer at a point. -/
abbrev ms0_2 (t : Fin (cfg0 a).N) : Memref sig .tc .vmem S1x1408x1024 .bf16 := spec0_2.stage ((cfg0 a).slots t (2 : Fin 4))
/-- It is a whole buffer. -/
abbrev hs0_2 (t : Fin (cfg0 a).N) : (ms0_2 a t).IsWhole := hstage0_2 (((cfg0 a).slots t (2 : Fin 4)).cast nbuf0_2)
/-- Window 3's staging buffer at a point. -/
abbrev ms0_3 (t : Fin (cfg0 a).N) : Memref sig .tc .vmem S512x1024 .f32 := spec0_3.stage ((cfg0 a).slots t (3 : Fin 4))
/-- It is a whole buffer. -/
abbrev hs0_3 (t : Fin (cfg0 a).N) : (ms0_3 a t).IsWhole := hstage0_3 (((cfg0 a).slots t (3 : Fin 4)).cast nbuf0_3)

/-- A window's block at a point, of its array as the region finds it. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V c (Pipeline.arrRef spec0 w))

/-- What the body leaves in the output block at a point. -/
def oblk (c : Dev nD) (t : Fin (cfg0 a).N) : Vec F S512x1024 .f32 :=
  out (word (a.1 1) (crd a t)) (iblk a V c 0 t) (iblk a V c 1 t) (iblk a V c 2 t)

/-- What the region's proof is of. -/
def dats (_ : Fin 1) (c : Dev nD) : Dat τ (Elt F) Unit ℕ (UR sig nD τ) ℕ (cfg0 a) c where
  A w := V c (Pipeline.arrRef spec0 w)
  after w t := match w with
    | ⟨0, _⟩ => iblk a V c (0 : Fin 4) t
    | ⟨1, _⟩ => iblk a V c (1 : Fin 4) t
    | ⟨2, _⟩ => iblk a V c (2 : Fin 4) t
    | ⟨3, _⟩ => oblk a V c t
  Φ _ := iprop(Pipeline.ΦA spec0 c ∗ Pipeline.ΦT pre0 a.1 c)
  q _ := fullShare
  owed _ := 0

/-- The arrays are what the region finds. -/
theorem A_eq (c : Dev nD) (w : Fin (cfg0 a).W) : (dats a V 0 c).A w = V c (Pipeline.arrRef spec0 w) := by
  dsimp only [dats]
/-- What the body leaves in window 0. -/
theorem after0_0 (c : Dev nD) (t : Fin (cfg0 a).N) : (dats a V 0 c).after (0 : Fin 4) t = iblk a V c (0 : Fin 4) t := by dsimp only [dats]
/-- What the body leaves in window 1. -/
theorem after0_1 (c : Dev nD) (t : Fin (cfg0 a).N) : (dats a V 0 c).after (1 : Fin 4) t = iblk a V c (1 : Fin 4) t := by dsimp only [dats]
/-- What the body leaves in window 2. -/
theorem after0_2 (c : Dev nD) (t : Fin (cfg0 a).N) : (dats a V 0 c).after (2 : Fin 4) t = iblk a V c (2 : Fin 4) t := by dsimp only [dats]
/-- What the body leaves in window 3. -/
theorem after0_3 (c : Dev nD) (t : Fin (cfg0 a).N) : (dats a V 0 c).after (3 : Fin 4) t = oblk a V c t := by dsimp only [dats]
/-- What the body finds in window 0. -/
theorem before0_0 (c : Dev nD) (t : Fin (cfg0 a).N) (d) : (dats a V 0 c).before (0 : Fin 4) t d = iblk a V c (0 : Fin 4) t :=
  ((dats a V 0 c).before_in_eq_fetched (0 : Fin 4) rfl (fun _ => rfl) (fun _ _ _ => rfl) (fun t => by rw [after0_0]; unfold Dat.blockOf iblk; rw [A_eq]) t d).trans
    (by unfold Dat.fetched Dat.blockOf iblk; rw [A_eq]; rfl)
/-- What the body finds in window 1. -/
theorem before0_1 (c : Dev nD) (t : Fin (cfg0 a).N) (d) : (dats a V 0 c).before (1 : Fin 4) t d = iblk a V c (1 : Fin 4) t :=
  ((dats a V 0 c).before_in_eq_fetched (1 : Fin 4) rfl (fun _ => rfl) (fun _ _ _ => rfl) (fun t => by rw [after0_1]; unfold Dat.blockOf iblk; rw [A_eq]) t d).trans
    (by unfold Dat.fetched Dat.blockOf iblk; rw [A_eq]; rfl)
/-- What the body finds in window 2. -/
theorem before0_2 (c : Dev nD) (t : Fin (cfg0 a).N) (d) : (dats a V 0 c).before (2 : Fin 4) t d = iblk a V c (2 : Fin 4) t :=
  ((dats a V 0 c).before_in_eq_fetched (2 : Fin 4) rfl (fun _ => rfl) (fun _ _ _ => rfl) (fun t => by rw [after0_2]; unfold Dat.blockOf iblk; rw [A_eq]) t d).trans
    (by unfold Dat.fetched Dat.blockOf iblk; rw [A_eq]; rfl)

/-- The body's call at a point. -/
abbrev bodyAt0 (t : Fin (cfg0 a).N) : Prog (TpuEff nD τ sig (Elt F) Λ₀ .tc) PUnit :=
  cc0_ffn_moe (crd a t) tb0 (Memref.isWhole_whole _) tb1 (Memref.isWhole_whole _) (ms0_0 a t) (hs0_0 a t) (ms0_1 a t) (hs0_1 a t) (ms0_2 a t) (hs0_2 a t) (ms0_3 a t) (hs0_3 a t)

/-- The body's run at a point, occupied or empty. -/
theorem run_out (hr : ∀ i, 0 ≤ (word (a.1 1) i : BitVec 32).toInt) (c : Dev nD) (t : Fin (cfg0 a).N) (K : PUnit → sProp (MT nD τ sig Unit (Elt F) ℕ (UR sig nD τ) ℕ)) :
    iprop(owns (c : Thread nD τ) (ms0_0 a t) fullShare (iblk a V c 0 t) ∗ owns (c : Thread nD τ) (ms0_1 a t) fullShare (iblk a V c 1 t) ∗ owns (c : Thread nD τ) (ms0_2 a t) fullShare (iblk a V c 2 t)
        ∗ (tb0.view.loc (c : Thread nD τ) ↦{fullShare.right} a.1 0) ∗ (tb1.view.loc (c : Thread nD τ) ↦{fullShare.right} a.1 1)
        ∗ (∃ d, owns (c : Thread nD τ) (ms0_3 a t) fullShare d)
        ∗ (iprop(owns (c : Thread nD τ) (ms0_0 a t) fullShare (iblk a V c 0 t) ∗ owns (c : Thread nD τ) (ms0_1 a t) fullShare (iblk a V c 1 t) ∗ owns (c : Thread nD τ) (ms0_2 a t) fullShare (iblk a V c 2 t)
            ∗ (tb0.view.loc (c : Thread nD τ) ↦{fullShare.right} a.1 0) ∗ (tb1.view.loc (c : Thread nD τ) ↦{fullShare.right} a.1 1)
            ∗ owns (c : Thread nD τ) (ms0_3 a t) fullShare (oblk a V c t)) -∗ K ⟨⟩))
      ⊢ wp frame (wpE (defs₀ (F := F)) Variants.none c Option.none) Set.univ (bodyAt0 a t) K := by
  have hr : 0 ≤ (word (a.1 1) (crd a t) : BitVec 32).toInt := hr _
  unfold oblk out
  by_cases e : (word (a.1 1) (crd a t) : BitVec 32) = 0#32
  · have h1 : ¬(k0_cond1 (word (a.1 1) (crd a t)) = 1#1) := by rw [cond1_iff _ hr]; exact fun h => h e
    rw [if_neg h1]
    exact Cert.MoeBody.run_none c (crd a t) _ _ _ _ _ _ _ _ (a.1 0) (a.1 1) (iblk a V c 0 t) (iblk a V c 1 t) (iblk a V c 2 t) K h1 ((cond2_iff _).2 e)
  · have h1 : k0_cond1 (word (a.1 1) (crd a t)) = 1#1 := (cond1_iff _ hr).2 e
    rw [if_pos h1]
    exact Cert.MoeBody.run_full c (crd a t) _ _ _ _ _ _ _ _ (a.1 0) (a.1 1) (iblk a V c 0 t) (iblk a V c 1 t) (iblk a V c 2 t) K h1 (fun h => e ((cond2_iff _).1 h))

set_option maxHeartbeats 4000000 in
/-- The body's contract at a point. -/
theorem sound_body (hr : ∀ i, 0 ≤ (word (a.1 1) i : BitVec 32).toInt) (c : Dev nD) (t : Fin (cfg0 a).N) :
    iprop((dats a V 0 c).Φ t.castSucc ∗ (dats a V 0 c).owesAt () t.castSucc
        ∗ (∃ d, owns (c : Thread nD τ) (ms0_0 a t) fullShare ((dats a V 0 c).before (0 : Fin 4) t d))
        ∗ (∃ d, owns (c : Thread nD τ) (ms0_1 a t) fullShare ((dats a V 0 c).before (1 : Fin 4) t d))
        ∗ (∃ d, owns (c : Thread nD τ) (ms0_2 a t) fullShare ((dats a V 0 c).before (2 : Fin 4) t d))
        ∗ (∃ d, owns (c : Thread nD τ) (ms0_3 a t) fullShare ((dats a V 0 c).before (3 : Fin 4) t d)))
      ⊢ wp frame (wpE (defs₀ (F := F)) Variants.none c Option.none) Set.univ (bodyAt0 a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  rewrite [idleA a hr t]
  simp only [before0_0, before0_1, before0_2, after0_0, after0_1, after0_2, after0_3]
  rewrite [show (dats a V 0 c).Φ t.succ = iprop(Pipeline.ΦA spec0 c ∗ Pipeline.ΦT pre0 a.1 c) from rfl,
    show (dats a V 0 c).Φ t.castSucc = iprop(Pipeline.ΦA spec0 c ∗ Pipeline.ΦT pre0 a.1 c) from rfl,
    show (dats a V 0 c).owesAt () t.succ = (dats a V 0 c).owesAt () t.castSucc from rfl,
    show (Pipeline.ΦT pre0 a.1 c : sProp (MT nD τ sig Unit (Elt F) ℕ (UR sig nD τ) ℕ)) = _ from prefHeld_eq c (fun _ => fullShare.right) a.1]
  iintro ⟨⟨HA, HT0, HT1⟩, Ho, ⟨%d0, H0⟩, ⟨%d1, H1⟩, ⟨%d2, H2⟩, ⟨%d3, H3⟩⟩
  iapply (run_out a V hr c t _)
  isplitl [H0]; · iexact H0
  isplitl [H1]; · iexact H1
  isplitl [H2]; · iexact H2
  isplitl [HT0]; · iexact HT0
  isplitl [HT1]; · iexact HT1
  isplitl [H3]; · iexists _; iexact H3
  iintro ⟨H0, H1, H2, HT0, HT1, H3⟩
  isplitl [HA HT0 HT1]
  · isplitl [HA]
    · iexact HA
    isplitl [HT0]
    · iexact HT0
    iexact HT1
  isplitl [Ho]; · iexact Ho
  isplitl [H0]; · iexact H0
  isplitl [H1]; · iexact H1
  isplitl [H2]; · iexact H2
  iexact H3

/-- The body's contract, at every point. -/
theorem body_obligation (hr : ∀ i, 0 ≤ (word (a.1 1) i : BitVec 32).toInt) (c : Dev nD) : BodyObligation (dats a V 0 c) (defs₀ (F := F)) Variants.none () Set.univ := fun t => by
  rw [bigSep_W0]
  exact sound_body a V hr c t

/-- Every array is held whole. -/
theorem share_eq (c : Dev nD) (w : Fin (cfg0 a).W) : (dats a V 0 c).share w = fullShare := by unfold Dat.share; split <;> rfl

/-! ## The run -/

variable (m : (ℓ : Loc nD τ sig) → Buf (Elt F) ℓ) (ρ : Dev nD → PrngReg)

/-- The arrays as the region finds them. -/
abbrev W (c : Dev nD) (b : Ref sig .tc) : Buf (Elt F) ((c : Thread nD τ).loc b) := StableHlo.after hostOps0 (fun b => m (c, b)) b

/-- The host lines take no fresh buffer. -/
theorem hostOps0_fresh : (hostOps0 : List (HloOp τ sig (Elt F))).Forall fun op => op.fresh = ∅ := by
  simp only [List.Forall]; repeat' constructor

set_option maxHeartbeats 800000 in
/-- The program is its host lines, then the region. -/
theorem hmain : Pipeline.HMainPK (Ix := Unit) (Name := ℕ) (U := UR sig nD τ) (Lvl := ℕ) (pcfgs (F := F)) 0 defs₀ Variants.none m (main (F := F)) (W m)
    (fun _ => Pipeline.chain (([] : List (List (HloOp τ sig (Elt F)))).map StableHlo.seq)) :=
  Pipeline.hmainP_around (pcfgs (F := F)) 0 defs₀ Variants.none m main [hostOps0] [] (by simp only [List.Forall]; exact hostOps0_sub)
    (by simp only [List.Forall]; exact hostOps0_fresh) main_chain

/-- No host line writes argument 0. -/
theorem W_main_arg0 (c : Dev nD) : W m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, Finset.mem_singleton]
    repeat' apply And.intro
    all_goals exact StableHlo.devRef_ne_of_ne (by decide)))
/-- No host line writes argument 1. -/
theorem W_main_arg1 (c : Dev nD) : W m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, Finset.mem_singleton]
    repeat' apply And.intro
    all_goals exact StableHlo.devRef_ne_of_ne (by decide)))
/-- No host line writes argument 2. -/
theorem W_main_arg2 (c : Dev nD) : W m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, Finset.mem_singleton]
    repeat' apply And.intro
    all_goals exact StableHlo.devRef_ne_of_ne (by decide)))
/-- No host line writes argument 3. -/
theorem W_main_arg3 (c : Dev nD) : W m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, Finset.mem_singleton]
    repeat' apply And.intro
    all_goals exact StableHlo.devRef_ne_of_ne (by decide)))
/-- No host line writes argument 4. -/
theorem W_main_arg4 (c : Dev nD) : W m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, Finset.mem_singleton]
    repeat' apply And.intro
    all_goals exact StableHlo.devRef_ne_of_ne (by decide)))
/-- No host line writes argument 5. -/
theorem W_main_arg5 (c : Dev nD) : W m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, Finset.mem_singleton]
    repeat' apply And.intro
    all_goals exact StableHlo.devRef_ne_of_ne (by decide)))

set_option backward.isDefEq.respectTransparency.types false in
set_option maxHeartbeats 4000000 in
/-- The run, at tables that are the arguments, with every counter at zero. -/
theorem run_quiescent (hr : ∀ i, 0 ≤ (word (a.1 1) i : BitVec 32).toInt) (hpf : ∀ c k, W m c (pre0.ref k) = a.1 k) :
    θ_run defs (onTc (τ := τ) (main (F := F))) (s₀ m ρ)
      (fun r => Pipeline.FramePost (Pipeline.pin (pcfgs (F := F)) (fun _ => a)) (dats a (W m)) 0
        (Pipeline.afterTail (pcfgs (F := F)) (fun _ => a) (dats a (W m)) 0 (fun c => StableHlo.after hostOps0 (fun b => m (c, b))) []) r ∧ r.2.sem = fun _ => 0) :=
  Pipeline.θ_run_frameP_around (Q' := _) (pcfgs (F := F)) (fun _ => a) (dats a (W m)) 0 launch0 defs₀ Variants.none m ρ main
    (hbody := fun c => (body_obligation a (W m) hr c).loose) (hshare := fun c w => share_eq a (W m) c w) (howed := fun _ _ => rfl)
    (V₀ := fun c => StableHlo.after hostOps0 (fun b => m (c, b))) (opss := [])
    (hsub := fun _ h => absurd h List.not_mem_nil) (hfresh := fun _ h => absurd h List.not_mem_nil) (hkeep := fun _ h => absurd h List.not_mem_nil)
    (hmain := hmain m) (hA := fun c w => A_eq a (W m) c w) (hpf := hpf) (hΦ := fun _ _ => rfl)

/-- A buffer that is no window's array is as the region finds it. -/
theorem rest_eq (c : Dev nD) (b : Ref sig .tc) (hb : ∀ w, Pipeline.arrRef spec0 w ≠ b) :
    Pipeline.afterTail (pcfgs (F := F)) (fun _ => a) (dats a (W m)) 0 (fun c => StableHlo.after hostOps0 (fun b => m (c, b))) [] c b = W m c b := by
  unfold Pipeline.afterTail
  exact Pipeline.withArrays_of_ne spec0 c _ _ b hb

/-- The run, at tables that are the arguments: the result is what the grid points leave, and every argument is unchanged. -/
theorem run_blocks (hr : ∀ i, 0 ≤ (word (a.1 1) i : BitVec 32).toInt) (hpf : ∀ c k, W m c (pre0.ref k) = a.1 k) :
    θ_run defs (onTc (τ := τ) (main (F := F))) ⟨m, fun _ => 0, ρ⟩ fun r => (∀ c : Dev nD,
      r.2.mem ((c : Thread nD τ).loc main_v3) = (dats a (W m) 0 c).arrAt (3 : Fin 4) (cfg0 a).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => ⟨(h.1 c).1 (3 : Fin 4),
      (((h.1 c).1 (0 : Fin 4)).trans ((dats a (W m) 0 c).arrAt_in (0 : Fin 4) rfl _)).trans ((A_eq a (W m) c (0 : Fin 4)).trans (W_main_arg0 m c)),
      ((h.1 c).2 main_arg1 (Pipeline.mem_restRefs_of main_arg1 (by decide) (show ∀ w, Pipeline.arrRef spec0 w ≠ main_arg1 by decide))).trans ((rest_eq a m c main_arg1 (by decide)).trans (W_main_arg1 m c)),
      ((h.1 c).2 main_arg2 (Pipeline.mem_restRefs_of main_arg2 (by decide) (show ∀ w, Pipeline.arrRef spec0 w ≠ main_arg2 by decide))).trans ((rest_eq a m c main_arg2 (by decide)).trans (W_main_arg2 m c)),
      ((h.1 c).2 main_arg3 (Pipeline.mem_restRefs_of main_arg3 (by decide) (show ∀ w, Pipeline.arrRef spec0 w ≠ main_arg3 by decide))).trans ((rest_eq a m c main_arg3 (by decide)).trans (W_main_arg3 m c)),
      ((h.1 c).2 main_arg4 (Pipeline.mem_restRefs_of main_arg4 (by decide) (show ∀ w, Pipeline.arrRef spec0 w ≠ main_arg4 by decide))).trans ((rest_eq a m c main_arg4 (by decide)).trans (W_main_arg4 m c)),
      ((h.1 c).2 main_arg5 (Pipeline.mem_restRefs_of main_arg5 (by decide) (show ∀ w, Pipeline.arrRef spec0 w ≠ main_arg5 by decide))).trans ((rest_eq a m c main_arg5 (by decide)).trans (W_main_arg5 m c))⟩, h.2⟩)
    (run_quiescent a m ρ hr hpf)

/-- The tables the program is given. -/
def pf : pre0.Contents (Elt F) := fun k => m (((0 : Dev nD) : Thread nD τ).loc (pre0.ref k))

/-- The region finds the tables the program is given. -/
theorem pf_eq (c : Dev nD) (k : Fin 2) : W m c (pre0.ref k) = pf m k := by
  obtain rfl : c = 0 := Subsingleton.elim _ _
  fin_cases k
  · exact W_main_arg1 m 0
  · exact W_main_arg2 m 0

/-- The run, at tables in range: the result is what the grid points leave at those tables, and every argument is unchanged. -/
theorem run_main (ht : ∀ t : Fin 168, ((pf m 0 : S168.Idx → BitVec 32) (ix1 t)).toNat < 8) (hr : ∀ t : Fin 168, 0 ≤ ((pf m 1 : S168.Idx → BitVec 32) (ix1 t)).toInt) :
    ∃ a : (pcfg0 (F := F)).Adm, a.1 = pf m ∧ θ_run defs (onTc (τ := τ) (main (F := F))) ⟨m, fun _ => 0, ρ⟩ fun r => (∀ c : Dev nD,
      r.2.mem ((c : Thread nD τ).loc main_v3) = (dats a (W m) 0 c).arrAt (3 : Fin 4) (cfg0 a).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 := by
  obtain ⟨a, ha⟩ : ∃ a : (pcfg0 (F := F)).Adm, a.1 = pf m := ⟨⟨pf m, ok _ ht⟩, rfl⟩
  refine ⟨a, ha, run_blocks a m ρ (fun i => ?_) (fun c k => (pf_eq m c k).trans (congrFun ha k).symm)⟩
  have e : (word (a.1 1) i : BitVec 32) = (pf m 1 : S168.Idx → BitVec 32) (ix1 ((i 0 : Fin 168))) :=
    (word_eq (a.1 1) i).trans (congrArg (fun p : pre0.Contents (Elt F) => (p 1 : S168.Idx → BitVec 32) (ix1 ((i 0 : Fin 168)))) ha)
  exact e ▸ hr _

/-- The program runs at tables in range, keeps its arguments and leaves every counter at zero. -/
theorem frame (ht : ∀ t : Fin 168, ((pf m 0 : S168.Idx → BitVec 32) (ix1 t)).toNat < 8) (hr : ∀ t : Fin 168, 0 ≤ ((pf m 1 : S168.Idx → BitVec 32) (ix1 t)).toInt) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 := by
  obtain ⟨a, -, h⟩ := run_main m ρ ht hr
  exact (θ_run defs _ _).mono (fun r h => ⟨fun c => (h.1 c).2, h.2⟩) h

end Cert.MoeFrame

end
-- ==== Proof.MoeBlock.lean ====
/-
  What one grid point of the experts' call computes: each row of its tile.
-/
module

public import proofs.«01_k».proof.Proof.MoeBody
public import proofs.«01_k».proof.Proof.MoeRow
public import proofs.«01_k».proof.Proof.MoeFrame
public import Idealize.ShloMosaic.Lib.Pipeline.ValueKit

@[expose] public section

set_option maxRecDepth 16384

noncomputable section

namespace Cert.MoeBlock

open Cert.Kernel5Ideal Cert.Kernel5Ideal.Gen Cert.MoeBody
open Idealize.ShloMosaic
open scoped BigOperators

/-- The mask of the first half's occupied rows. -/
def maskTop (w : BitVec 32) : IVec S256x1024 1 :=
  broadcastTo S256x1024 (shapeCast S256x1 (cmpi .slt (addi (broadcast S256x1 0#32) (iota .tc S256x1 32 [0] iota_S256x1_d0_w32)) (broadcast S256x1 w))
    shapeCasts_S256x1_S256x1) broadcasts_S256x1_S256x1024

/-- The rows through both first weights at once. -/
def prod (x : Vec Ideal S256x1024 .f32) (g : IVec S256x1024 1) (a : Vec Ideal S1x1024x2816 .bf16) : FVec Ideal S256x2816 .f32 :=
  matmul dot_S256x1024_S1024x2816_S256x2816_1_0_0_1_n_n .none
    (truncf .bf16 (select g x (broadcast S256x1024 (Scalar.ofBits (F := Ideal) .f32 0x00000000#32))) bitsLt_bf16_f32)
    (shapeCast S1024x2816 a shapeCasts_S1x1024x2816_S1024x2816 : FVec Ideal S1024x2816 .bf16) (constant S256x2816 .f32 0x00000000#32)

/-- The gate, and the last weights. -/
def tail (p : FVec Ideal S256x2816 .f32) (b : Vec Ideal S1x1408x1024 .bf16) : FVec Ideal S256x1024 .f32 :=
  let u : FVec Ideal S256x1408 .f32 := extractStridedSlice S256x1408 ![0, 0] p slices_S256x2816_o0_0_S256x1408
  let v : FVec Ideal S256x1408 .f32 := extractStridedSlice S256x1408 ![0, 1408] p slices_S256x2816_o0_1408_S256x1408
  let one : FVec Ideal S256x1408 .f32 := broadcast S256x1408 (Scalar.ofBits (F := Ideal) .f32 0x3F800000#32)
  let zero : FVec Ideal S256x1408 .f32 := broadcast S256x1408 (Scalar.ofBits (F := Ideal) .f32 0x00000000#32)
  matmul dot_S256x1408_S1408x1024_S256x1024_1_0_0_1_n_n .none
    (truncf .bf16 (mulf (mulf u (divf one (addf one (exp (subf zero u))))) v) bitsLt_bf16_f32)
    (shapeCast S1408x1024 b shapeCasts_S1x1408x1024_S1408x1024 : FVec Ideal S1408x1024 .bf16) (constant S256x1024 .f32 0x00000000#32)

/-- The first half's store is the product, gated and through the last weights. -/
theorem pay3_eq (w : BitVec 32) (x : Vec Ideal S256x1024 .f32) (a : Vec Ideal S1x1024x2816 .bf16) (b : Vec Ideal S1x1408x1024 .bf16) :
    k0_pay3 (F := Ideal) w x a b = tail (prod x (maskTop w) a) b := rfl
/-- So is the second half's. -/
theorem pay1_eq (g : IVec S256x1024 1) (x : Vec Ideal S256x1024 .f32) (a : Vec Ideal S1x1024x2816 .bf16) (b : Vec Ideal S1x1408x1024 .bf16) :
    k0_pay1 (F := Ideal) x (Scalar.ofBits .f32 0x00000000#32) g a b = tail (prod x g a) b := rfl

/-- The product, element by element. -/
theorem prod_at (x : Vec Ideal S256x1024 .f32) (g : IVec S256x1024 1) (a : Vec Ideal S1x1024x2816 .bf16) (r : Fin 256) (f : Fin 2816) :
    prod x g a (ix2 r f) = ∑ k : Fin 1024, (if g (ix2 r k) = 1#1 then x (ix2 r k) else 0 : EReal) * a (ix3 0 k f) := by
  unfold prod
  pointwise
  refine Finset.sum_congr rfl fun k _ => ?_
  rw [ite_mul, zero_mul]
  rfl

/-- The gated product through the last weights, element by element. -/
theorem tail_at (p : FVec Ideal S256x2816 .f32) (b : Vec Ideal S1x1408x1024 .bf16) (r : Fin 256) (d : Fin 1024) :
    tail p b (ix2 r d) = ∑ f : Fin 1408, Row.silu (p (ix2 r ⟨f.val, by omega⟩)) * p (ix2 r ⟨1408 + f.val, by omega⟩) * (b (ix3 0 f d) : EReal) := by
  unfold tail
  pointwise
  simp only [Row.one_bits, Row.logistic_eq]
  rfl

/-- A row of the first half is occupied when its number is below the tile's count. -/
theorem maskTop_at (w : BitVec 32) (r : Fin 256) (k : Fin 1024) :
    maskTop w (ix2 r k) = BitVec.ofBool ((BitVec.ofNat 32 r.val).slt w) := by
  unfold maskTop
  pointwise
  change BitVec.ofBool ((0#32 + BitVec.ofNat 32 r.val).slt w) = _
  rw [BitVec.zero_add]

/-- A row of the second half is occupied when its number, past the first half, is below the tile's count. -/
theorem maskBot_at (w : BitVec 32) (r : Fin 256) (k : Fin 1024) :
    k0_pay4 (F := Ideal) w (ix2 r k) = BitVec.ofBool ((BitVec.ofNat 32 (256 + r.val)).slt w) := by
  unfold k0_pay4
  pointwise
  change BitVec.ofBool ((BitVec.ofNat 32 256 + BitVec.ofNat 32 r.val).slt w) = _
  rw [← BitVec.ofNat_add]

set_option maxHeartbeats 1000000 in
/-- A stored row is the row's feed-forward if the row is occupied, and zero otherwise. -/
theorem half_at (w : BitVec 32) (n : Nat) (x : Vec Ideal S256x1024 .f32) (g : IVec S256x1024 1) (a : Vec Ideal S1x1024x2816 .bf16) (b : Vec Ideal S1x1408x1024 .bf16)
    (r : Fin 256) (d : Fin 1024) (i : Fin 512) (hi : i.val = n + r.val) (hg : ∀ k, g (ix2 r k) = BitVec.ofBool ((BitVec.ofNat 32 (n + r.val)).slt w)) :
    tail (prod x g a) b (ix2 r d) = MoeRow.row w i (fun k => x (ix2 r k)) (fun k f => a (ix3 0 k ⟨f.val, by omega⟩)) (fun k f => a (ix3 0 k ⟨1408 + f.val, by omega⟩))
      (fun f k => b (ix3 0 f k)) d := by
  have e : ∀ f, prod x g a (ix2 r f) = ∑ k : Fin 1024, (if BitVec.ofBool ((BitVec.ofNat 32 i.val).slt w) = 1#1 then x (ix2 r k) else 0 : EReal) * a (ix3 0 k f) := fun f => by
    rw [prod_at]
    simp only [hg]
    rw [hi]
  generalize prod x g a = p at e
  rw [tail_at]
  simp only [e]
  have h1 : MoeRow.used w i → (fun k => if BitVec.ofBool ((BitVec.ofNat 32 i.val).slt w) = 1#1 then x (ix2 r k) else 0 : Fin 1024 → EReal) = fun k => x (ix2 r k) := fun h => by
    funext k
    rw [if_pos (show BitVec.ofBool ((BitVec.ofNat 32 i.val).slt w) = 1#1 from congrArg BitVec.ofBool h)]
  have h0 : ¬MoeRow.used w i → (fun k => if BitVec.ofBool ((BitVec.ofNat 32 i.val).slt w) = 1#1 then x (ix2 r k) else 0 : Fin 1024 → EReal) = fun _ => 0 := fun h => by
    funext k
    rw [if_neg]
    rw [show (BitVec.ofNat 32 i.val).slt w = false from Bool.eq_false_iff.2 h]
    decide
  exact MoeRow.glu_blank w i _ _ (fun k f => (a (ix3 0 k ⟨f.val, by omega⟩) : EReal)) (fun k f => (a (ix3 0 k ⟨1408 + f.val, by omega⟩) : EReal)) (fun f k => (b (ix3 0 f k) : EReal)) d h1 h0

/-- A block of whole rows keeps the lane. -/
theorem lane (n : Nat) (h : ∀ a, (![n, 0] : Fin 2 → Nat) a + S256x1024.size a ≤ S512x1024.size a) (y0 : Fin 256) (y1 : Fin 1024) :
    (Rect.unit (s := S512x1024) ![n, 0] S256x1024.size h).emb (ix2 y0 y1) 1 = y1 := Fin.ext ((Rect.idx_unit_val _ _ _ _ _).trans (Nat.zero_add _))

/-- What an occupied tile's grid point leaves in its output block. -/
theorem full_at (w : BitVec 32) (x : Vec Ideal S512x1024 .f32) (a : Vec Ideal S1x1024x2816 .bf16) (b : Vec Ideal S1x1408x1024 .bf16) (r : Fin 512) (d : Fin 1024) :
    full (F := Ideal) w x a b (ix2 r d) = MoeRow.row w r (fun k => x (ix2 r k)) (fun k f => a (ix3 0 k ⟨f.val, by omega⟩)) (fun k f => a (ix3 0 k ⟨1408 + f.val, by omega⟩))
      (fun f k => b (ix3 0 f k)) d := by
  have f1 : View.ld a rw13 = a := View.ld_unit_zero (by funext a; fin_cases a <;> rfl) _ a
  have f2 : View.ld b rw2 = b := View.ld_unit_zero (by funext a; fin_cases a <;> rfl) _ b
  have e : full (F := Ideal) w x a b = View.canon [⟨bot, tail (prod (View.ld x bot) (k0_pay4 (F := Ideal) w) a) b⟩, ⟨top, tail (prod (View.ld x top) (maskTop w) a) b⟩] := by
    unfold full payBot payTop
    rw [f1, f2, pay3_eq, pay1_eq]
  rw [e]
  refine (View.canon_apply_of_pieces (fun y : S512x1024.Idx => MoeRow.row w (y 0) (fun k => x (ix2 (y 0) k)) (fun k f => a (ix3 0 k ⟨f.val, by omega⟩))
    (fun k f => a (ix3 0 k ⟨1408 + f.val, by omega⟩)) (fun f k => b (ix3 0 f k)) (y 1)) _ ?_ (ix2 r d) (cover2 _ _ (ix2 r d))).trans rfl
  intro p hp y
  simp only [List.mem_cons, List.not_mem_nil, or_false] at hp
  rcases hp with rfl | rfl
  · idx_vars y
    refine (half_at w 256 _ _ _ _ _ _ (bot.emb (ix2 y0 y1) 0) (Rect.idx_unit_val _ _ _ _ _) (fun k => maskBot_at w _ k)).trans ?_
    congr 1
    · funext k
      refine congrArg x (funext fun a => ?_)
      fin_cases a
      · exact Fin.ext ((Rect.idx_unit_val _ _ _ _ _).trans (Rect.idx_unit_val _ _ _ _ _).symm)
      · exact Fin.ext ((Rect.idx_unit_val _ _ _ _ _).trans (Nat.zero_add _))
    · exact (lane _ _ _ _).symm
  · idx_vars y
    refine (half_at w 0 _ _ _ _ _ _ (top.emb (ix2 y0 y1) 0) (Rect.idx_unit_val _ _ _ _ _) (fun k => (maskTop_at w _ k).trans (by rw [Nat.zero_add]))).trans ?_
    congr 1
    · funext k
      refine congrArg x (funext fun a => ?_)
      fin_cases a
      · exact Fin.ext ((Rect.idx_unit_val _ _ _ _ _).trans (Rect.idx_unit_val _ _ _ _ _).symm)
      · exact Fin.ext ((Rect.idx_unit_val _ _ _ _ _).trans (Nat.zero_add _))
    · exact (lane _ _ _ _).symm

/-- What an empty tile's grid point leaves in its output block: zeros. -/
theorem none_at (r : Fin 512) (d : Fin 1024) : (none (F := Ideal) (ix2 r d) : EReal) = 0 := by
  refine (View.canon_apply_of_pieces (fun _ : S512x1024.Idx => (0 : EReal)) _ ?_ (ix2 r d) (cover1 _ (ix2 r d))).trans rfl
  intro p hp y
  simp only [List.mem_cons, List.not_mem_nil, or_false] at hp
  subst hp
  exact Ideal.ofBits_zero .f32

/-- What a grid point leaves in its output block. -/
theorem out_at (w : BitVec 32) (hw : 0 ≤ w.toInt) (x : Vec Ideal S512x1024 .f32) (a : Vec Ideal S1x1024x2816 .bf16) (b : Vec Ideal S1x1408x1024 .bf16) (r : Fin 512) (d : Fin 1024) :
    out (F := Ideal) w x a b (ix2 r d) = MoeRow.row w r (fun k => x (ix2 r k)) (fun k f => a (ix3 0 k ⟨f.val, by omega⟩)) (fun k f => a (ix3 0 k ⟨1408 + f.val, by omega⟩))
      (fun f k => b (ix3 0 f k)) d := by
  unfold out
  by_cases h : w = 0#32
  · rw [if_neg (fun hc => (MoeFrame.cond1_iff w hw).1 hc h)]
    subst h
    rw [MoeRow.row_empty]
    exact none_at r d
  · rw [if_pos ((MoeFrame.cond1_iff w hw).2 h)]
    exact full_at w x a b r d

end Cert.MoeBlock
end
-- ==== Proof.MoeRef.lean ====
/-
  The reference's experts, element by element, from its arguments.
-/
module

public import proofs.«01_k».proof.Proof.Gen.Reference5Ideal.Read
public import proofs.«01_k».proof.Proof.MoeRow

@[expose] public section

set_option maxRecDepth 16384

noncomputable section

namespace Cert.MoeRef

open Cert.Reference5Ideal Cert.Reference5Ideal.Gen Cert.Reference5Ideal.Read
open Idealize.ShloMosaic
open scoped BigOperators

variable (x0 : S86016x1024.Idx → EReal) (x1 x2 : S168.Idx → BitVec 32) (x3 x4 : S8x1024x1408.Idx → EReal) (x5 : S8x1408x1024.Idx → EReal)

/-- A row of a tile. -/
theorem tile_at (t : Fin 168) (r : Fin 512) (k : Fin 1024) : val_main_v0 (F := Ideal) x0 (ix3 t r k) = x0 (ix2 ⟨t.val * 512 + r.val, by omega⟩ k) := by
  rw [val_main_v0_apply]
  refine congrArg x0 (funext fun a => ?_)
  fin_cases a
  · refine Fin.ext ?_
    change ((t.val * 512 + r.val) * 1024 + k.val) / 1024 = t.val * 512 + r.val
    omega
  · refine Fin.ext ?_
    change ((t.val * 512 + r.val) * 1024 + k.val) % 1024 = k.val
    omega

/-- Whether expert 0 is a row's. -/
theorem pick_0 (t : Fin 168) (r : Fin 512) (d : Fin 1024) :
    val_main_v26 (F := Ideal) x1 x2 (ix3 t r d) = MoeRow.pick 0 (x1 (ix1 t)) (x2 (ix1 t)) r := by
  unfold val_main_v26 val_main_v14 val_main_v13 val_main_v12 val_main_v11 val_main_v10 val_main_v9 val_main_v8 val_main_c
    val_main_v6 val_main_v5 val_main_v4 val_main_v3 val_main_v2 val_main_v1
  pointwise
  rfl

/-- Expert 0's contribution to a row. -/
theorem part_0 (t : Fin 168) (r : Fin 512) (d : Fin 1024) :
    val_main_v27 (F := Ideal) x0 x1 x2 x3 x4 x5 (ix3 t r d) = MoeRow.pick 0 (x1 (ix1 t)) (x2 (ix1 t)) r
      * MoeRow.glu (fun k => x0 (ix2 ⟨t.val * 512 + r.val, by omega⟩ k)) (fun k f => x3 (ix3 0 k f)) (fun k f => x4 (ix3 0 k f)) (fun f k => x5 (ix3 0 f k)) d := by
  have e1 : ∀ f, val_main_v21 (F := Ideal) x0 x3 (ix3 t r f) = ∑ k : Fin 1024, x0 (ix2 ⟨t.val * 512 + r.val, by omega⟩ k) * x3 (ix3 0 k f) := fun f => by
    have h := tile_at x0 t r
    unfold val_main_v21 val_main_v16 val_main_v15
    generalize val_main_v0 (F := Ideal) x0 = y at h ⊢
    pointwise
    simp only [h]
  have e2 : ∀ f, val_main_v23 (F := Ideal) x0 x4 (ix3 t r f) = ∑ k : Fin 1024, x0 (ix2 ⟨t.val * 512 + r.val, by omega⟩ k) * x4 (ix3 0 k f) := fun f => by
    have h := tile_at x0 t r
    unfold val_main_v23 val_main_v18 val_main_v17
    generalize val_main_v0 (F := Ideal) x0 = y at h ⊢
    pointwise
    simp only [h]
  have eg := pick_0 x1 x2 t r d
  unfold val_main_v27 val_main_v25 val_main_v24 val_main_v22 val_main_v20 val_main_v19
  generalize val_main_v26 (F := Ideal) x1 x2 = g at eg ⊢
  unfold val_main_call0_v5 val_main_call0_v4 val_main_call0_v3 val_main_call0_v2 val_main_call0_v1 val_main_call0_v0 val_main_call0_cst val_main_call0_cst_0
  generalize val_main_v21 (F := Ideal) x0 x3 = p at e1 ⊢
  generalize val_main_v23 (F := Ideal) x0 x4 = q at e2 ⊢
  pointwise
  simp only [e1, e2, eg, Row.one_bits]
  rfl

/-- Whether expert 1 is a row's. -/
theorem pick_1 (t : Fin 168) (r : Fin 512) (d : Fin 1024) :
    val_main_v47 (F := Ideal) x1 x2 (ix3 t r d) = MoeRow.pick 1 (x1 (ix1 t)) (x2 (ix1 t)) r := by
  unfold val_main_v47 val_main_v35 val_main_v34 val_main_v33 val_main_v32 val_main_v31 val_main_v30 val_main_v29 val_main_c_0
    val_main_v6 val_main_v5 val_main_v4 val_main_v3 val_main_v2 val_main_v1
  pointwise
  rfl

/-- Expert 1's contribution to a row. -/
theorem part_1 (t : Fin 168) (r : Fin 512) (d : Fin 1024) :
    val_main_v48 (F := Ideal) x0 x1 x2 x3 x4 x5 (ix3 t r d) = MoeRow.pick 1 (x1 (ix1 t)) (x2 (ix1 t)) r
      * MoeRow.glu (fun k => x0 (ix2 ⟨t.val * 512 + r.val, by omega⟩ k)) (fun k f => x3 (ix3 1 k f)) (fun k f => x4 (ix3 1 k f)) (fun f k => x5 (ix3 1 f k)) d := by
  have e1 : ∀ f, val_main_v42 (F := Ideal) x0 x3 (ix3 t r f) = ∑ k : Fin 1024, x0 (ix2 ⟨t.val * 512 + r.val, by omega⟩ k) * x3 (ix3 1 k f) := fun f => by
    have h := tile_at x0 t r
    unfold val_main_v42 val_main_v37 val_main_v36
    generalize val_main_v0 (F := Ideal) x0 = y at h ⊢
    pointwise
    simp only [h]
  have e2 : ∀ f, val_main_v44 (F := Ideal) x0 x4 (ix3 t r f) = ∑ k : Fin 1024, x0 (ix2 ⟨t.val * 512 + r.val, by omega⟩ k) * x4 (ix3 1 k f) := fun f => by
    have h := tile_at x0 t r
    unfold val_main_v44 val_main_v39 val_main_v38
    generalize val_main_v0 (F := Ideal) x0 = y at h ⊢
    pointwise
    simp only [h]
  have eg := pick_1 x1 x2 t r d
  unfold val_main_v48 val_main_v46 val_main_v45 val_main_v43 val_main_v41 val_main_v40
  generalize val_main_v47 (F := Ideal) x1 x2 = g at eg ⊢
  unfold val_main_call1_v5 val_main_call1_v4 val_main_call1_v3 val_main_call1_v2 val_main_call1_v1 val_main_call1_v0 val_main_call1_cst val_main_call1_cst_0
  generalize val_main_v42 (F := Ideal) x0 x3 = p at e1 ⊢
  generalize val_main_v44 (F := Ideal) x0 x4 = q at e2 ⊢
  pointwise
  simp only [e1, e2, eg, Row.one_bits]
  rfl

/-- Whether expert 2 is a row's. -/
theorem pick_2 (t : Fin 168) (r : Fin 512) (d : Fin 1024) :
    val_main_v68 (F := Ideal) x1 x2 (ix3 t r d) = MoeRow.pick 2 (x1 (ix1 t)) (x2 (ix1 t)) r := by
  unfold val_main_v68 val_main_v56 val_main_v55 val_main_v54 val_main_v53 val_main_v52 val_main_v51 val_main_v50 val_main_c_1
    val_main_v6 val_main_v5 val_main_v4 val_main_v3 val_main_v2 val_main_v1
  pointwise
  rfl

/-- Expert 2's contribution to a row. -/
theorem part_2 (t : Fin 168) (r : Fin 512) (d : Fin 1024) :
    val_main_v69 (F := Ideal) x0 x1 x2 x3 x4 x5 (ix3 t r d) = MoeRow.pick 2 (x1 (ix1 t)) (x2 (ix1 t)) r
      * MoeRow.glu (fun k => x0 (ix2 ⟨t.val * 512 + r.val, by omega⟩ k)) (fun k f => x3 (ix3 2 k f)) (fun k f => x4 (ix3 2 k f)) (fun f k => x5 (ix3 2 f k)) d := by
  have e1 : ∀ f, val_main_v63 (F := Ideal) x0 x3 (ix3 t r f) = ∑ k : Fin 1024, x0 (ix2 ⟨t.val * 512 + r.val, by omega⟩ k) * x3 (ix3 2 k f) := fun f => by
    have h := tile_at x0 t r
    unfold val_main_v63 val_main_v58 val_main_v57
    generalize val_main_v0 (F := Ideal) x0 = y at h ⊢
    pointwise
    simp only [h]
  have e2 : ∀ f, val_main_v65 (F := Ideal) x0 x4 (ix3 t r f) = ∑ k : Fin 1024, x0 (ix2 ⟨t.val * 512 + r.val, by omega⟩ k) * x4 (ix3 2 k f) := fun f => by
    have h := tile_at x0 t r
    unfold val_main_v65 val_main_v60 val_main_v59
    generalize val_main_v0 (F := Ideal) x0 = y at h ⊢
    pointwise
    simp only [h]
  have eg := pick_2 x1 x2 t r d
  unfold val_main_v69 val_main_v67 val_main_v66 val_main_v64 val_main_v62 val_main_v61
  generalize val_main_v68 (F := Ideal) x1 x2 = g at eg ⊢
  unfold val_main_call2_v5 val_main_call2_v4 val_main_call2_v3 val_main_call2_v2 val_main_call2_v1 val_main_call2_v0 val_main_call2_cst val_main_call2_cst_0
  generalize val_main_v63 (F := Ideal) x0 x3 = p at e1 ⊢
  generalize val_main_v65 (F := Ideal) x0 x4 = q at e2 ⊢
  pointwise
  simp only [e1, e2, eg, Row.one_bits]
  rfl

/-- Whether expert 3 is a row's. -/
theorem pick_3 (t : Fin 168) (r : Fin 512) (d : Fin 1024) :
    val_main_v89 (F := Ideal) x1 x2 (ix3 t r d) = MoeRow.pick 3 (x1 (ix1 t)) (x2 (ix1 t)) r := by
  unfold val_main_v89 val_main_v77 val_main_v76 val_main_v75 val_main_v74 val_main_v73 val_main_v72 val_main_v71 val_main_c_2
    val_main_v6 val_main_v5 val_main_v4 val_main_v3 val_main_v2 val_main_v1
  pointwise
  rfl

/-- Expert 3's contribution to a row. -/
theorem part_3 (t : Fin 168) (r : Fin 512) (d : Fin 1024) :
    val_main_v90 (F := Ideal) x0 x1 x2 x3 x4 x5 (ix3 t r d) = MoeRow.pick 3 (x1 (ix1 t)) (x2 (ix1 t)) r
      * MoeRow.glu (fun k => x0 (ix2 ⟨t.val * 512 + r.val, by omega⟩ k)) (fun k f => x3 (ix3 3 k f)) (fun k f => x4 (ix3 3 k f)) (fun f k => x5 (ix3 3 f k)) d := by
  have e1 : ∀ f, val_main_v84 (F := Ideal) x0 x3 (ix3 t r f) = ∑ k : Fin 1024, x0 (ix2 ⟨t.val * 512 + r.val, by omega⟩ k) * x3 (ix3 3 k f) := fun f => by
    have h := tile_at x0 t r
    unfold val_main_v84 val_main_v79 val_main_v78
    generalize val_main_v0 (F := Ideal) x0 = y at h ⊢
    pointwise
    simp only [h]
  have e2 : ∀ f, val_main_v86 (F := Ideal) x0 x4 (ix3 t r f) = ∑ k : Fin 1024, x0 (ix2 ⟨t.val * 512 + r.val, by omega⟩ k) * x4 (ix3 3 k f) := fun f => by
    have h := tile_at x0 t r
    unfold val_main_v86 val_main_v81 val_main_v80
    generalize val_main_v0 (F := Ideal) x0 = y at h ⊢
    pointwise
    simp only [h]
  have eg := pick_3 x1 x2 t r d
  unfold val_main_v90 val_main_v88 val_main_v87 val_main_v85 val_main_v83 val_main_v82
  generalize val_main_v89 (F := Ideal) x1 x2 = g at eg ⊢
  unfold val_main_call3_v5 val_main_call3_v4 val_main_call3_v3 val_main_call3_v2 val_main_call3_v1 val_main_call3_v0 val_main_call3_cst val_main_call3_cst_0
  generalize val_main_v84 (F := Ideal) x0 x3 = p at e1 ⊢
  generalize val_main_v86 (F := Ideal) x0 x4 = q at e2 ⊢
  pointwise
  simp only [e1, e2, eg, Row.one_bits]
  rfl

/-- Whether expert 4 is a row's. -/
theorem pick_4 (t : Fin 168) (r : Fin 512) (d : Fin 1024) :
    val_main_v110 (F := Ideal) x1 x2 (ix3 t r d) = MoeRow.pick 4 (x1 (ix1 t)) (x2 (ix1 t)) r := by
  unfold val_main_v110 val_main_v98 val_main_v97 val_main_v96 val_main_v95 val_main_v94 val_main_v93 val_main_v92 val_main_c_3
    val_main_v6 val_main_v5 val_main_v4 val_main_v3 val_main_v2 val_main_v1
  pointwise
  rfl

/-- Expert 4's contribution to a row. -/
theorem part_4 (t : Fin 168) (r : Fin 512) (d : Fin 1024) :
    val_main_v111 (F := Ideal) x0 x1 x2 x3 x4 x5 (ix3 t r d) = MoeRow.pick 4 (x1 (ix1 t)) (x2 (ix1 t)) r
      * MoeRow.glu (fun k => x0 (ix2 ⟨t.val * 512 + r.val, by omega⟩ k)) (fun k f => x3 (ix3 4 k f)) (fun k f => x4 (ix3 4 k f)) (fun f k => x5 (ix3 4 f k)) d := by
  have e1 : ∀ f, val_main_v105 (F := Ideal) x0 x3 (ix3 t r f) = ∑ k : Fin 1024, x0 (ix2 ⟨t.val * 512 + r.val, by omega⟩ k) * x3 (ix3 4 k f) := fun f => by
    have h := tile_at x0 t r
    unfold val_main_v105 val_main_v100 val_main_v99
    generalize val_main_v0 (F := Ideal) x0 = y at h ⊢
    pointwise
    simp only [h]
  have e2 : ∀ f, val_main_v107 (F := Ideal) x0 x4 (ix3 t r f) = ∑ k : Fin 1024, x0 (ix2 ⟨t.val * 512 + r.val, by omega⟩ k) * x4 (ix3 4 k f) := fun f => by
    have h := tile_at x0 t r
    unfold val_main_v107 val_main_v102 val_main_v101
    generalize val_main_v0 (F := Ideal) x0 = y at h ⊢
    pointwise
    simp only [h]
  have eg := pick_4 x1 x2 t r d
  unfold val_main_v111 val_main_v109 val_main_v108 val_main_v106 val_main_v104 val_main_v103
  generalize val_main_v110 (F := Ideal) x1 x2 = g at eg ⊢
  unfold val_main_call4_v5 val_main_call4_v4 val_main_call4_v3 val_main_call4_v2 val_main_call4_v1 val_main_call4_v0 val_main_call4_cst val_main_call4_cst_0
  generalize val_main_v105 (F := Ideal) x0 x3 = p at e1 ⊢
  generalize val_main_v107 (F := Ideal) x0 x4 = q at e2 ⊢
  pointwise
  simp only [e1, e2, eg, Row.one_bits]
  rfl

/-- Whether expert 5 is a row's. -/
theorem pick_5 (t : Fin 168) (r : Fin 512) (d : Fin 1024) :
    val_main_v131 (F := Ideal) x1 x2 (ix3 t r d) = MoeRow.pick 5 (x1 (ix1 t)) (x2 (ix1 t)) r := by
  unfold val_main_v131 val_main_v119 val_main_v118 val_main_v117 val_main_v116 val_main_v115 val_main_v114 val_main_v113 val_main_c_4
    val_main_v6 val_main_v5 val_main_v4 val_main_v3 val_main_v2 val_main_v1
  pointwise
  rfl

/-- Expert 5's contribution to a row. -/
theorem part_5 (t : Fin 168) (r : Fin 512) (d : Fin 1024) :
    val_main_v132 (F := Ideal) x0 x1 x2 x3 x4 x5 (ix3 t r d) = MoeRow.pick 5 (x1 (ix1 t)) (x2 (ix1 t)) r
      * MoeRow.glu (fun k => x0 (ix2 ⟨t.val * 512 + r.val, by omega⟩ k)) (fun k f => x3 (ix3 5 k f)) (fun k f => x4 (ix3 5 k f)) (fun f k => x5 (ix3 5 f k)) d := by
  have e1 : ∀ f, val_main_v126 (F := Ideal) x0 x3 (ix3 t r f) = ∑ k : Fin 1024, x0 (ix2 ⟨t.val * 512 + r.val, by omega⟩ k) * x3 (ix3 5 k f) := fun f => by
    have h := tile_at x0 t r
    unfold val_main_v126 val_main_v121 val_main_v120
    generalize val_main_v0 (F := Ideal) x0 = y at h ⊢
    pointwise
    simp only [h]
  have e2 : ∀ f, val_main_v128 (F := Ideal) x0 x4 (ix3 t r f) = ∑ k : Fin 1024, x0 (ix2 ⟨t.val * 512 + r.val, by omega⟩ k) * x4 (ix3 5 k f) := fun f => by
    have h := tile_at x0 t r
    unfold val_main_v128 val_main_v123 val_main_v122
    generalize val_main_v0 (F := Ideal) x0 = y at h ⊢
    pointwise
    simp only [h]
  have eg := pick_5 x1 x2 t r d
  unfold val_main_v132 val_main_v130 val_main_v129 val_main_v127 val_main_v125 val_main_v124
  generalize val_main_v131 (F := Ideal) x1 x2 = g at eg ⊢
  unfold val_main_call5_v5 val_main_call5_v4 val_main_call5_v3 val_main_call5_v2 val_main_call5_v1 val_main_call5_v0 val_main_call5_cst val_main_call5_cst_0
  generalize val_main_v126 (F := Ideal) x0 x3 = p at e1 ⊢
  generalize val_main_v128 (F := Ideal) x0 x4 = q at e2 ⊢
  pointwise
  simp only [e1, e2, eg, Row.one_bits]
  rfl

/-- Whether expert 6 is a row's. -/
theorem pick_6 (t : Fin 168) (r : Fin 512) (d : Fin 1024) :
    val_main_v152 (F := Ideal) x1 x2 (ix3 t r d) = MoeRow.pick 6 (x1 (ix1 t)) (x2 (ix1 t)) r := by
  unfold val_main_v152 val_main_v140 val_main_v139 val_main_v138 val_main_v137 val_main_v136 val_main_v135 val_main_v134 val_main_c_5
    val_main_v6 val_main_v5 val_main_v4 val_main_v3 val_main_v2 val_main_v1
  pointwise
  rfl

/-- Expert 6's contribution to a row. -/
theorem part_6 (t : Fin 168) (r : Fin 512) (d : Fin 1024) :
    val_main_v153 (F := Ideal) x0 x1 x2 x3 x4 x5 (ix3 t r d) = MoeRow.pick 6 (x1 (ix1 t)) (x2 (ix1 t)) r
      * MoeRow.glu (fun k => x0 (ix2 ⟨t.val * 512 + r.val, by omega⟩ k)) (fun k f => x3 (ix3 6 k f)) (fun k f => x4 (ix3 6 k f)) (fun f k => x5 (ix3 6 f k)) d := by
  have e1 : ∀ f, val_main_v147 (F := Ideal) x0 x3 (ix3 t r f) = ∑ k : Fin 1024, x0 (ix2 ⟨t.val * 512 + r.val, by omega⟩ k) * x3 (ix3 6 k f) := fun f => by
    have h := tile_at x0 t r
    unfold val_main_v147 val_main_v142 val_main_v141
    generalize val_main_v0 (F := Ideal) x0 = y at h ⊢
    pointwise
    simp only [h]
  have e2 : ∀ f, val_main_v149 (F := Ideal) x0 x4 (ix3 t r f) = ∑ k : Fin 1024, x0 (ix2 ⟨t.val * 512 + r.val, by omega⟩ k) * x4 (ix3 6 k f) := fun f => by
    have h := tile_at x0 t r
    unfold val_main_v149 val_main_v144 val_main_v143
    generalize val_main_v0 (F := Ideal) x0 = y at h ⊢
    pointwise
    simp only [h]
  have eg := pick_6 x1 x2 t r d
  unfold val_main_v153 val_main_v151 val_main_v150 val_main_v148 val_main_v146 val_main_v145
  generalize val_main_v152 (F := Ideal) x1 x2 = g at eg ⊢
  unfold val_main_call6_v5 val_main_call6_v4 val_main_call6_v3 val_main_call6_v2 val_main_call6_v1 val_main_call6_v0 val_main_call6_cst val_main_call6_cst_0
  generalize val_main_v147 (F := Ideal) x0 x3 = p at e1 ⊢
  generalize val_main_v149 (F := Ideal) x0 x4 = q at e2 ⊢
  pointwise
  simp only [e1, e2, eg, Row.one_bits]
  rfl

/-- Whether expert 7 is a row's. -/
theorem pick_7 (t : Fin 168) (r : Fin 512) (d : Fin 1024) :
    val_main_v173 (F := Ideal) x1 x2 (ix3 t r d) = MoeRow.pick 7 (x1 (ix1 t)) (x2 (ix1 t)) r := by
  unfold val_main_v173 val_main_v161 val_main_v160 val_main_v159 val_main_v158 val_main_v157 val_main_v156 val_main_v155 val_main_c_6
    val_main_v6 val_main_v5 val_main_v4 val_main_v3 val_main_v2 val_main_v1
  pointwise
  rfl

/-- Expert 7's contribution to a row. -/
theorem part_7 (t : Fin 168) (r : Fin 512) (d : Fin 1024) :
    val_main_v174 (F := Ideal) x0 x1 x2 x3 x4 x5 (ix3 t r d) = MoeRow.pick 7 (x1 (ix1 t)) (x2 (ix1 t)) r
      * MoeRow.glu (fun k => x0 (ix2 ⟨t.val * 512 + r.val, by omega⟩ k)) (fun k f => x3 (ix3 7 k f)) (fun k f => x4 (ix3 7 k f)) (fun f k => x5 (ix3 7 f k)) d := by
  have e1 : ∀ f, val_main_v168 (F := Ideal) x0 x3 (ix3 t r f) = ∑ k : Fin 1024, x0 (ix2 ⟨t.val * 512 + r.val, by omega⟩ k) * x3 (ix3 7 k f) := fun f => by
    have h := tile_at x0 t r
    unfold val_main_v168 val_main_v163 val_main_v162
    generalize val_main_v0 (F := Ideal) x0 = y at h ⊢
    pointwise
    simp only [h]
  have e2 : ∀ f, val_main_v170 (F := Ideal) x0 x4 (ix3 t r f) = ∑ k : Fin 1024, x0 (ix2 ⟨t.val * 512 + r.val, by omega⟩ k) * x4 (ix3 7 k f) := fun f => by
    have h := tile_at x0 t r
    unfold val_main_v170 val_main_v165 val_main_v164
    generalize val_main_v0 (F := Ideal) x0 = y at h ⊢
    pointwise
    simp only [h]
  have eg := pick_7 x1 x2 t r d
  unfold val_main_v174 val_main_v172 val_main_v171 val_main_v169 val_main_v167 val_main_v166
  generalize val_main_v173 (F := Ideal) x1 x2 = g at eg ⊢
  unfold val_main_call7_v5 val_main_call7_v4 val_main_call7_v3 val_main_call7_v2 val_main_call7_v1 val_main_call7_v0 val_main_call7_cst val_main_call7_cst_0
  generalize val_main_v168 (F := Ideal) x0 x3 = p at e1 ⊢
  generalize val_main_v170 (F := Ideal) x0 x4 = q at e2 ⊢
  pointwise
  simp only [e1, e2, eg, Row.one_bits]
  rfl

/-- A row of the result. -/
theorem out_at (i : Fin 86016) (d : Fin 1024) (h : ∀ t, (x1 (ix1 t)).toNat < 8) :
    val_main_v176 (F := Ideal) x0 x1 x2 x3 x4 x5 (ix2 i d) = MoeRow.row (x2 (ix1 ⟨i.val / 512, by omega⟩)) ⟨i.val % 512, by omega⟩ (fun k => x0 (ix2 i k))
      (fun k f => x3 (ix3 ⟨_, h ⟨i.val / 512, by omega⟩⟩ k f)) (fun k f => x4 (ix3 ⟨_, h ⟨i.val / 512, by omega⟩⟩ k f))
      (fun f k => x5 (ix3 ⟨_, h ⟨i.val / 512, by omega⟩⟩ f k)) d := by
  have hi : i.val < 86016 := i.isLt
  obtain ⟨t, ht⟩ : ∃ t : Fin 168, t.val = i.val / 512 := ⟨⟨i.val / 512, by omega⟩, rfl⟩
  obtain ⟨r, hr⟩ : ∃ r : Fin 512, r.val = i.val % 512 := ⟨⟨i.val % 512, by omega⟩, rfl⟩
  have et : (⟨i.val / 512, by omega⟩ : Fin 168) = t := Fin.ext ht.symm
  have er : (⟨i.val % 512, by omega⟩ : Fin 512) = r := Fin.ext hr.symm
  have ei : (⟨t.val * 512 + r.val, by omega⟩ : Fin 86016) = i := Fin.ext (by change t.val * 512 + r.val = i.val; omega)
  have e0 : val_main_v176 (F := Ideal) x0 x1 x2 x3 x4 x5 (ix2 i d) = val_main_v175 (F := Ideal) x0 x1 x2 x3 x4 x5 (ix3 t r d) := by
    rw [val_main_v176_apply]
    refine congrArg (val_main_v175 (F := Ideal) x0 x1 x2 x3 x4 x5) (funext fun a => ?_)
    have hd : d.val < 1024 := d.isLt
    fin_cases a
    · refine Fin.ext ?_
      change (i.val * 1024 + d.val) / 524288 = t.val
      omega
    · refine Fin.ext ?_
      change (i.val * 1024 + d.val) / 1024 % 512 = r.val
      omega
    · refine Fin.ext ?_
      change (i.val * 1024 + d.val) % 1024 = d.val
      omega
  rw [e0]
  simp only [et, er]
  rw [← MoeRow.sum_eq (x1 (ix1 t)) (x2 (ix1 t)) r (h t) _ (fun k => x0 (ix2 i k)) (fun e k f => x3 (ix3 e k f)) (fun e k f => x4 (ix3 e k f))
    (fun e f k => x5 (ix3 e f k)) d (fun e => rfl)]
  have p0 := part_0 x0 x1 x2 x3 x4 x5 t r d
  have p1 := part_1 x0 x1 x2 x3 x4 x5 t r d
  have p2 := part_2 x0 x1 x2 x3 x4 x5 t r d
  have p3 := part_3 x0 x1 x2 x3 x4 x5 t r d
  have p4 := part_4 x0 x1 x2 x3 x4 x5 t r d
  have p5 := part_5 x0 x1 x2 x3 x4 x5 t r d
  have p6 := part_6 x0 x1 x2 x3 x4 x5 t r d
  have p7 := part_7 x0 x1 x2 x3 x4 x5 t r d
  rw [ei] at p0 p1 p2 p3 p4 p5 p6 p7
  rw [val_main_v175_apply, p7]
  rw [val_main_v154_apply, p6]
  rw [val_main_v133_apply, p5]
  rw [val_main_v112_apply, p4]
  rw [val_main_v91_apply, p3]
  rw [val_main_v70_apply, p2]
  rw [val_main_v49_apply, p1]
  rw [val_main_v28_apply, p0]
  rw [val_main_v7_apply, val_main_cst_apply]
  change Ideal.ofBits FTy.f32 0x00000000#32 + _ + _ + _ + _ + _ + _ + _ + _ = _
  rw [Ideal.ofBits_zero]
  rfl

end Cert.MoeRef
end
-- ==== Proof.MoeArray.lean ====
/-
  The experts' call's array is the reference's.
-/
module

public import proofs.«01_k».proof.Proof.MoeBlock
public import proofs.«01_k».proof.Proof.MoeRef
public import proofs.«01_k».proof.Proof.MoeFrame
public import Idealize.ShloMosaic.Lib.Pipeline.ValueKit
public import Idealize.ShloMosaic.Lib.StableHlo.ReadAt

@[expose] public section

set_option maxRecDepth 16384

noncomputable section

namespace Cert.MoeArray

open Idealize.ShloMosaic Idealize.ShloMosaic.TcCoe Cert.Kernel5Ideal Cert.Kernel5Ideal.Gen Cert.MoeFrame

/-! ## The arrays the region finds -/

section Host

variable (m : (ℓ : Loc nD τ sig) → Buf (Elt Ideal) ℓ) (c : Dev nD)

/-- The six arguments, as arrays. -/
abbrev xs : S86016x1024.Idx → EReal := m ((c : Thread nD τ).loc main_arg0)
abbrev te : S168.Idx → BitVec 32 := m ((c : Thread nD τ).loc main_arg1)
abbrev tr : S168.Idx → BitVec 32 := m ((c : Thread nD τ).loc main_arg2)
abbrev w1 : S8x1024x1408.Idx → EReal := m ((c : Thread nD τ).loc main_arg3)
abbrev w3 : S8x1024x1408.Idx → EReal := m ((c : Thread nD τ).loc main_arg4)
abbrev w2 : S8x1408x1024.Idx → EReal := m ((c : Thread nD τ).loc main_arg5)

/-- The joined first weights' array. -/
theorem w13_eq : (W m c main_v1 : S8x1024x2816.Idx → EReal) = concatenate S8x1024x2816 2
    [⟨S8x1024x1408, w1 m c⟩, ⟨S8x1024x1408, w3 m c⟩] concatenates_S8x1024x1408_S8x1024x1408_S8x1024x2816_d2 := by
  unfold W
  after_reads_simp
  rfl
/-- Its first half is the first weights. -/
theorem w13_lo (e : Fin 8) (k : Fin 1024) (f : Fin 1408) : (W m c main_v1 : S8x1024x2816.Idx → EReal) (ix3 e k ⟨f.val, by omega⟩) = w1 m c (ix3 e k f) := by
  rw [w13_eq]
  generalize w1 m c = p
  generalize w3 m c = q
  have hf : f.val < 1408 := f.isLt
  pointwise
/-- Its second half is the other weights. -/
theorem w13_hi (e : Fin 8) (k : Fin 1024) (f : Fin 1408) : (W m c main_v1 : S8x1024x2816.Idx → EReal) (ix3 e k ⟨1408 + f.val, by omega⟩) = w3 m c (ix3 e k f) := by
  rw [w13_eq]
  generalize w1 m c = p
  generalize w3 m c = q
  have hf : f.val < 1408 := f.isLt
  pointwise
/-- The last weights' array. -/
theorem w2_at (e : Fin 8) (f : Fin 1408) (k : Fin 1024) : (W m c main_v2 : S8x1408x1024.Idx → EReal) (ix3 e f k) = w2 m c (ix3 e f k) := by
  unfold W
  after_reads_at

end Host

/-! ## The blocks -/

variable (a : (pcfg0 (F := Ideal)).Adm) (V : (c : Dev nD) → (b : Ref sig .tc) → Buf (Elt Ideal) ((c : Thread nD τ).loc b)) (c : Dev nD)

/-- A grid point's coordinate. -/
theorem crd_val : ∀ t : Fin grid0.N, (grid0.coords t 0).val = t.val := by decide +kernel

/-- Where a grid point's rows lie. -/
theorem at0 (t : Fin (cfg0 a).N) : (win0 a 0).index t = ![t.val, 0] :=
  (by decide +kernel : ∀ t : Fin grid0.N, cc0_transform_0 (grid0.coords t) = ![t.val, 0]) t
/-- Where a grid point's output block lies. -/
theorem at3 (t : Fin (cfg0 a).N) : (win0 a 3).index t = ![t.val, 0] :=
  (by decide +kernel : ∀ t : Fin grid0.N, cc0_transform_3 (grid0.coords t) = ![t.val, 0]) t
/-- Which expert's first weights a grid point takes. -/
theorem at1 (t : Fin (cfg0 a).N) : (win0 a 1).index t = ![((a.1 0 : S168.Idx → BitVec 32) (ix1 (⟨t.val, t.isLt⟩ : Fin 168))).toNat, 0, 0] :=
  (trans1_eq a.1 (grid0.coords t)).trans (by rw [show (grid0.coords t 0 : Fin 168) = ⟨t.val, t.isLt⟩ from Fin.ext (crd_val t)]; rfl)
/-- Which expert's last weights a grid point takes. -/
theorem at2 (t : Fin (cfg0 a).N) : (win0 a 2).index t = ![((a.1 0 : S168.Idx → BitVec 32) (ix1 (⟨t.val, t.isLt⟩ : Fin 168))).toNat, 0, 0] :=
  (trans2_eq a.1 (grid0.coords t)).trans (by rw [show (grid0.coords t 0 : Fin 168) = ⟨t.val, t.isLt⟩ from Fin.ext (crd_val t)]; rfl)

/-- A grid point's rows. -/
theorem blk0 (t : Fin (cfg0 a).N) (r : Fin 512) (k : Fin 1024) (i : Fin 86016) (hi : t.val * 512 + r.val = i.val) :
    iblk a V c 0 t (ix2 r k) = V c main_arg0 (ix2 i k) := by
  show V c main_arg0 (((win0 a 0).blk t).view.emb (ix2 r k)) = _
  refine congrArg (V c main_arg0) ?_
  blk_ext [at0]
  · exact (congrArg (· * 512 + r.val) (congrFun (at0 a t) 0)).trans hi
  · exact (congrArg (· * 1024 + k.val) (congrFun (at0 a t) 1)).trans (by simp)

/-- A grid point's first weights. -/
theorem blk1 (t : Fin (cfg0 a).N) (k : Fin 1024) (f : Fin 2816) (e : Fin 8) (he : ((a.1 0 : S168.Idx → BitVec 32) (ix1 (⟨t.val, t.isLt⟩ : Fin 168))).toNat = e.val) :
    iblk a V c 1 t (ix3 0 k f) = V c main_v1 (ix3 e k f) := by
  show V c main_v1 (((win0 a 1).blk t).view.emb (ix3 0 k f)) = _
  refine congrArg (V c main_v1) ?_
  blk_ext [at1]
  · exact (congrArg (· + 0) (congrFun (at1 a t) 0)).trans he
  · exact (congrArg (· * 1024 + k.val) (congrFun (at1 a t) 1)).trans (by simp)
  · exact (congrArg (· * 2816 + f.val) (congrFun (at1 a t) 2)).trans (by simp)

/-- A grid point's last weights. -/
theorem blk2 (t : Fin (cfg0 a).N) (f : Fin 1408) (k : Fin 1024) (e : Fin 8) (he : ((a.1 0 : S168.Idx → BitVec 32) (ix1 (⟨t.val, t.isLt⟩ : Fin 168))).toNat = e.val) :
    iblk a V c 2 t (ix3 0 f k) = V c main_v2 (ix3 e f k) := by
  show V c main_v2 (((win0 a 2).blk t).view.emb (ix3 0 f k)) = _
  refine congrArg (V c main_v2) ?_
  blk_ext [at2]
  · exact (congrArg (· + 0) (congrFun (at2 a t) 0)).trans he
  · exact (congrArg (· * 1408 + f.val) (congrFun (at2 a t) 1)).trans (by simp)
  · exact (congrArg (· * 1024 + k.val) (congrFun (at2 a t) 2)).trans (by simp)

/-! ## The result -/

/-- The output's blocks cover it, and each is stored back. -/
theorem covers : (win0 a 3).Covers := by
  refine ⟨fun (b : Fin 2) => by fin_cases b <;> exact Nat.succ_pos _, fun β => ?_⟩
  have h0 : (β (0 : Fin 2)).val < 168 := lt_of_lt_of_eq (β (0 : Fin 2)).isLt (show (86016 + 512 - 1) / 512 = 168 by norm_num)
  have h1 : (β (1 : Fin 2)).val < 1 := lt_of_lt_of_eq (β (1 : Fin 2)).isLt (show (1024 + 1024 - 1) / 1024 = 1 by norm_num)
  refine ⟨(⟨(β (0 : Fin 2)).val, h0⟩ : Fin grid0.N), ?_, fun (b : Fin 2) => ⟨?_, ?_⟩⟩
  · rw [Pipeline.Window.flush_eq_flushOf]
    exact (by decide +kernel : ∀ t : Fin grid0.N, Pipeline.Window.flushOf grid0 true cc0_transform_3 t = true) _
  · fin_cases b
    · exact congrFun (at3 a _) 0
    · refine (congrFun (at3 a _) 1).trans ?_
      change 0 = (β (1 : Fin 2)).val
      omega
  · refine .inl ?_
    rfl

/-- The array the kernel leaves, at tables that are its arguments and in range, is the reference's. -/
theorem final (m : (ℓ : Loc nD τ sig) → Buf (Elt Ideal) ℓ) (ht : ∀ t, (te m c (ix1 t)).toNat < 8) (hr : ∀ t, 0 ≤ (tr m c (ix1 t)).toInt)
    (h0 : (a.1 0 : S168.Idx → BitVec 32) = te m c) (h1 : (a.1 1 : S168.Idx → BitVec 32) = tr m c) :
    (dats a (W m) 0 c).arrAt (3 : Fin 4) (cfg0 a).N
      = Reference5Ideal.Read.val_main_v176 (F := Ideal) (xs m c) (te m c) (tr m c) (w1 m c) (w3 m c) (w2 m c) := by
  refine (dats a (W m) 0 c).arrAt_eq_of_covers (3 : Fin 4) _ (covers a) fun t hf y => ?_
  blk_simp
  rw [after0_3]
  have hlt : t.val < 168 := t.isLt
  idx_vars y
  have e : ((View.whole main_v3).slice ((win0 a 3).rect t)).emb (ix2 y0 y1)
      = (ix2 (⟨t.val * 512 + y0.val, by omega⟩ : Fin 86016) y1 : S86016x1024.Idx) := by
    blk_ext [at3]
    · exact (congrArg (· * 512 + y0.val) (congrFun (at3 a t) 0))
    · exact (congrArg (· * 1024 + y1.val) (congrFun (at3 a t) 1)).trans (by simp)
  have ew : (MoeBody.word (a.1 1) (crd a t) : BitVec 32) = tr m c (ix1 ⟨t.val, hlt⟩) :=
    ((word_eq (a.1 1) (crd a t)).trans (congrFun h1 _)).trans (congrArg (fun i : Fin 168 => tr m c (ix1 i)) (Fin.ext (crd_val t)))
  rw [e]
  refine Eq.trans ?_ (MoeRef.out_at _ _ _ _ _ _ _ _ ht).symm
  unfold oblk
  rw [ew]
  refine (MoeBlock.out_at _ (hr _) _ _ _ _ _).trans ?_
  have et : (⟨(t.val * 512 + y0.val) / 512, by omega⟩ : Fin 168) = ⟨t.val, hlt⟩ := Fin.ext (by change (t.val * 512 + y0.val) / 512 = t.val; omega)
  have er : (⟨(t.val * 512 + y0.val) % 512, by omega⟩ : Fin 512) = y0 := Fin.ext (by change (t.val * 512 + y0.val) % 512 = y0.val; omega)
  have hx : (fun k => iblk a (W m) c 0 t (ix2 y0 k)) = fun k => xs m c (ix2 ⟨t.val * 512 + y0.val, by omega⟩ k) :=
    funext fun k => (blk0 a (W m) c t y0 k _ rfl).trans (congrFun (W_main_arg0 m c) _)
  have he : ((a.1 0 : S168.Idx → BitVec 32) (ix1 (⟨t.val, t.isLt⟩ : Fin 168))).toNat = (⟨_, ht ⟨t.val, hlt⟩⟩ : Fin 8).val := by rw [h0]
  have e1 : (fun k (f : Fin 1408) => iblk a (W m) c 1 t (ix3 0 k ⟨f.val, by omega⟩)) = fun k f => w1 m c (ix3 ⟨_, ht ⟨t.val, hlt⟩⟩ k f) :=
    funext fun k => funext fun f => (blk1 a (W m) c t k _ _ he).trans (w13_lo m c _ k f)
  have e3 : (fun k (f : Fin 1408) => iblk a (W m) c 1 t (ix3 0 k ⟨1408 + f.val, by omega⟩)) = fun k f => w3 m c (ix3 ⟨_, ht ⟨t.val, hlt⟩⟩ k f) :=
    funext fun k => funext fun f => (blk1 a (W m) c t k _ _ he).trans (w13_hi m c _ k f)
  have e2 : (fun f k => iblk a (W m) c 2 t (ix3 0 f k)) = fun f k => w2 m c (ix3 ⟨_, ht ⟨t.val, hlt⟩⟩ f k) :=
    funext fun f => funext fun k => (blk2 a (W m) c t f k _ he).trans (w2_at m c _ f k)
  simp only [et, er]
  exact (by rw [← hx, ← e1, ← e3, ← e2])

end Cert.MoeArray
end
-- ==== Proof.MoePre.lean ====
/-
  The experts' precondition read: every tile's expert is one of the eight, and no tile has a negative number of rows.
-/
module

public import proofs.«01_k».proof.Proof.Gen.Pre_experts
public import Idealize.ShloMosaic.Lib.ReduceAll
public import Idealize.ShloMosaic.Lib.Pipeline.ValueKit

@[expose] public section

noncomputable section

namespace Cert.MoePre

open Cert.Pre_experts
open Idealize.ShloMosaic

variable {F : FTy → Type} [FloatOps F]

instance : Subsingleton S_.Idx := ⟨fun a b => funext fun i => i.elim0⟩

/-- A comparison that holds. -/
theorem of_bit {b : Bool} (h : BitVec.ofBool b = 1#1) : b = true := by revert h; cases b <;> simp

/-- A word from zero up to eight is below eight as a number. -/
theorem toNat_lt (w : BitVec 32) (h0 : (0#32).sle w = true) (h8 : w.slt 8#32 = true) : w.toNat < 8 := by
  rw [BitVec.sle_iff_toInt_le] at h0
  rw [BitVec.slt_iff_toInt_lt] at h8
  have e0 : (0#32).toInt = 0 := by decide
  have e8 : (8#32).toInt = 8 := by decide
  rw [e0, BitVec.toInt_eq_toNat_cond] at h0
  rw [e8, BitVec.toInt_eq_toNat_cond] at h8
  have := w.isLt
  split at h0 <;> omega

/-- Under the precondition every tile's expert is below eight and no tile has a negative number of rows. -/
theorem ranges [Facts] (x0 : FVec F S86016x1024 .f32) (x1 x2 : IVec S168 32) (x3 x4 : FVec F S8x1024x1408 .f32) (x5 : FVec F S8x1408x1024 .f32)
    (h : fn x0 x1 x2 x3 x4 x5 = fun _ => 1#1) : (∀ t, (x1 t).toNat < 8) ∧ ∀ t, 0 ≤ (x2 t).toInt := by
  have hz : S_.Idx := fun i => i.elim0
  obtain ⟨h1, h2⟩ := IntOp.andi_eq_one.1 (congrFun h hz)
  refine ⟨fun t => ?_, fun t => ?_⟩
  · obtain ⟨ha, hb⟩ := IntOp.andi_eq_one.1 (Host.reduce_andi_all _ _ _ _ hz h1 t)
    exact toNat_lt _ (of_bit ha) (of_bit hb)
  · have := of_bit (Host.reduce_andi_all _ _ _ _ hz h2 t)
    exact BitVec.sle_iff_toInt_le.1 this

end Cert.MoePre
end
-- ==== Proof.lean ====
/- The certificate: the latent attention, the dense feed-forward, the first projection, the merge and the experts each leave what their plain form leaves. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Launch
public import proofs.«01_k».proof.Proof.Gen.Kernel5Ideal.Launch
public import proofs.«01_k».proof.Proof.Gen.Kernel5Ideal.Skeleton
public import proofs.«01_k».proof.Proof.Gen.Reference5Ideal.Run
public import proofs.«01_k».proof.Proof.Gen.Reference5Ideal.Read
public import proofs.«01_k».proof.Proof.Gen.Pre_experts
public import proofs.«01_k».proof.Proof.Array
public import proofs.«01_k».proof.Proof.Finite
public import proofs.«01_k».proof.Proof.FfnArray
public import proofs.«01_k».proof.Proof.ProjArray
public import proofs.«01_k».proof.Proof.MergeArray
public import proofs.«01_k».proof.Proof.MoeArray
public import proofs.«01_k».proof.Proof.MoePre
public import Idealize.ShloMosaic.Adequacy
public import Idealize.ShloMosaic.Init
public import Idealize.ShloMosaic.Lib.StableHlo.RunHlo
public import Idealize.ShloMosaic.Lib.Quiescent

@[expose] public section

noncomputable section

namespace Cert.Proof

open Idealize.ShloMosaic Idealize.SL.Sem

/-- The reference runs, keeps its arguments and leaves every counter at zero. -/
theorem frame_ReferenceIdeal : @Cert.quiescent_ReferenceIdeal Cert.ReferenceIdeal.Gen.facts := by
  intro m g _
  exact θ_run_mono (Cert.ReferenceIdeal.Value.run m g) fun r h => ⟨fun c => (h c).2, sem_eq_zero_of_no_sems rfl r.2⟩

/-- The two programs' results are equal, whatever real queries and keys they are given. -/
theorem equal : @Cert.algebraic_KernelIdeal_ReferenceIdeal_pre_finite Cert.KernelIdeal.Gen.facts Cert.ReferenceIdeal.Gen.facts Cert.Pre_finite.Gen.facts := by
  intro m g m' g' hpre hagree
  refine ⟨fun c => (Cert.KernelIdeal.Gen.dats m 0 c).arrAt 5 Cert.KernelIdeal.cfg0.N, Cert.KernelIdeal.Value.run_blocks m g, ?_⟩
  refine θ_run_mono (Cert.ReferenceIdeal.Value.run m' g') fun r h c => ⟨?_, (h c).2⟩
  obtain ⟨a0, a1, a2, a3, a4⟩ := hagree c
  obtain ⟨h0, h1, h3⟩ := Cert.LatentFinite.reals _ _ _ _ _ (hpre c)
  rw [(h c).1, Cert.ReferenceIdeal.Read.val_main_v25_eq, a0, a1, a2, a3, a4]
  exact (Cert.LatentArray.final m c h0 h1 h3).symm

/-- The dense feed-forward's reference runs, keeps its arguments and leaves every counter at zero. -/
theorem frame_Reference2Ideal : @Cert.quiescent_Reference2Ideal Cert.Reference2Ideal.Gen.facts := by
  intro m g _
  exact θ_run_mono (Cert.Reference2Ideal.Value.run m g) fun r h => ⟨fun c => (h c).2, sem_eq_zero_of_no_sems rfl r.2⟩

/-- The dense feed-forward's two programs have equal results, whatever they are given. -/
theorem equal2 : @Cert.algebraic_Kernel2Ideal_Reference2Ideal Cert.Kernel2Ideal.Gen.facts Cert.Reference2Ideal.Gen.facts := by
  intro m g m' g' _ hagree
  refine ⟨fun c => (Cert.Kernel2Ideal.Gen.dats m 0 c).arrAt 6 Cert.Kernel2Ideal.cfg0.N, Cert.Kernel2Ideal.Value.run_blocks m g, ?_⟩
  refine θ_run_mono (Cert.Reference2Ideal.Value.run m' g') fun r h c => ⟨?_, (h c).2⟩
  obtain ⟨a0, a1, a2, a3, a4, a5, a6⟩ := hagree c
  rw [(h c).1, Cert.Reference2Ideal.Read.val_main_v72_eq, a0, a1, a2, a3, a4, a5, a6]
  exact (Cert.FfnArray.final m c).symm

/-- The first projection's reference runs, keeps its arguments and leaves every counter at zero. -/
theorem frame_Reference3Ideal : @Cert.quiescent_Reference3Ideal Cert.Reference3Ideal.Gen.facts := by
  intro m g _
  exact θ_run_mono (Cert.Reference3Ideal.Value.run m g) fun r h => ⟨fun c => (h c).2, sem_eq_zero_of_no_sems rfl r.2⟩

/-- The first projection's two programs have equal results, whatever they are given. -/
theorem equal3 : @Cert.algebraic_Kernel3Ideal_Reference3Ideal Cert.Kernel3Ideal.Gen.facts Cert.Reference3Ideal.Gen.facts := by
  intro m g m' g' _ hagree
  refine ⟨_, Cert.ProjArray.run m g, ?_⟩
  refine θ_run_mono (Cert.Reference3Ideal.Value.run m' g') fun r h c => ⟨?_, (h c).2⟩
  obtain ⟨a0, a1, a2, a3, a4⟩ := hagree c
  rw [(h c).1, Cert.Reference3Ideal.Read.val_main_v58_eq, a0, a1, a2, a3, a4]
  exact (Cert.ProjArray.final m c).symm

/-- The merge's reference runs, keeps its arguments and leaves every counter at zero. -/
theorem frame_Reference4Ideal : @Cert.quiescent_Reference4Ideal Cert.Reference4Ideal.Gen.facts := by
  intro m g _
  exact θ_run_mono (Cert.Reference4Ideal.Value.run m g) fun r h => ⟨fun c => (h c).2, sem_eq_zero_of_no_sems rfl r.2⟩

/-- The merge's two programs have equal results, whatever they are given. -/
theorem equal4 : @Cert.algebraic_Kernel4Ideal_Reference4Ideal Cert.Kernel4Ideal.Gen.facts Cert.Reference4Ideal.Gen.facts := by
  intro m g m' g' _ hagree
  refine ⟨fun c => (Cert.Kernel4Ideal.Gen.dats m 0 c).arrAt 15 Cert.Kernel4Ideal.cfg0.N, Cert.Kernel4Ideal.Value.run_blocks m g, ?_⟩
  refine θ_run_mono (Cert.Reference4Ideal.Value.run m' g') fun r h c => ⟨?_, (h c).2⟩
  obtain ⟨a0, a1, a2, a3, a4, a5, a6, a7, a8, a9, a10, a11, a12, a13, a14⟩ := hagree c
  rw [(h c).1, Cert.Reference4Ideal.Read.val_main_v68_eq, a0, a1, a2, a3, a4, a5, a6, a7, a8, a9, a10, a11, a12, a13, a14]
  exact (Cert.MergeArray.final m c).symm

/-- The kernel's body table is the ideal reading's: the same body at each grid point. -/
theorem defs₀_Kernel5 : Cert.Kernel5.defs₀ (F := Bits) = Cert.Kernel5Ideal.defs₀ (F := Bits) := by
  unfold Cert.Kernel5.defs₀ Cert.Kernel5Ideal.defs₀
  refine congrArg Defs.onTc (funext fun l => funext fun p => ?_)
  match l, p with
  | 0, (t, s) => rfl
  | ⟨_ + 1, h⟩, _ => exact absurd h (Nat.not_lt.2 (Nat.le_add_left _ _))

/-- And so is its table of bodies and regions. -/
theorem defs_Kernel5 : Cert.Kernel5.defs (F := Bits) = Cert.Kernel5Ideal.defs (F := Bits) :=
  congrArg (Pipeline.defs (Cert.Kernel5Ideal.pcfgs (F := Bits))) defs₀_Kernel5

/-- The experts' kernel runs under its precondition, keeps its arguments and leaves every counter at zero. -/
theorem frame_Kernel5 : @Cert.quiescent_Kernel5 Cert.Kernel5.Gen.facts Cert.Pre_experts.Gen.facts := by
  intro m g hpre
  obtain ⟨ht, hr⟩ := Cert.MoePre.ranges (F := Bits) _ _ _ _ _ _ (hpre 0)
  rw [defs_Kernel5]
  exact Cert.MoeFrame.frame (F := Bits) m g (fun t => ht _) (fun t => hr _)

/-- So does its ideal reading. -/
theorem frame_Kernel5Ideal : @Cert.quiescent_Kernel5Ideal Cert.Kernel5Ideal.Gen.facts Cert.Pre_experts.Gen.facts := by
  intro m g hpre
  obtain ⟨ht, hr⟩ := Cert.MoePre.ranges (F := Ideal) _ _ _ _ _ _ (hpre 0)
  exact Cert.MoeFrame.frame (F := Ideal) m g (fun t => ht _) (fun t => hr _)

/-- The experts' reference runs, keeps its arguments and leaves every counter at zero. -/
theorem frame_Reference5Ideal : @Cert.quiescent_Reference5Ideal Cert.Reference5Ideal.Gen.facts := by
  intro m g _
  exact θ_run_mono (Cert.Reference5Ideal.Value.run m g) fun r h => ⟨fun c => (h c).2, sem_eq_zero_of_no_sems rfl r.2⟩

/-- The reference's array, from contents that are the kernel's arguments, is the kernel's. -/
theorem value5 (a : (Cert.Kernel5Ideal.pcfg0 (F := Ideal)).Adm) (m : (ℓ : Loc Cert.Kernel5Ideal.nD Cert.Kernel5Ideal.τ Cert.Kernel5Ideal.sig) → Buf (Elt Ideal) ℓ) (V : Valuation Cert.Reference5Ideal.τ Cert.Reference5Ideal.sig (Elt Ideal))
    (ht : ∀ t, (Cert.MoeArray.te m 0 (ix1 t)).toNat < 8) (hr : ∀ t, 0 ≤ (Cert.MoeArray.tr m 0 (ix1 t)).toInt)
    (h0 : (a.1 0 : Cert.Kernel5Ideal.S168.Idx → BitVec 32) = Cert.MoeArray.te m 0) (h1 : (a.1 1 : Cert.Kernel5Ideal.S168.Idx → BitVec 32) = Cert.MoeArray.tr m 0)
    (e0 : V (Proc.devRef .tc Cert.Reference5Ideal.main_arg0) = m (((0 : Dev Cert.Kernel5Ideal.nD).tc : Thread Cert.Kernel5Ideal.nD Cert.Kernel5Ideal.τ).loc Cert.Kernel5Ideal.main_arg0)) (e1 : V (Proc.devRef .tc Cert.Reference5Ideal.main_arg1) = m (((0 : Dev Cert.Kernel5Ideal.nD).tc : Thread Cert.Kernel5Ideal.nD Cert.Kernel5Ideal.τ).loc Cert.Kernel5Ideal.main_arg1)) (e2 : V (Proc.devRef .tc Cert.Reference5Ideal.main_arg2) = m (((0 : Dev Cert.Kernel5Ideal.nD).tc : Thread Cert.Kernel5Ideal.nD Cert.Kernel5Ideal.τ).loc Cert.Kernel5Ideal.main_arg2)) (e3 : V (Proc.devRef .tc Cert.Reference5Ideal.main_arg3) = m (((0 : Dev Cert.Kernel5Ideal.nD).tc : Thread Cert.Kernel5Ideal.nD Cert.Kernel5Ideal.τ).loc Cert.Kernel5Ideal.main_arg3)) (e4 : V (Proc.devRef .tc Cert.Reference5Ideal.main_arg4) = m (((0 : Dev Cert.Kernel5Ideal.nD).tc : Thread Cert.Kernel5Ideal.nD Cert.Kernel5Ideal.τ).loc Cert.Kernel5Ideal.main_arg4)) (e5 : V (Proc.devRef .tc Cert.Reference5Ideal.main_arg5) = m (((0 : Dev Cert.Kernel5Ideal.nD).tc : Thread Cert.Kernel5Ideal.nD Cert.Kernel5Ideal.τ).loc Cert.Kernel5Ideal.main_arg5)) :
    shapeCast Cert.Reference5Ideal.S86016x1024 (Cert.Reference5Ideal.Value.res_main_v175 V) Cert.Reference5Ideal.Gen.shapeCasts_S168x512x1024_S86016x1024 = (Cert.MoeFrame.dats a (Cert.MoeFrame.W m) 0 0).arrAt (3 : Fin 4) (Cert.Kernel5Ideal.cfg0 a).N := by
  refine (Cert.Reference5Ideal.Read.val_main_v176_eq V).trans ?_
  rw [e0, e1, e2, e3, e4, e5]
  exact (Cert.MoeArray.final a 0 m ht hr h0 h1).symm

/-- The experts' two programs have equal results, whatever they are given under the precondition. -/
theorem equal5 : @Cert.algebraic_Kernel5Ideal_Reference5Ideal Cert.Kernel5Ideal.Gen.facts Cert.Reference5Ideal.Gen.facts Cert.Pre_experts.Gen.facts := by
  intro m g m' g' hpre hagree
  obtain ⟨ht, hr⟩ := Cert.MoePre.ranges (F := Ideal) _ _ _ _ _ _ (hpre 0)
  obtain ⟨a, ha, hrun⟩ := Cert.MoeFrame.run_main (F := Ideal) m g (fun t => ht _) (fun t => hr _)
  refine ⟨fun c => (Cert.MoeFrame.dats a (Cert.MoeFrame.W m) 0 c).arrAt (3 : Fin 4) (Cert.Kernel5Ideal.cfg0 a).N, θ_run_mono hrun fun r h c => h.1 c, ?_⟩
  refine θ_run_mono (Cert.Reference5Ideal.Value.run m' g') fun r h c => ⟨?_, (h c).2⟩
  obtain rfl : c = 0 := Subsingleton.elim _ _
  obtain ⟨a0, a1, a2, a3, a4, a5⟩ := hagree 0
  exact (h 0).1.trans (value5 a m (StableHlo.launchContents m' 0) (fun t => ht _) (fun t => hr _) (congrFun ha 0) (congrFun ha 1) a0 a1 a2 a3 a4 a5)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_experts.Gen.facts,
  fun m g _ => Cert.Kernel.Gen.frame m g, fun m g _ => Cert.KernelIdeal.Gen.frame m g, fun m g _ => Cert.KernelIdeal.Gen.frame m g,
  frame_ReferenceIdeal, fun m g _ => frame_ReferenceIdeal m g trivial,
  fun m g _ => Cert.Kernel2.Gen.frame m g, fun m g _ => Cert.Kernel2Ideal.Gen.frame m g, frame_Reference2Ideal,
  fun m g _ => Cert.Kernel3.Gen.frame m g, fun m g _ => Cert.Kernel3Ideal.Gen.frame m g, frame_Reference3Ideal,
  fun m g _ => Cert.Kernel4.Gen.frame m g, fun m g _ => Cert.Kernel4Ideal.Gen.frame m g, frame_Reference4Ideal,
  frame_Kernel5, frame_Kernel5Ideal, frame_Reference5Ideal, fun m g _ => frame_Reference5Ideal m g trivial,
  trivial, equal, trivial, equal2, trivial, equal3, trivial, equal4, trivial, equal5⟩

end Cert.Proof

end
